-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_in_vocabulary [hPre_targets_in_vocabulary : Cert.Pre_targets_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_in_vocabulary [hPre_targets_in_vocabulary : Cert.Pre_targets_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_targets_in_vocabulary [hKernelIdeal : Cert.KernelIdeal.Facts] [hPre_targets_in_vocabulary : Cert.Pre_targets_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_in_vocabulary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_targets_in_vocabulary [hReferenceIdeal : Cert.ReferenceIdeal.Facts] [hPre_targets_in_vocabulary : Cert.Pre_targets_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_targets_in_vocabulary [hKernelIdeal : Cert.KernelIdeal.Facts] [hReferenceIdeal : Cert.ReferenceIdeal.Facts] [hPre_targets_in_vocabulary : Cert.Pre_targets_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_in_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_v117) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_targets_in_vocabulary : Cert.Pre_targets_in_vocabulary.Facts),
    quiescent_Kernel (hKernel := hKernel)
    ∧ quiescent_KernelIdeal (hKernelIdeal := hKernelIdeal)
    ∧ quiescent_KernelIdeal_pre_targets_in_vocabulary (hKernelIdeal := hKernelIdeal) (hPre_targets_in_vocabulary := hPre_targets_in_vocabulary)
    ∧ quiescent_ReferenceIdeal (hReferenceIdeal := hReferenceIdeal)
    ∧ quiescent_ReferenceIdeal_pre_targets_in_vocabulary (hReferenceIdeal := hReferenceIdeal) (hPre_targets_in_vocabulary := hPre_targets_in_vocabulary)
    ∧ preserves_Kernel_KernelIdeal
    ∧ algebraic_KernelIdeal_ReferenceIdeal_pre_targets_in_vocabulary (hKernelIdeal := hKernelIdeal) (hReferenceIdeal := hReferenceIdeal) (hPre_targets_in_vocabulary := hPre_targets_in_vocabulary)
-- ==== Pre_targets_in_vocabulary.lean ====
abbrev S6x512x2560 : Shape := ⟨3, ![6, 512, 2560]⟩
abbrev S8192x2560 : Shape := ⟨2, ![8192, 2560]⟩
abbrev S8192 : Shape := ⟨1, ![8192]⟩
abbrev S24576x2560 : Shape := ⟨2, ![24576, 2560]⟩
abbrev S24576 : Shape := ⟨1, ![24576]⟩
abbrev S69632x1280 : Shape := ⟨2, ![69632, 1280]⟩
abbrev S69632x20 : Shape := ⟨2, ![69632, 20]⟩
abbrev S6x512 : Shape := ⟨2, ![6, 512]⟩
abbrev S_ : Shape := ⟨0, ![]⟩

class Facts : Prop where
  bcast_S_S6x512 : S_.BroadcastsInDim S6x512 (![] : Fin 0 → Fin S6x512.rank)
  reducesTo_S6x512_S_d0_1 : S6x512.ReducesTo [0, 1] S_
  h_S_ : 0 < S_.numel

variable [Facts]

def fn {F : FTy → Type} [FloatOps F] (main_arg0 : FVec F S6x512x2560 .bf16) (main_arg1 : FVec F S8192x2560 .fp8e4m3) (main_arg2 : FVec F S8192 .f32) (main_arg3 : IVec S24576x2560 8) (main_arg4 : FVec F S24576 .f32) (main_arg5 : IVec S69632x1280 8) (main_arg6 : FVec F S69632x20 .bf16) (main_arg7 : IVec S6x512 32) : IVec S_ 1 :=
  let main_c : IVec S_ 32 := constantI S_ 32 0#32
  let main_v0 : IVec S6x512 32 := broadcastInDim S6x512 ![] bcast_S_S6x512 main_c
  let main_v1 : IVec S6x512 1 := cmpi .sge main_arg7 main_v0
  let main_c_0 : IVec S_ 32 := constantI S_ 32 102400#32
  let main_v2 : IVec S6x512 32 := broadcastInDim S6x512 ![] bcast_S_S6x512 main_c_0
  let main_v3 : IVec S6x512 1 := cmpi .slt main_arg7 main_v2
  let main_v4 : IVec S6x512 1 := andi main_v1 main_v3
  let main_c_1 : IVec S_ 1 := constantI S_ 1 1#1
  let main_v5 : IVec S_ 1 := (fun x v => Host.reduce IntOp.andi x v reducesTo_S6x512_S_d0_1 h_S_) main_v4 main_c_1
  main_v5
-- ==== Kernel.lean ====
abbrev S6x512x2560 : Shape := ⟨3, ![6, 512, 2560]⟩
abbrev S8192x2560 : Shape := ⟨2, ![8192, 2560]⟩
abbrev S8192 : Shape := ⟨1, ![8192]⟩
abbrev S24576x2560 : Shape := ⟨2, ![24576, 2560]⟩
abbrev S24576 : Shape := ⟨1, ![24576]⟩
abbrev S69632x1280 : Shape := ⟨2, ![69632, 1280]⟩
abbrev S69632x20 : Shape := ⟨2, ![69632, 20]⟩
abbrev S6x512 : Shape := ⟨2, ![6, 512]⟩
abbrev S3072x2560 : Shape := ⟨2, ![3072, 2560]⟩
abbrev S3072x10x128x2 : Shape := ⟨4, ![3072, 10, 128, 2]⟩
abbrev S3072x10x2x128 : Shape := ⟨4, ![3072, 10, 2, 128]⟩
abbrev S3072x1 : Shape := ⟨2, ![3072, 1]⟩
abbrev S3072x128 : Shape := ⟨2, ![3072, 128]⟩
abbrev S16x1x512 : Shape := ⟨3, ![16, 1, 512]⟩
abbrev S512x2560 : Shape := ⟨2, ![512, 2560]⟩
abbrev S1x1x512 : Shape := ⟨3, ![1, 1, 512]⟩
abbrev S512x128 : Shape := ⟨2, ![512, 128]⟩
abbrev S512x512 : Shape := ⟨2, ![512, 512]⟩
abbrev S1x1x128 : Shape := ⟨3, ![1, 1, 128]⟩
abbrev S1x128 : Shape := ⟨2, ![1, 128]⟩
abbrev S_ : Shape := ⟨0, ![]⟩
abbrev S48x1x512 : Shape := ⟨3, ![48, 1, 512]⟩
abbrev S512x1280 : Shape := ⟨2, ![512, 1280]⟩
abbrev S512x20 : Shape := ⟨2, ![512, 20]⟩
abbrev S512x1 : Shape := ⟨2, ![512, 1]⟩
abbrev S128x128 : Shape := ⟨2, ![128, 128]⟩
abbrev S512 : Shape := ⟨1, ![512]⟩

abbrev nBuf : Space → Nat
  | .hbm => 36
  | .vmem => 60
  | .smem => 0
  | _ => 0

abbrev bufTy : (tb : Table) → Fin (tcTables nBuf tb) → BufTy
  | .hbm, ⟨0, _⟩ => ⟨S6x512x2560, .bf16⟩
  | .hbm, ⟨1, _⟩ => ⟨S8192x2560, .fp8e4m3⟩
  | .hbm, ⟨2, _⟩ => ⟨S8192, .f32⟩
  | .hbm, ⟨3, _⟩ => ⟨S24576x2560, .i8⟩
  | .hbm, ⟨4, _⟩ => ⟨S24576, .f32⟩
  | .hbm, ⟨5, _⟩ => ⟨S69632x1280, .i8⟩
  | .hbm, ⟨6, _⟩ => ⟨S69632x20, .bf16⟩
  | .hbm, ⟨7, _⟩ => ⟨S6x512, .i32⟩
  | .hbm, ⟨8, _⟩ => ⟨S3072x2560, .bf16⟩
  | .hbm, ⟨9, _⟩ => ⟨S3072x10x128x2, .bf16⟩
  | .hbm, ⟨10, _⟩ => ⟨S3072x10x2x128, .bf16⟩
  | .hbm, ⟨11, _⟩ => ⟨S3072x2560, .bf16⟩
  | .hbm, ⟨12, _⟩ => ⟨S3072x1, .i32⟩
  | .hbm, ⟨13, _⟩ => ⟨S3072x128, .i32⟩
  | .hbm, ⟨14, _⟩ => ⟨S16x1x512, .f32⟩
  | .hbm, ⟨15, _⟩ => ⟨S3072x128, .f32⟩
  | .hbm, ⟨16, _⟩ => ⟨S3072x128, .f32⟩
  | .hbm, ⟨17, _⟩ => ⟨S3072x128, .f32⟩
  | .hbm, ⟨18, _⟩ => ⟨S_, .i32⟩
  | .hbm, ⟨19, _⟩ => ⟨S3072x128, .i32⟩
  | .hbm, ⟨20, _⟩ => ⟨S3072x128, .i32⟩
  | .hbm, ⟨21, _⟩ => ⟨S48x1x512, .f32⟩
  | .hbm, ⟨22, _⟩ => ⟨S3072x128, .f32⟩
  | .hbm, ⟨23, _⟩ => ⟨S3072x128, .f32⟩
  | .hbm, ⟨24, _⟩ => ⟨S3072x128, .f32⟩
  | .hbm, ⟨25, _⟩ => ⟨S_, .i32⟩
  | .hbm, ⟨26, _⟩ => ⟨S3072x128, .i32⟩
  | .hbm, ⟨27, _⟩ => ⟨S3072x128, .i32⟩
  | .hbm, ⟨28, _⟩ => ⟨S3072x128, .f32⟩
  | .hbm, ⟨29, _⟩ => ⟨S3072x128, .f32⟩
  | .hbm, ⟨30, _⟩ => ⟨S3072x128, .f32⟩
  | .hbm, ⟨31, _⟩ => ⟨S3072x1, .f32⟩
  | .hbm, ⟨32, _⟩ => ⟨S3072x1, .f32⟩
  | .hbm, ⟨33, _⟩ => ⟨S3072x1, .f32⟩
  | .hbm, ⟨34, _⟩ => ⟨S3072x1, .f32⟩
  | .hbm, ⟨35, _⟩ => ⟨S3072x1, .f32⟩
  | .local _ .vmem, ⟨0, _⟩ => ⟨S3072x2560, .bf16⟩
  | .local _ .vmem, ⟨1, _⟩ => ⟨S512x2560, .fp8e4m3⟩
  | .local _ .vmem, ⟨2, _⟩ => ⟨S512x2560, .fp8e4m3⟩
  | .local _ .vmem, ⟨3, _⟩ => ⟨S1x1x512, .f32⟩
  | .local _ .vmem, ⟨4, _⟩ => ⟨S1x1x512, .f32⟩
  | .local _ .vmem, ⟨5, _⟩ => ⟨S3072x128, .i32⟩
  | .local _ .vmem, ⟨6, _⟩ => ⟨S3072x128, .f32⟩
  | .local _ .vmem, ⟨7, _⟩ => ⟨S3072x128, .f32⟩
  | .local _ .vmem, ⟨8, _⟩ => ⟨S3072x128, .f32⟩
  | .local _ .vmem, ⟨9, _⟩ => ⟨S512x2560, .bf16⟩
  | .local _ .vmem, ⟨10, _⟩ => ⟨S3072x2560, .bf16⟩
  | .local _ .vmem, ⟨11, _⟩ => ⟨S512x2560, .i8⟩
  | .local _ .vmem, ⟨12, _⟩ => ⟨S512x2560, .i8⟩
  | .local _ .vmem, ⟨13, _⟩ => ⟨S1x1x512, .f32⟩
  | .local _ .vmem, ⟨14, _⟩ => ⟨S1x1x512, .f32⟩
  | .local _ .vmem, ⟨15, _⟩ => ⟨S3072x128, .i32⟩
  | .local _ .vmem, ⟨16, _⟩ => ⟨S3072x128, .f32⟩
  | .local _ .vmem, ⟨17, _⟩ => ⟨S3072x128, .f32⟩
  | .local _ .vmem, ⟨18, _⟩ => ⟨S3072x128, .f32⟩
  | .local _ .vmem, ⟨19, _⟩ => ⟨S512x2560, .bf16⟩
  | .local _ .vmem, ⟨20, _⟩ => ⟨S3072x2560, .bf16⟩
  | .local _ .vmem, ⟨21, _⟩ => ⟨S512x1280, .i8⟩
  | .local _ .vmem, ⟨22, _⟩ => ⟨S512x1280, .i8⟩
  | .local _ .vmem, ⟨23, _⟩ => ⟨S512x20, .bf16⟩
  | .local _ .vmem, ⟨24, _⟩ => ⟨S512x20, .bf16⟩
  | .local _ .vmem, ⟨25, _⟩ => ⟨S3072x128, .i32⟩
  | .local _ .vmem, ⟨26, _⟩ => ⟨S3072x128, .f32⟩
  | .local _ .vmem, ⟨27, _⟩ => ⟨S3072x128, .f32⟩
  | .local _ .vmem, ⟨28, _⟩ => ⟨S3072x128, .f32⟩
  | .local _ .vmem, ⟨29, _⟩ => ⟨S512x2560, .bf16⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x128, .f32⟩
  | .local _ .vmem, ⟨37, _⟩ => ⟨S512x128, .f32⟩
  | .local _ .vmem, ⟨38, _⟩ => ⟨S512x128, .f32⟩
  | .local _ .vmem, ⟨39, _⟩ => ⟨S512x128, .f32⟩
  | .local _ .vmem, ⟨40, _⟩ => ⟨S512x128, .f32⟩
  | .local _ .vmem, ⟨41, _⟩ => ⟨S512x128, .f32⟩
  | .local _ .vmem, ⟨42, _⟩ => ⟨S512x128, .f32⟩
  | .local _ .vmem, ⟨43, _⟩ => ⟨S512x128, .f32⟩
  | .local _ .vmem, ⟨44, _⟩ => ⟨S512x128, .f32⟩
  | .local _ .vmem, ⟨45, _⟩ => ⟨S512x128, .f32⟩
  | .local _ .vmem, ⟨46, _⟩ => ⟨S512x128, .f32⟩
  | .local _ .vmem, ⟨47, _⟩ => ⟨S512x128, .f32⟩
  | .local _ .vmem, ⟨48, _⟩ => ⟨S512x128, .i32⟩
  | .local _ .vmem, ⟨49, _⟩ => ⟨S512x128, .i32⟩
  | .local _ .vmem, ⟨50, _⟩ => ⟨S512x1, .f32⟩
  | .local _ .vmem, ⟨51, _⟩ => ⟨S512x1, .f32⟩
  | .local _ .vmem, ⟨52, _⟩ => ⟨S512x1, .f32⟩
  | .local _ .vmem, ⟨53, _⟩ => ⟨S512x1, .f32⟩
  | .local _ .vmem, ⟨54, _⟩ => ⟨S512x1, .f32⟩
  | .local _ .vmem, ⟨55, _⟩ => ⟨S512x1, .f32⟩
  | .local _ .vmem, ⟨56, _⟩ => ⟨S512x1, .f32⟩
  | .local _ .vmem, ⟨57, _⟩ => ⟨S512x1, .f32⟩
  | .local _ .vmem, ⟨58, _⟩ => ⟨S512x1, .f32⟩
  | .local _ .vmem, ⟨59, _⟩ => ⟨S512x1, .f32⟩
  | _, _ => ⟨S6x512x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_v15_3 : Ref sig .tc := ⟨.hbm, 34, rfl⟩
abbrev main_v15_4 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_scratch0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc3_stg7_0 : Ref sig .tc := ⟨.vmem, 44, rfl⟩
abbrev cc3_stg7_1 : Ref sig .tc := ⟨.vmem, 45, rfl⟩
abbrev cc3_stg8_0 : Ref sig .tc := ⟨.vmem, 46, rfl⟩
abbrev cc3_stg8_1 : Ref sig .tc := ⟨.vmem, 47, rfl⟩
abbrev cc3_stg9_0 : Ref sig .tc := ⟨.vmem, 48, rfl⟩
abbrev cc3_stg9_1 : Ref sig .tc := ⟨.vmem, 49, rfl⟩
abbrev cc3_stg10_0 : Ref sig .tc := ⟨.vmem, 50, rfl⟩
abbrev cc3_stg10_1 : Ref sig .tc := ⟨.vmem, 51, rfl⟩
abbrev cc3_stg11_0 : Ref sig .tc := ⟨.vmem, 52, rfl⟩
abbrev cc3_stg11_1 : Ref sig .tc := ⟨.vmem, 53, rfl⟩
abbrev cc3_stg12_0 : Ref sig .tc := ⟨.vmem, 54, rfl⟩
abbrev cc3_stg12_1 : Ref sig .tc := ⟨.vmem, 55, rfl⟩
abbrev cc3_stg13_0 : Ref sig .tc := ⟨.vmem, 56, rfl⟩
abbrev cc3_stg13_1 : Ref sig .tc := ⟨.vmem, 57, rfl⟩
abbrev cc3_stg14_0 : Ref sig .tc := ⟨.vmem, 58, rfl⟩
abbrev cc3_stg14_1 : Ref sig .tc := ⟨.vmem, 59, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem4_1 : DmaSem sig := 36
abbrev cc3_sem5_0 : DmaSem sig := 37
abbrev cc3_sem5_1 : DmaSem sig := 38
abbrev cc3_sem6_0 : DmaSem sig := 39
abbrev cc3_sem6_1 : DmaSem sig := 40
abbrev cc3_sem7_0 : DmaSem sig := 41
abbrev cc3_sem7_1 : DmaSem sig := 42
abbrev cc3_sem8_0 : DmaSem sig := 43
abbrev cc3_sem8_1 : DmaSem sig := 44
abbrev cc3_sem9_0 : DmaSem sig := 45
abbrev cc3_sem9_1 : DmaSem sig := 46
abbrev cc3_sem10_0 : DmaSem sig := 47
abbrev cc3_sem10_1 : DmaSem sig := 48
abbrev cc3_sem11_0 : DmaSem sig := 49
abbrev cc3_sem11_1 : DmaSem sig := 50
abbrev cc3_sem12_0 : DmaSem sig := 51
abbrev cc3_sem12_1 : DmaSem sig := 52
abbrev cc3_sem13_0 : DmaSem sig := 53
abbrev cc3_sem13_1 : DmaSem sig := 54
abbrev cc3_sem14_0 : DmaSem sig := 55
abbrev cc3_sem14_1 : DmaSem sig := 56

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3072x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2560 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S3072x2560 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x2560 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3072x128 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3072x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3072x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3072x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![136], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S3072x2560 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x1280 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x20 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3072x128 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3072x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3072x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S3072x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![6], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S512x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S512x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S512x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S512x128 .i32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S512x1 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S512x1 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S512x1 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 2 → Memref sig .tc .vmem S512x1 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S512x1 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]
-- ==== ReferenceIdeal.lean ====
abbrev S6x512x2560 : Shape := ⟨3, ![6, 512, 2560]⟩
abbrev S8192x2560 : Shape := ⟨2, ![8192, 2560]⟩
abbrev S8192 : Shape := ⟨1, ![8192]⟩
abbrev S24576x2560 : Shape := ⟨2, ![24576, 2560]⟩
abbrev S24576 : Shape := ⟨1, ![24576]⟩
abbrev S69632x1280 : Shape := ⟨2, ![69632, 1280]⟩
abbrev S69632x20 : Shape := ⟨2, ![69632, 20]⟩
abbrev S6x512 : Shape := ⟨2, ![6, 512]⟩
abbrev S6x512x8192 : Shape := ⟨3, ![6, 512, 8192]⟩
abbrev S1x1x8192 : Shape := ⟨3, ![1, 1, 8192]⟩
abbrev S6x512x24576 : Shape := ⟨3, ![6, 512, 24576]⟩
abbrev S1x1x24576 : Shape := ⟨3, ![1, 1, 24576]⟩
abbrev S_ : Shape := ⟨0, ![]⟩
abbrev S69632x20x64 : Shape := ⟨3, ![69632, 20, 64]⟩
abbrev S69632x20x1 : Shape := ⟨3, ![69632, 20, 1]⟩
abbrev S6x512x1280 : Shape := ⟨3, ![6, 512, 1280]⟩
abbrev S6x512x69632 : Shape := ⟨3, ![6, 512, 69632]⟩
abbrev S6x512x1 : Shape := ⟨3, ![6, 512, 1]⟩
abbrev S6x512x1x1 : Shape := ⟨4, ![6, 512, 1, 1]⟩
abbrev S1 : Shape := ⟨1, ![1]⟩
abbrev S1x1x1x1 : Shape := ⟨4, ![1, 1, 1, 1]⟩
abbrev S3072x1 : Shape := ⟨2, ![3072, 1]⟩

abbrev nBuf : Space → Nat
  | .hbm => 226
  | .vmem => 2
  | .smem => 0
  | _ => 0

abbrev hbmTy0_0 (i : Nat) : BufTy := match i % 128 with
  | 0 => ⟨S6x512x2560, .bf16⟩
  | 1 => ⟨S8192x2560, .fp8e4m3⟩
  | 2 => ⟨S8192, .f32⟩
  | 3 => ⟨S24576x2560, .i8⟩
  | 4 => ⟨S24576, .f32⟩
  | 5 => ⟨S69632x1280, .i8⟩
  | 6 => ⟨S69632x20, .bf16⟩
  | 7 => ⟨S6x512, .i32⟩
  | 8 => ⟨S8192x2560, .bf16⟩
  | 9 => ⟨S6x512x8192, .f32⟩
  | 10 => ⟨S1x1x8192, .f32⟩
  | 11 => ⟨S6x512x8192, .f32⟩
  | 12 => ⟨S6x512x8192, .f32⟩
  | 13 => ⟨S24576x2560, .i32⟩
  | 14 => ⟨S24576x2560, .bf16⟩
  | 15 => ⟨S6x512x24576, .f32⟩
  | 16 => ⟨S1x1x24576, .f32⟩
  | 17 => ⟨S6x512x24576, .f32⟩
  | 18 => ⟨S6x512x24576, .f32⟩
  | 19 => ⟨S69632x1280, .i32⟩
  | 20 => ⟨S_, .i32⟩
  | 21 => ⟨S69632x1280, .i32⟩
  | 22 => ⟨S69632x1280, .i32⟩
  | 23 => ⟨S_, .i32⟩
  | 24 => ⟨S69632x1280, .i32⟩
  | 25 => ⟨S69632x1280, .i1⟩
  | 26 => ⟨S_, .i32⟩
  | 27 => ⟨S69632x1280, .i32⟩
  | 28 => ⟨S69632x1280, .i32⟩
  | 29 => ⟨S69632x1280, .i32⟩
  | 30 => ⟨S69632x1280, .bf16⟩
  | 31 => ⟨S69632x20x64, .bf16⟩
  | 32 => ⟨S69632x20x1, .bf16⟩
  | 33 => ⟨S69632x20x64, .bf16⟩
  | 34 => ⟨S69632x20x64, .bf16⟩
  | 35 => ⟨S69632x1280, .bf16⟩
  | 36 => ⟨S_, .i32⟩
  | 37 => ⟨S69632x1280, .i32⟩
  | 38 => ⟨S69632x1280, .i32⟩
  | 39 => ⟨S_, .i32⟩
  | 40 => ⟨S69632x1280, .i32⟩
  | 41 => ⟨S69632x1280, .i1⟩
  | 42 => ⟨S_, .i32⟩
  | 43 => ⟨S69632x1280, .i32⟩
  | 44 => ⟨S69632x1280, .i32⟩
  | 45 => ⟨S69632x1280, .i32⟩
  | 46 => ⟨S69632x1280, .bf16⟩
  | 47 => ⟨S69632x20x64, .bf16⟩
  | 48 => ⟨S69632x20x1, .bf16⟩
  | 49 => ⟨S69632x20x64, .bf16⟩
  | 50 => ⟨S69632x20x64, .bf16⟩
  | 51 => ⟨S69632x1280, .bf16⟩
  | 52 => ⟨S6x512x1280, .bf16⟩
  | 53 => ⟨S6x512x69632, .f32⟩
  | 54 => ⟨S6x512x1280, .bf16⟩
  | 55 => ⟨S6x512x69632, .f32⟩
  | 56 => ⟨S6x512x69632, .f32⟩
  | 57 => ⟨S_, .f32⟩
  | 58 => ⟨S6x512, .f32⟩
  | 59 => ⟨S6x512x1, .f32⟩
  | 60 => ⟨S6x512, .f32⟩
  | 61 => ⟨S6x512x8192, .f32⟩
  | 62 => ⟨S6x512x8192, .f32⟩
  | 63 => ⟨S6x512x8192, .f32⟩
  | 64 => ⟨S_, .f32⟩
  | 65 => ⟨S6x512, .f32⟩
  | 66 => ⟨S6x512, .f32⟩
  | 67 => ⟨S6x512, .f32⟩
  | 68 => ⟨S_, .f32⟩
  | 69 => ⟨S6x512, .f32⟩
  | 70 => ⟨S6x512x1, .f32⟩
  | 71 => ⟨S6x512, .f32⟩
  | 72 => ⟨S6x512x24576, .f32⟩
  | 73 => ⟨S6x512x24576, .f32⟩
  | 74 => ⟨S6x512x24576, .f32⟩
  | 75 => ⟨S_, .f32⟩
  | 76 => ⟨S6x512, .f32⟩
  | 77 => ⟨S6x512, .f32⟩
  | 78 => ⟨S6x512, .f32⟩
  | 79 => ⟨S_, .f32⟩
  | 80 => ⟨S6x512, .f32⟩
  | 81 => ⟨S6x512x1, .f32⟩
  | 82 => ⟨S6x512, .f32⟩
  | 83 => ⟨S6x512x69632, .f32⟩
  | 84 => ⟨S6x512x69632, .f32⟩
  | 85 => ⟨S6x512x69632, .f32⟩
  | 86 => ⟨S_, .f32⟩
  | 87 => ⟨S6x512, .f32⟩
  | 88 => ⟨S6x512, .f32⟩
  | 89 => ⟨S6x512, .f32⟩
  | 90 => ⟨S6x512, .f32⟩
  | 91 => ⟨S6x512, .f32⟩
  | 92 => ⟨S6x512, .i1⟩
  | 93 => ⟨S6x512, .f32⟩
  | 94 => ⟨S6x512, .f32⟩
  | 95 => ⟨S6x512, .f32⟩
  | 96 => ⟨S6x512, .f32⟩
  | 97 => ⟨S6x512, .f32⟩
  | 98 => ⟨S6x512, .f32⟩
  | 99 => ⟨S6x512, .f32⟩
  | 100 => ⟨S6x512, .f32⟩
  | 101 => ⟨S6x512, .f32⟩
  | 102 => ⟨S6x512, .i1⟩
  | 103 => ⟨S6x512, .f32⟩
  | 104 => ⟨S6x512, .f32⟩
  | 105 => ⟨S6x512, .f32⟩
  | 106 => ⟨S6x512, .f32⟩
  | 107 => ⟨S6x512, .f32⟩
  | 108 => ⟨S6x512, .f32⟩
  | 109 => ⟨S6x512, .f32⟩
  | 110 => ⟨S_, .i32⟩
  | 111 => ⟨S_, .i32⟩
  | 112 => ⟨S_, .i32⟩
  | 113 => ⟨S6x512, .i32⟩
  | 114 => ⟨S6x512, .i32⟩
  | 115 => ⟨S_, .i32⟩
  | 116 => ⟨S6x512, .i32⟩
  | 117 => ⟨S6x512, .i32⟩
  | 118 => ⟨S6x512x1, .i32⟩
  | 119 => ⟨S_, .i32⟩
  | 120 => ⟨S6x512x1, .i32⟩
  | 121 => ⟨S6x512x1, .i1⟩
  | 122 => ⟨S_, .i32⟩
  | 123 => ⟨S6x512x1, .i32⟩
  | 124 => ⟨S6x512x1, .i32⟩
  | 125 => ⟨S6x512x1, .i32⟩
  | 126 => ⟨S6x512x1x1, .i32⟩
  | 127 => ⟨S1, .i32⟩
  | _ => ⟨S6x512x2560, .bf16⟩

abbrev hbmTy0_1 (i : Nat) : BufTy := match i % 128 with
  | 0 => ⟨S_, .i32⟩
  | 1 => ⟨S6x512x1x1, .i32⟩
  | 2 => ⟨S6x512x1x1, .i1⟩
  | 3 => ⟨S1x1x1x1, .i32⟩
  | 4 => ⟨S6x512x1x1, .i32⟩
  | 5 => ⟨S6x512x1x1, .i1⟩
  | 6 => ⟨S6x512x1x1, .i1⟩
  | 7 => ⟨S_, .i1⟩
  | 8 => ⟨S6x512x1, .i1⟩
  | 9 => ⟨S6x512x1, .f32⟩
  | 10 => ⟨S_, .f32⟩
  | 11 => ⟨S6x512x1, .f32⟩
  | 12 => ⟨S6x512x1, .f32⟩
  | 13 => ⟨S6x512, .f32⟩
  | 14 => ⟨S_, .i32⟩
  | 15 => ⟨S6x512, .i32⟩
  | 16 => ⟨S6x512, .i32⟩
  | 17 => ⟨S_, .i32⟩
  | 18 => ⟨S_, .i32⟩
  | 19 => ⟨S_, .i32⟩
  | 20 => ⟨S6x512, .i32⟩
  | 21 => ⟨S6x512, .i32⟩
  | 22 => ⟨S_, .i32⟩
  | 23 => ⟨S6x512, .i32⟩
  | 24 => ⟨S6x512, .i32⟩
  | 25 => ⟨S6x512x1, .i32⟩
  | 26 => ⟨S_, .i32⟩
  | 27 => ⟨S6x512x1, .i32⟩
  | 28 => ⟨S6x512x1, .i1⟩
  | 29 => ⟨S_, .i32⟩
  | 30 => ⟨S6x512x1, .i32⟩
  | 31 => ⟨S6x512x1, .i32⟩
  | 32 => ⟨S6x512x1, .i32⟩
  | 33 => ⟨S6x512x1x1, .i32⟩
  | 34 => ⟨S1, .i32⟩
  | 35 => ⟨S_, .i32⟩
  | 36 => ⟨S6x512x1x1, .i32⟩
  | 37 => ⟨S6x512x1x1, .i1⟩
  | 38 => ⟨S1x1x1x1, .i32⟩
  | 39 => ⟨S6x512x1x1, .i32⟩
  | 40 => ⟨S6x512x1x1, .i1⟩
  | 41 => ⟨S6x512x1x1, .i1⟩
  | 42 => ⟨S_, .i1⟩
  | 43 => ⟨S6x512x1, .i1⟩
  | 44 => ⟨S6x512x1, .f32⟩
  | 45 => ⟨S_, .f32⟩
  | 46 => ⟨S6x512x1, .f32⟩
  | 47 => ⟨S6x512x1, .f32⟩
  | 48 => ⟨S6x512, .f32⟩
  | 49 => ⟨S_, .i32⟩
  | 50 => ⟨S6x512, .i32⟩
  | 51 => ⟨S6x512, .i32⟩
  | 52 => ⟨S_, .i32⟩
  | 53 => ⟨S_, .i32⟩
  | 54 => ⟨S_, .i32⟩
  | 55 => ⟨S6x512, .i32⟩
  | 56 => ⟨S6x512, .i32⟩
  | 57 => ⟨S_, .i32⟩
  | 58 => ⟨S6x512, .i32⟩
  | 59 => ⟨S6x512, .i32⟩
  | 60 => ⟨S6x512x1, .i32⟩
  | 61 => ⟨S_, .i32⟩
  | 62 => ⟨S6x512x1, .i32⟩
  | 63 => ⟨S6x512x1, .i1⟩
  | 64 => ⟨S_, .i32⟩
  | 65 => ⟨S6x512x1, .i32⟩
  | 66 => ⟨S6x512x1, .i32⟩
  | 67 => ⟨S6x512x1, .i32⟩
  | 68 => ⟨S6x512x1x1, .i32⟩
  | 69 => ⟨S1, .i32⟩
  | 70 => ⟨S_, .i32⟩
  | 71 => ⟨S6x512x1x1, .i32⟩
  | 72 => ⟨S6x512x1x1, .i1⟩
  | 73 => ⟨S1x1x1x1, .i32⟩
  | 74 => ⟨S6x512x1x1, .i32⟩
  | 75 => ⟨S6x512x1x1, .i1⟩
  | 76 => ⟨S6x512x1x1, .i1⟩
  | 77 => ⟨S_, .i1⟩
  | 78 => ⟨S6x512x1, .i1⟩
  | 79 => ⟨S6x512x1, .f32⟩
  | 80 => ⟨S_, .f32⟩
  | 81 => ⟨S6x512x1, .f32⟩
  | 82 => ⟨S6x512x1, .f32⟩
  | 83 => ⟨S6x512, .f32⟩
  | 84 => ⟨S_, .i32⟩
  | 85 => ⟨S6x512, .i32⟩
  | 86 => ⟨S6x512, .i1⟩
  | 87 => ⟨S_, .i32⟩
  | 88 => ⟨S6x512, .i32⟩
  | 89 => ⟨S6x512, .i1⟩
  | 90 => ⟨S6x512, .f32⟩
  | 91 => ⟨S6x512, .f32⟩
  | 92 => ⟨S6x512, .f32⟩
  | 93 => ⟨S3072x1, .f32⟩
  | 94 => ⟨S3072x1, .f32⟩
  | 95 => ⟨S3072x1, .f32⟩
  | 96 => ⟨S3072x1, .f32⟩
  | 97 => ⟨S3072x1, .f32⟩
  | _ => ⟨S6x512x2560, .bf16⟩

abbrev hbmTy (i : Nat) : BufTy := match i / 128 with
  | 0 => hbmTy0_0 i
  | 1 => hbmTy0_1 i
  | _ => ⟨S6x512x2560, .bf16⟩

abbrev bufTy : (tb : Table) → Fin (tcTables nBuf tb) → BufTy
  | .hbm, ⟨i, _⟩ => hbmTy i
  | .local _ .vmem, ⟨0, _⟩ => ⟨S8192x2560, .fp8e4m3⟩
  | .local _ .vmem, ⟨1, _⟩ => ⟨S8192x2560, .bf16⟩
  | _, _ => ⟨S6x512x2560, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_c_10 : Ref sig .tc := ⟨.hbm, 110, rfl⟩
abbrev main_c_11 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_v90 : Ref sig .tc := ⟨.hbm, 117, rfl⟩
abbrev main_v91 : Ref sig .tc := ⟨.hbm, 118, rfl⟩
abbrev main_call3_c : Ref sig .tc := ⟨.hbm, 119, rfl⟩
abbrev main_call3_v0 : Ref sig .tc := ⟨.hbm, 120, rfl⟩
abbrev main_call3_v1 : Ref sig .tc := ⟨.hbm, 121, rfl⟩
abbrev main_call3_c_0 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_v5 : Ref sig .tc := ⟨.hbm, 126, rfl⟩
abbrev main_call3_c_1 : Ref sig .tc := ⟨.hbm, 127, rfl⟩
abbrev main_call3_c_2 : Ref sig .tc := ⟨.hbm, 128, rfl⟩
abbrev main_call3_v6 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_call3_v11 : Ref sig .tc := ⟨.hbm, 134, rfl⟩
abbrev main_call3_c_3 : Ref sig .tc := ⟨.hbm, 135, rfl⟩
abbrev main_call3_v12 : Ref sig .tc := ⟨.hbm, 136, rfl⟩
abbrev main_call3_v13 : Ref sig .tc := ⟨.hbm, 137, rfl⟩
abbrev main_call3_cst : Ref sig .tc := ⟨.hbm, 138, rfl⟩
abbrev main_call3_v14 : Ref sig .tc := ⟨.hbm, 139, rfl⟩
abbrev main_v92 : Ref sig .tc := ⟨.hbm, 140, rfl⟩
abbrev main_v93 : Ref sig .tc := ⟨.hbm, 141, rfl⟩
abbrev main_c_12 : Ref sig .tc := ⟨.hbm, 142, rfl⟩
abbrev main_v94 : Ref sig .tc := ⟨.hbm, 143, rfl⟩
abbrev main_v95 : Ref sig .tc := ⟨.hbm, 144, rfl⟩
abbrev main_c_13 : Ref sig .tc := ⟨.hbm, 145, rfl⟩
abbrev main_c_14 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_v96 : Ref sig .tc := ⟨.hbm, 152, rfl⟩
abbrev main_v97 : Ref sig .tc := ⟨.hbm, 153, rfl⟩
abbrev main_call5_c : Ref sig .tc := ⟨.hbm, 154, rfl⟩
abbrev main_call5_v0 : Ref sig .tc := ⟨.hbm, 155, rfl⟩
abbrev main_call5_v1 : Ref sig .tc := ⟨.hbm, 156, rfl⟩
abbrev main_call5_c_0 : Ref sig .tc := ⟨.hbm, 157, rfl⟩
abbrev main_call5_v2 : Ref sig .tc := ⟨.hbm, 158, rfl⟩
abbrev main_call5_v3 : Ref sig .tc := ⟨.hbm, 159, rfl⟩
abbrev main_call5_v4 : Ref sig .tc := ⟨.hbm, 160, rfl⟩
abbrev main_call5_v5 : Ref sig .tc := ⟨.hbm, 161, rfl⟩
abbrev main_call5_c_1 : Ref sig .tc := ⟨.hbm, 162, rfl⟩
abbrev main_call5_c_2 : Ref sig .tc := ⟨.hbm, 163, rfl⟩
abbrev main_call5_v6 : Ref sig .tc := ⟨.hbm, 164, rfl⟩
abbrev main_call5_v7 : Ref sig .tc := ⟨.hbm, 165, rfl⟩
abbrev main_call5_v8 : Ref sig .tc := ⟨.hbm, 166, rfl⟩
abbrev main_call5_v9 : Ref sig .tc := ⟨.hbm, 167, rfl⟩
abbrev main_call5_v10 : Ref sig .tc := ⟨.hbm, 168, rfl⟩
abbrev main_call5_v11 : Ref sig .tc := ⟨.hbm, 169, rfl⟩
abbrev main_call5_c_3 : Ref sig .tc := ⟨.hbm, 170, rfl⟩
abbrev main_call5_v12 : Ref sig .tc := ⟨.hbm, 171, rfl⟩
abbrev main_call5_v13 : Ref sig .tc := ⟨.hbm, 172, rfl⟩
abbrev main_call5_cst : Ref sig .tc := ⟨.hbm, 173, rfl⟩
abbrev main_call5_v14 : Ref sig .tc := ⟨.hbm, 174, rfl⟩
abbrev main_v98 : Ref sig .tc := ⟨.hbm, 175, rfl⟩
abbrev main_v99 : Ref sig .tc := ⟨.hbm, 176, rfl⟩
abbrev main_c_15 : Ref sig .tc := ⟨.hbm, 177, rfl⟩
abbrev main_v100 : Ref sig .tc := ⟨.hbm, 178, rfl⟩
abbrev main_v101 : Ref sig .tc := ⟨.hbm, 179, rfl⟩
abbrev main_c_16 : Ref sig .tc := ⟨.hbm, 180, rfl⟩
abbrev main_c_17 : Ref sig .tc := ⟨.hbm, 181, rfl⟩
abbrev main_call6_v0 : Ref sig .tc := ⟨.hbm, 182, rfl⟩
abbrev main_call6_v1 : Ref sig .tc := ⟨.hbm, 183, rfl⟩
abbrev main_call6_v2 : Ref sig .tc := ⟨.hbm, 184, rfl⟩
abbrev main_call6_v3 : Ref sig .tc := ⟨.hbm, 185, rfl⟩
abbrev main_call6_v4 : Ref sig .tc := ⟨.hbm, 186, rfl⟩
abbrev main_v102 : Ref sig .tc := ⟨.hbm, 187, rfl⟩
abbrev main_v103 : Ref sig .tc := ⟨.hbm, 188, rfl⟩
abbrev main_call7_c : Ref sig .tc := ⟨.hbm, 189, rfl⟩
abbrev main_call7_v0 : Ref sig .tc := ⟨.hbm, 190, rfl⟩
abbrev main_call7_v1 : Ref sig .tc := ⟨.hbm, 191, rfl⟩
abbrev main_call7_c_0 : Ref sig .tc := ⟨.hbm, 192, rfl⟩
abbrev main_call7_v2 : Ref sig .tc := ⟨.hbm, 193, rfl⟩
abbrev main_call7_v3 : Ref sig .tc := ⟨.hbm, 194, rfl⟩
abbrev main_call7_v4 : Ref sig .tc := ⟨.hbm, 195, rfl⟩
abbrev main_call7_v5 : Ref sig .tc := ⟨.hbm, 196, rfl⟩
abbrev main_call7_c_1 : Ref sig .tc := ⟨.hbm, 197, rfl⟩
abbrev main_call7_c_2 : Ref sig .tc := ⟨.hbm, 198, rfl⟩
abbrev main_call7_v6 : Ref sig .tc := ⟨.hbm, 199, rfl⟩
abbrev main_call7_v7 : Ref sig .tc := ⟨.hbm, 200, rfl⟩
abbrev main_call7_v8 : Ref sig .tc := ⟨.hbm, 201, rfl⟩
abbrev main_call7_v9 : Ref sig .tc := ⟨.hbm, 202, rfl⟩
abbrev main_call7_v10 : Ref sig .tc := ⟨.hbm, 203, rfl⟩
abbrev main_call7_v11 : Ref sig .tc := ⟨.hbm, 204, rfl⟩
abbrev main_call7_c_3 : Ref sig .tc := ⟨.hbm, 205, rfl⟩
abbrev main_call7_v12 : Ref sig .tc := ⟨.hbm, 206, rfl⟩
abbrev main_call7_v13 : Ref sig .tc := ⟨.hbm, 207, rfl⟩
abbrev main_call7_cst : Ref sig .tc := ⟨.hbm, 208, rfl⟩
abbrev main_call7_v14 : Ref sig .tc := ⟨.hbm, 209, rfl⟩
abbrev main_v104 : Ref sig .tc := ⟨.hbm, 210, rfl⟩
abbrev main_v105 : Ref sig .tc := ⟨.hbm, 211, rfl⟩
abbrev main_c_18 : Ref sig .tc := ⟨.hbm, 212, rfl⟩
abbrev main_v106 : Ref sig .tc := ⟨.hbm, 213, rfl⟩
abbrev main_v107 : Ref sig .tc := ⟨.hbm, 214, rfl⟩
abbrev main_c_19 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8192x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Run.lean ====
module

public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `θ_run_regions_kit_sems`'s implicit arguments are found by unifying its conclusion with this one, which takes unfolding
-- plain definitions in a metavariable's type
set_option backward.isDefEq.respectTransparency.types false in
/-- The kernel's run, at any float values: from any memory with zero counters every weakly fair execution of @main terminates,
    each result array ends at what the last region's pipeline leaves in it (the contents `W7` at the last boundary), and the
    arguments are unchanged. -/
theorem kernel_run : θ_run defs (onTc (τ := τ) (main (F := F))) ⟨m, fun _ => 0, ρ⟩ (fun r => ∀ c : Dev nD,
      r.2.mem ((c.tc : Thread nD τ).loc main_v15_0) = W7 m ρ c (Proc.devRef .tc main_v15_0)
      ∧ r.2.mem ((c.tc : Thread nD τ).loc main_v15_1) = W7 m ρ c (Proc.devRef .tc main_v15_1)
      ∧ r.2.mem ((c.tc : Thread nD τ).loc main_v15_2) = W7 m ρ c (Proc.devRef .tc main_v15_2)
      ∧ r.2.mem ((c.tc : Thread nD τ).loc main_v15_3) = W7 m ρ c (Proc.devRef .tc main_v15_3)
      ∧ r.2.mem ((c.tc : Thread nD τ).loc main_v15_4) = W7 m ρ c (Proc.devRef .tc main_v15_4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨h c _ (mem_uc main_v15_0 (by decide)),
       h c _ (mem_uc main_v15_1 (by decide)),
       h c _ (mem_uc main_v15_2 (by decide)),
       h c _ (mem_uc main_v15_3 (by decide)),
       h c _ (mem_uc main_v15_4 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.Hand

end
-- ==== Proof.Math.lean ====
/-
  The arithmetic of a running log-sum-exp over the extended reals: what the recursion over vocabulary tiles
  computes, that it equals the plain "maximum, then sum of exponentials" form, and how three such values combine.
-/
module

public import Idealize.ShloMosaic.PureOps.Ideal

@[expose] public section

noncomputable section

namespace Cert.Hand

open Idealize.ShloMosaic

/-! ## The exponential and the logarithm -/

/-- An exponential is never negative. -/
theorem exp_nonneg (x : EReal) : 0 ≤ Ideal.exp x := by
  induction x with
  | bot => simp
  | top => simp
  | coe r => rw [Ideal.exp_coe]; exact_mod_cast (Real.exp_pos r).le

/-- The exponential of anything below `⊤` is a real number. -/
theorem exp_real {x : EReal} (h : x ≠ ⊤) : ∃ r : ℝ, 0 ≤ r ∧ Ideal.exp x = (r : EReal) := by
  induction x with
  | bot => exact ⟨0, le_refl _, by simp⟩
  | top => exact absurd rfl h
  | coe r => exact ⟨Real.exp r, (Real.exp_pos r).le, by simp⟩

/-- Anything minus `⊤` is `⊥`, so its exponential is zero. -/
theorem exp_sub_top (x : EReal) : Ideal.exp (x - ⊤) = 0 := by
  rw [sub_eq_add_neg, EReal.neg_top, EReal.add_bot, Ideal.exp_bot]

/-- `exp (x - c) = exp x * exp (-c)` for `x` below `⊤` and a real `c`. -/
theorem exp_sub_coe {x : EReal} (h : x ≠ ⊤) (c : ℝ) :
    Ideal.exp (x - (c : EReal)) = Ideal.exp x * ((Real.exp (-c) : ℝ) : EReal) := by
  induction x with
  | bot => simp
  | top => exact absurd rfl h
  | coe r =>
    rw [← EReal.coe_sub, Ideal.exp_coe, Ideal.exp_coe, sub_eq_add_neg, Real.exp_add, EReal.coe_mul]

/-- A finite sum of extended reals below `⊤` each of which is a nonnegative real is one. -/
theorem sum_real {ι : Type*} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl _, by simp⟩
  | insert a s ha ih =>
    obtain ⟨r, hr, er⟩ := h a (Finset.mem_insert_self a s)
    obtain ⟨q, hq, eq⟩ := ih fun i hi => h i (Finset.mem_insert_of_mem hi)
    exact ⟨r + q, add_nonneg hr hq, by rw [Finset.sum_insert ha, er, eq, EReal.coe_add]⟩

/-- A finite sum times a real nonnegative factor is the sum of the products, the terms nonnegative. -/
theorem sum_mul_coe {ι : Type*} (s : Finset ι) (f : ι → EReal) (h : ∀ i ∈ s, 0 ≤ f i) (c : EReal) :
    (∑ i ∈ s, f i) * c = ∑ i ∈ s, f i * c := by
  classical
  induction s using Finset.induction_on with
  | empty => simp
  | insert a s ha ih =>
    have h1 := h a (Finset.mem_insert_self a s)
    have h2 : ∀ i ∈ s, 0 ≤ f i := fun i hi => h i (Finset.mem_insert_of_mem hi)
    rw [Finset.sum_insert ha, Finset.sum_insert ha, EReal.right_distrib_of_nonneg h1 (Finset.sum_nonneg h2), ih h2]

/-- RESCALING. A sum of exponentials taken relative to `m` times `exp (m - m')` is the sum relative to `m'`,
    for `m ≤ m'` above every value: `m` must not be `⊥`; at `⊤` both sides vanish. -/
theorem rescale {ι : Type*} (s : Finset ι) (v : ι → EReal) (m m' : EReal) (hb : m ≠ ⊥) (hm : m ≤ m')
    (hv : ∀ i ∈ s, v i ≤ m) :
    (∑ i ∈ s, Ideal.exp (v i - m)) * Ideal.exp (m - m') = ∑ i ∈ s, Ideal.exp (v i - m') := by
  rw [sum_mul_coe s _ (fun i _ => exp_nonneg _)]
  refine Finset.sum_congr rfl fun i hi => ?_
  have hvi := hv i hi
  induction m' with
  | bot => exact absurd (le_bot_iff.1 hm) hb
  | top => rw [exp_sub_top, exp_sub_top, mul_zero]
  | coe b =>
    induction m with
    | bot => exact absurd rfl hb
    | top => exact absurd (top_le_iff.1 hm) (EReal.coe_ne_top b)
    | coe a =>
      have hvt : v i ≠ ⊤ := fun h => EReal.coe_ne_top a (top_le_iff.1 (h ▸ hvi))
      rw [exp_sub_coe hvt, exp_sub_coe hvt, ← EReal.coe_sub, Ideal.exp_coe, mul_assoc, ← EReal.coe_mul, ← Real.exp_add]
      congr 3; ring

/-! ## The log-sum-exp -/

/-- The log-sum-exp of finitely many extended reals: `log (∑ exp)` when none is `⊤`, and `⊥` (the junk value a
    subtraction of infinities leaves) when one is. -/
def lse {ι : Type*} (s : Finset ι) (v : ι → EReal) : EReal :=
  open Classical in if ∃ i ∈ s, v i = ⊤ then ⊥ else Ideal.log (∑ i ∈ s, Ideal.exp (v i))

/-- A logarithm of a real number is not `⊤`. -/
theorem log_coe_ne_top (r : ℝ) : Ideal.log (r : EReal) ≠ ⊤ := by
  rw [Ideal.log_coe]; split
  · exact bot_ne_top
  · exact EReal.coe_ne_top _

/-- A log-sum-exp is never `⊤`. -/
theorem lse_ne_top {ι : Type*} (s : Finset ι) (v : ι → EReal) : lse s v ≠ ⊤ := by
  unfold lse; split
  · exact bot_ne_top
  · next h =>
    obtain ⟨r, -, e⟩ := sum_real s (fun i => Ideal.exp (v i)) fun i hi => exp_real fun e => h ⟨i, hi, e⟩
    rw [e]; exact log_coe_ne_top r

/-- `c + log (A * exp (-c)) = log A` for real `A ≥ 0` and `c`. -/
theorem add_log_mul (A c : ℝ) (hA : 0 ≤ A) :
    (c : EReal) + Ideal.log ((A : EReal) * ((Real.exp (-c) : ℝ) : EReal)) = Ideal.log (A : EReal) := by
  rw [← EReal.coe_mul, Ideal.log_coe, Ideal.log_coe]
  rcases hA.eq_or_lt with rfl | hA
  · simp
  · have hp : 0 < A * Real.exp (-c) := mul_pos hA (Real.exp_pos _)
    rw [if_neg (not_le.2 hp), if_neg (not_le.2 hA), Real.log_mul hA.ne' (Real.exp_pos _).ne', Real.log_exp,
      ← EReal.coe_add]
    congr 1; ring

/-- The log-sum-exp relative to ANY `top` above every value that is `⊤` only if one of the values is, and `⊥` only
    if all of them are: the maximum plus the logarithm of the shifted sum. -/
theorem lse_eq {ι : Type*} (s : Finset ι) (v : ι → EReal) (top : EReal) (hv : ∀ i ∈ s, v i ≤ top)
    (ht : top = ⊤ → ∃ i ∈ s, v i = ⊤) :
    top + Ideal.log (∑ i ∈ s, Ideal.exp (v i - top)) = lse s v := by
  unfold lse
  induction top with
  | top =>
    rw [if_pos (ht rfl)]
    simp only [exp_sub_top, Finset.sum_const_zero]
    rw [show (0 : EReal) = ((0 : ℝ) : EReal) from rfl, Ideal.log_coe, if_pos le_rfl, EReal.add_bot]
  | bot =>
    have hb : ∀ i ∈ s, v i = ⊥ := fun i hi => le_bot_iff.1 (hv i hi)
    rw [if_neg (fun ⟨i, hi, e⟩ => bot_ne_top ((hb i hi).symm.trans e)), EReal.bot_add,
      Finset.sum_congr rfl (fun i hi => by rw [hb i hi, Ideal.exp_bot]), Finset.sum_const_zero,
      show (0 : EReal) = ((0 : ℝ) : EReal) from rfl, Ideal.log_coe, if_pos le_rfl]
  | coe c =>
    have hn : ∀ i ∈ s, v i ≠ ⊤ := fun i hi e => EReal.coe_ne_top c (top_le_iff.1 (e ▸ hv i hi))
    rw [if_neg (fun ⟨i, hi, e⟩ => hn i hi e)]
    obtain ⟨A, hA, eA⟩ := sum_real s (fun i => Ideal.exp (v i)) fun i hi => exp_real (hn i hi)
    rw [Finset.sum_congr rfl (fun i hi => exp_sub_coe (hn i hi) c), ← sum_mul_coe s _ (fun i _ => exp_nonneg _), eA,
      add_log_mul A c hA]

/-! ## Combining the tiers -/

/-- `log 1 = 0`. -/
theorem log_one : Ideal.log (1 : EReal) = 0 := by
  rw [show (1 : EReal) = ((1 : ℝ) : EReal) from rfl, Ideal.log_coe, if_neg (by norm_num), Real.log_one]; rfl

/-- `exp (log A) = A` for a real `A ≥ 0`. -/
theorem exp_log_coe (A : ℝ) (hA : 0 ≤ A) : Ideal.exp (Ideal.log (A : EReal)) = (A : EReal) := by
  rw [Ideal.log_coe]
  rcases hA.eq_or_lt with rfl | hA
  · simp
  · rw [if_neg (not_le.2 hA), Ideal.exp_coe, Real.exp_log hA]

/-- `log (exp a) = a` for anything below `⊤`. -/
theorem log_exp {a : EReal} (ha : a ≠ ⊤) : Ideal.log (Ideal.exp a) = a := by
  induction a with
  | bot => rw [Ideal.exp_bot, show (0 : EReal) = ((0 : ℝ) : EReal) from rfl, Ideal.log_coe, if_pos le_rfl]
  | top => exact absurd rfl ha
  | coe r => rw [Ideal.exp_coe, Ideal.log_coe, if_neg (not_le.2 (Real.exp_pos r)), Real.log_exp]

/-- The stable two-argument form `max a b + log1p (exp (-|a - b|))` is `log (exp a + exp b)`, neither argument `⊤`. -/
theorem logaddexp_eq {a b : EReal} (ha : a ≠ ⊤) (hb : b ≠ ⊤) :
    max a b + Ideal.log1p (Ideal.exp (-(max (a - b) (-(a - b))))) = Ideal.log (Ideal.exp a + Ideal.exp b) := by
  unfold Ideal.log1p
  induction a with
  | top => exact absurd rfl ha
  | bot =>
    have h1 : (⊥ : EReal) - b = ⊥ := by rw [sub_eq_add_neg, EReal.bot_add]
    rw [h1, EReal.neg_bot, max_eq_right (bot_le : (⊥ : EReal) ≤ ⊤), EReal.neg_top, Ideal.exp_bot, add_zero, log_one,
      add_zero, max_eq_right (bot_le : (⊥ : EReal) ≤ b), zero_add, log_exp hb]
  | coe a =>
    induction b with
    | top => exact absurd rfl hb
    | bot =>
      have h1 : (a : EReal) - ⊥ = ⊤ := by rw [sub_eq_add_neg, EReal.neg_bot, EReal.coe_add_top]
      rw [h1, EReal.neg_top, max_eq_left (bot_le : (⊥ : EReal) ≤ ⊤), EReal.neg_top, Ideal.exp_bot, add_zero, log_one,
        add_zero, max_eq_left (bot_le : (⊥ : EReal) ≤ (a : EReal)), add_zero, log_exp ha]
    | coe b =>
      have key : ∀ x y : ℝ, y ≤ x → (x : ℝ) + Real.log (1 + Real.exp (-(x - y))) = Real.log (Real.exp x + Real.exp y) := by
        intro x y _
        have hp : 0 < 1 + Real.exp (-(x - y)) := by positivity
        conv_lhs => rw [← Real.log_exp x, Real.log_exp x]
        rw [show Real.exp x + Real.exp y = Real.exp x * (1 + Real.exp (-(x - y))) by
          rw [mul_add, mul_one, ← Real.exp_add]; congr 2; ring]
        rw [Real.log_mul (Real.exp_pos x).ne' hp.ne', Real.log_exp]
      have fin : ∀ x y : ℝ, y ≤ x →
          (x : EReal) + Ideal.log (1 + Ideal.exp ((-(x - y) : ℝ) : EReal)) =
            Ideal.log (Ideal.exp (x : EReal) + Ideal.exp (y : EReal)) := by
        intro x y h
        have hp : 0 < 1 + Real.exp (-(x - y)) := by positivity
        have hq : 0 < Real.exp x + Real.exp y := by positivity
        rw [Ideal.exp_coe, Ideal.exp_coe, Ideal.exp_coe, show (1 : EReal) = ((1 : ℝ) : EReal) from rfl, ← EReal.coe_add,
          ← EReal.coe_add, Ideal.log_coe, Ideal.log_coe, if_neg (not_le.2 hp), if_neg (not_le.2 hq), ← EReal.coe_add,
          key x y h]
      rcases le_total b a with h | h
      · rw [max_eq_left (EReal.coe_le_coe_iff.2 h), ← EReal.coe_sub, ← EReal.coe_neg,
          max_eq_left (EReal.coe_le_coe_iff.2 (by linarith)), ← EReal.coe_neg, fin a b h]
      · rw [max_eq_right (EReal.coe_le_coe_iff.2 h), ← EReal.coe_sub, ← EReal.coe_neg,
          max_eq_right (EReal.coe_le_coe_iff.2 (by linarith)), ← EReal.coe_neg,
          show -(-(a - b)) = -(b - a) by ring, fin b a h, add_comm]

/-- The log-sum-exp of three log-sum-exps. -/
def lse3 (a b c : EReal) : EReal := Ideal.log (Ideal.exp a + Ideal.exp b + Ideal.exp c)

/-- Two stable two-argument steps make the three-argument log-sum-exp. -/
theorem logaddexp_logaddexp {a b c : EReal} (ha : a ≠ ⊤) (hb : b ≠ ⊤) (hc : c ≠ ⊤) :
    let p := max a b + Ideal.log1p (Ideal.exp (-(max (a - b) (-(a - b)))))
    max p c + Ideal.log1p (Ideal.exp (-(max (p - c) (-(p - c))))) = lse3 a b c := by
  intro p
  obtain ⟨A, hA, eA⟩ := exp_real ha
  obtain ⟨B, hB, eB⟩ := exp_real hb
  have ep : p = Ideal.log ((A + B : ℝ) : EReal) := by
    rw [EReal.coe_add, ← eA, ← eB]; exact logaddexp_eq ha hb
  have hp : p ≠ ⊤ := by rw [ep]; exact log_coe_ne_top _
  rw [logaddexp_eq hp hc, ep, exp_log_coe _ (add_nonneg hA hB), lse3, eA, eB, EReal.coe_add]

/-- The maximum of the three, plus the logarithm of the three shifted exponentials summed from zero. -/
theorem lse3_eq {a b c : EReal} (ha : a ≠ ⊤) (hb : b ≠ ⊤) (hc : c ≠ ⊤) :
    max (max a b) c + Ideal.log (Ideal.exp (a - max (max a b) c) + Ideal.exp (b - max (max a b) c)
      + Ideal.exp (c - max (max a b) c)) = lse3 a b c := by
  have h := lse_eq (Finset.univ : Finset (Fin 3)) ![a, b, c] (max (max a b) c)
    (by intro i _; fin_cases i <;> simp) (by
      intro e
      exfalso
      rcases max_choice (max a b) c with h | h
      · rcases max_choice a b with h' | h'
        · exact ha (by rw [← h', ← h, e])
        · exact hb (by rw [← h', ← h, e])
      · exact hc (by rw [← h, e]))
  rw [Fin.sum_univ_three] at h
  simp only [Matrix.cons_val_zero, Matrix.cons_val_one, Matrix.cons_val_two, Matrix.head_cons, Matrix.tail_cons,
    Matrix.cons_val] at h
  rw [h, lse, lse3, if_neg, Fin.sum_univ_three]
  · rfl
  · rintro ⟨i, -, hi⟩
    fin_cases i
    · exact ha hi
    · exact hb hi
    · exact hc hi

/-! ## The recursion over vocabulary tiles

    A row's logits `L` are read 512 at a time; lane `c` of tile `s` sees the four logits `512 s + 128 j + c`. -/

/-- The lane's running maximum after `n` tiles, from the starting value `low`. -/
def mAt (low : EReal) (L : ℕ → EReal) (c : ℕ) : ℕ → EReal
  | 0 => low
  | n + 1 => max (max (max (max (mAt low L c n) (L (512 * n + c))) (L (512 * n + 128 + c))) (L (512 * n + 256 + c)))
      (L (512 * n + 384 + c))

/-- The lane's running sum of exponentials after `n` tiles, relative to the running maximum. -/
def lAt (low : EReal) (L : ℕ → EReal) (c : ℕ) : ℕ → EReal
  | 0 => 0
  | n + 1 => lAt low L c n * Ideal.exp (mAt low L c n - mAt low L c (n + 1))
      + Ideal.exp (L (512 * n + c) - mAt low L c (n + 1)) + Ideal.exp (L (512 * n + 128 + c) - mAt low L c (n + 1))
      + Ideal.exp (L (512 * n + 256 + c) - mAt low L c (n + 1)) + Ideal.exp (L (512 * n + 384 + c) - mAt low L c (n + 1))

/-- The lane's target logit after `n` tiles: the logit whose column is the target `g`, zero before it is met. -/
def tAt (L : ℕ → EReal) (g : ℕ) (c : ℕ) : ℕ → EReal
  | 0 => 0
  | n + 1 => if g = 512 * n + 384 + c then L (512 * n + 384 + c) else if g = 512 * n + 256 + c then L (512 * n + 256 + c)
      else if g = 512 * n + 128 + c then L (512 * n + 128 + c) else if g = 512 * n + c then L (512 * n + c)
      else tAt L g c n

/-- The columns lane `c` has seen after `n` tiles. -/
def seen (c n : ℕ) : Finset ℕ := (Finset.range (4 * n)).image fun q => 128 * q + c

theorem seen_succ (c n : ℕ) (f : ℕ → EReal) :
    ∑ i ∈ seen c (n + 1), f i = ∑ i ∈ seen c n, f i + f (512 * n + c) + f (512 * n + 128 + c) + f (512 * n + 256 + c)
      + f (512 * n + 384 + c) := by
  unfold seen
  rw [Finset.sum_image (by intro a _ b _ h; simp only at h; omega),
    Finset.sum_image (by intro a _ b _ h; simp only at h; omega), show 4 * (n + 1) = 4 * n + 1 + 1 + 1 + 1 by ring,
    Finset.sum_range_succ, Finset.sum_range_succ, Finset.sum_range_succ, Finset.sum_range_succ]
  rw [show 128 * (4 * n) + c = 512 * n + c by ring, show 128 * (4 * n + 1) + c = 512 * n + 128 + c by ring,
    show 128 * (4 * n + 1 + 1) + c = 512 * n + 256 + c by ring, show 128 * (4 * n + 1 + 1 + 1) + c = 512 * n + 384 + c by ring]

/-- Membership in the columns seen. -/
theorem mem_seen {c n i : ℕ} (hc : c < 128) : i ∈ seen c n ↔ i < 512 * n ∧ i % 128 = c := by
  unfold seen
  simp only [Finset.mem_image, Finset.mem_range]
  constructor
  · rintro ⟨q, hq, rfl⟩; omega
  · rintro ⟨h1, h2⟩; exact ⟨i / 128, by omega, by omega⟩

/-- The running maximum bounds exactly what bounds `low` and every logit seen. -/
theorem mAt_le_iff (low : EReal) (L : ℕ → EReal) {c : ℕ} (hc : c < 128) (n : ℕ) (z : EReal) :
    mAt low L c n ≤ z ↔ low ≤ z ∧ ∀ i ∈ seen c n, L i ≤ z := by
  induction n with
  | zero => simp [mAt, seen]
  | succ n ih =>
    simp only [mAt, max_le_iff, ih]
    constructor
    · rintro ⟨⟨⟨⟨⟨h0, h⟩, a⟩, b⟩, d⟩, e⟩
      refine ⟨h0, fun i hi => ?_⟩
      rw [mem_seen hc] at hi
      by_cases hlt : i < 512 * n
      · exact h i ((mem_seen hc).2 ⟨hlt, hi.2⟩)
      · have : i = 512 * n + c ∨ i = 512 * n + 128 + c ∨ i = 512 * n + 256 + c ∨ i = 512 * n + 384 + c := by omega
        rcases this with rfl | rfl | rfl | rfl <;> assumption
    · rintro ⟨h0, h⟩
      refine ⟨⟨⟨⟨⟨h0, fun i hi => h i ?_⟩, h _ ?_⟩, h _ ?_⟩, h _ ?_⟩, h _ ?_⟩
      · rw [mem_seen hc] at hi ⊢; omega
      all_goals rw [mem_seen hc]; omega

/-- The running sum IS the sum, over every logit seen, of the exponentials relative to the running maximum. -/
theorem lAt_eq (low : EReal) (hlow : low ≠ ⊥) (L : ℕ → EReal) {c : ℕ} (hc : c < 128) (n : ℕ) :
    lAt low L c n = ∑ i ∈ seen c n, Ideal.exp (L i - mAt low L c n) := by
  induction n with
  | zero => simp [lAt, seen]
  | succ n ih =>
    have hle := (mAt_le_iff low L hc n (mAt low L c n)).1 le_rfl
    have hm : mAt low L c n ≤ mAt low L c (n + 1) := by
      rw [mAt_le_iff low L hc]
      have h1 := (mAt_le_iff low L hc (n + 1) (mAt low L c (n + 1))).1 le_rfl
      exact ⟨h1.1, fun i hi => h1.2 i (by rw [mem_seen hc] at hi ⊢; omega)⟩
    rw [seen_succ, ← rescale (seen c n) L (mAt low L c n) (mAt low L c (n + 1))
      (fun e => hlow (le_bot_iff.1 (e ▸ hle.1))) hm hle.2, ← ih]
    rfl

/-- The lane's target logit is the target's, if the lane has met it. -/
theorem tAt_eq (L : ℕ → EReal) (g : ℕ) {c : ℕ} (hc : c < 128) (n : ℕ) :
    tAt L g c n = if g < 512 * n ∧ g % 128 = c then L g else 0 := by
  induction n with
  | zero => simp [tAt]
  | succ n ih =>
    simp only [tAt, ih]
    by_cases h3 : g = 512 * n + 384 + c
    · rw [if_pos h3, if_pos (by omega), h3]
    rw [if_neg h3]
    by_cases h2 : g = 512 * n + 256 + c
    · rw [if_pos h2, if_pos (by omega), h2]
    rw [if_neg h2]
    by_cases h1 : g = 512 * n + 128 + c
    · rw [if_pos h1, if_pos (by omega), h1]
    rw [if_neg h1]
    by_cases h0 : g = 512 * n + c
    · rw [if_pos h0, if_pos (by omega), h0]
    rw [if_neg h0]
    by_cases hg : g < 512 * n ∧ g % 128 = c
    · rw [if_pos hg, if_pos (by omega)]
    · rw [if_neg hg, if_neg (by omega)]

/-- Summed over the lanes, the target logits make the target's logit, if the tiles held it, else zero. -/
theorem sum_tAt (L : ℕ → EReal) (g n : ℕ) :
    ∑ c : Fin 128, tAt L g c.val n = if g < 512 * n then L g else 0 := by
  rw [Finset.sum_congr rfl (fun c _ => tAt_eq L g c.isLt n)]
  by_cases hg : g < 512 * n
  · rw [if_pos hg, Finset.sum_eq_single (⟨g % 128, Nat.mod_lt _ (by norm_num)⟩ : Fin 128)]
    · rw [if_pos ⟨hg, rfl⟩]
    · intro b _ hb; rw [if_neg]; rintro ⟨-, h⟩; exact hb (Fin.ext h.symm)
    · intro h; exact absurd (Finset.mem_univ _) h
  · rw [if_neg hg]; exact Finset.sum_eq_zero fun c _ => if_neg fun h => hg h.1

/-- A sum over the lanes of sums over what each lane saw is the sum over all columns. -/
theorem sum_seen (n : ℕ) (f : ℕ → EReal) :
    ∑ c : Fin 128, ∑ i ∈ seen c.val n, f i = ∑ i ∈ Finset.range (512 * n), f i := by
  have : ∀ c : Fin 128, seen c.val n = (Finset.range (512 * n)).filter fun i => (⟨i % 128, Nat.mod_lt _ (by norm_num)⟩ : Fin 128) = c := by
    intro c; ext i
    rw [mem_seen c.isLt, Finset.mem_filter, Finset.mem_range, Fin.ext_iff]
  simp only [this]
  exact Finset.sum_fiberwise (Finset.range (512 * n)) (fun i => (⟨i % 128, Nat.mod_lt _ (by norm_num)⟩ : Fin 128)) f

/-- ONE TIER. The lanes' maxima and sums, brought together relative to the largest maximum `top`, make the
    log-sum-exp of all the logits. `low` is any real starting value. -/
theorem tier_lse (low : EReal) (hlow : low ≠ ⊥) (hlow' : low ≠ ⊤) (L : ℕ → EReal) (n : ℕ) (top : EReal)
    (htop : ∀ c : Fin 128, mAt low L c.val n ≤ top) (hle : ∀ z, (∀ c : Fin 128, mAt low L c.val n ≤ z) → top ≤ z) :
    top + Ideal.log (∑ c : Fin 128, lAt low L c.val n * Ideal.exp (mAt low L c.val n - top)) =
      lse (Finset.range (512 * n)) L := by
  have e : ∀ c : Fin 128, lAt low L c.val n * Ideal.exp (mAt low L c.val n - top) =
      ∑ i ∈ seen c.val n, Ideal.exp (L i - top) := by
    intro c
    have hc := (mAt_le_iff low L c.isLt n (mAt low L c.val n)).1 le_rfl
    rw [lAt_eq low hlow L c.isLt n, rescale _ L _ top (fun e => hlow (le_bot_iff.1 (e ▸ hc.1))) (htop c) hc.2]
  rw [Finset.sum_congr rfl (fun c _ => e c), sum_seen]
  refine lse_eq _ _ _ (fun i hi => ?_) (fun et => ?_)
  · have hi' := Finset.mem_range.1 hi
    have hcl : i % 128 < 128 := Nat.mod_lt _ (by norm_num)
    refine le_trans ?_ (htop ⟨i % 128, hcl⟩)
    exact ((mAt_le_iff low L hcl n _).1 le_rfl).2 i ((mem_seen hcl).2 ⟨hi', rfl⟩)
  · by_contra hno
    have hno : ∀ i ∈ Finset.range (512 * n), L i ≠ ⊤ := fun i hi e => hno ⟨i, hi, e⟩
    have hfin : ∀ S : Finset ℕ, (∀ i ∈ S, L i ≠ ⊤) → ∃ z : EReal, z ≠ ⊤ ∧ low ≤ z ∧ ∀ i ∈ S, L i ≤ z := by
      intro S
      induction S using Finset.induction_on with
      | empty => intro _; exact ⟨low, hlow', le_rfl, by simp⟩
      | insert a S _ ih =>
        intro h
        obtain ⟨z, h1, h2, h3⟩ := ih fun i hi => h i (Finset.mem_insert_of_mem hi)
        refine ⟨max z (L a), ?_, le_trans h2 (le_max_left _ _), fun i hi => ?_⟩
        · rcases max_choice z (L a) with e | e <;> rw [e]
          · exact h1
          · exact h a (Finset.mem_insert_self a S)
        · rcases Finset.mem_insert.1 hi with rfl | hi
          · exact le_max_right _ _
          · exact le_trans (h3 i hi) (le_max_left _ _)
    obtain ⟨z, h1, h2, h3⟩ := hfin (Finset.range (512 * n)) hno
    refine h1 (top_le_iff.1 (et ▸ hle z fun c => ?_))
    rw [mAt_le_iff low L c.isLt]
    exact ⟨h2, fun i hi => h3 i (Finset.mem_range.2 ((mem_seen c.isLt).1 hi).1)⟩

end Cert.Hand

end
-- ==== Proof.Tier.lean ====
module

public import proofs.«01_k».proof.Proof.Gen.KernelIdeal.Skeleton
public import proofs.«01_k».proof.Proof.Math
public import Idealize.ShloMosaic.Lib.Pointwise
public import Idealize.ShloMosaic.Lib.Pipeline.ReadBack

@[expose] public section

noncomputable section

namespace Cert.Hand

open Idealize.ShloMosaic Idealize.ShloMosaic.TcCoe Cert.KernelIdeal Cert.KernelIdeal.Gen

/-- The logit of group `j` of 128 columns at an entry `y` (row, lane) of the lane arrays: the row's activations against
    the weight column `128 j + lane` of the tile, times that column's scale. -/
def lg (X : Vec Ideal S3072x2560 .bf16) (W : Vec Ideal S512x2560 .bf16) (s : Vec Ideal S1x1x512 .f32) (j : Fin 4)
    (y : S3072x128.Idx) : EReal :=
  (∑ k : Fin 2560, X (ix2 (y 0) k) * W (ix2 (⟨128 * j.val + (y 1).val, by have := (y 1).isLt; have h : (S3072x128.size 1) = 128 := rfl; omega⟩ : Fin 512) k)) *
    s (ix3 0 0 (⟨128 * j.val + (y 1).val, by have := (y 1).isLt; have h : (S3072x128.size 1) = 128 := rfl; omega⟩ : Fin 512))

/-- One tile's new lane maxima. -/
def mStep (L : Fin 4 → S3072x128.Idx → EReal) (M : S3072x128.Idx → EReal) (y : S3072x128.Idx) : EReal :=
  max (max (max (max (M y) (L 0 y)) (L 1 y)) (L 2 y)) (L 3 y)

/-- One tile's new lane sums. -/
def lStep (L : Fin 4 → S3072x128.Idx → EReal) (M A : S3072x128.Idx → EReal) (y : S3072x128.Idx) : EReal :=
  A y * Ideal.exp (M y - mStep L M y) + Ideal.exp (L 0 y - mStep L M y) + Ideal.exp (L 1 y - mStep L M y)
    + Ideal.exp (L 2 y - mStep L M y) + Ideal.exp (L 3 y - mStep L M y)

/-- One tile's new lane target logits: `n` is the tile, `g` the target columns. -/
def tStep (L : Fin 4 → S3072x128.Idx → EReal) (n : BitVec 32) (g : S3072x128.Idx → BitVec 32) (T : S3072x128.Idx → EReal)
    (y : S3072x128.Idx) : EReal :=
  if g y - n * 512#32 - BitVec.ofNat 32 (y 1).val = 384#32 then L 3 y
  else if g y - n * 512#32 - BitVec.ofNat 32 (y 1).val = 256#32 then L 2 y
  else if g y - n * 512#32 - BitVec.ofNat 32 (y 1).val = 128#32 then L 1 y
  else if g y - n * 512#32 - BitVec.ofNat 32 (y 1).val = 0#32 then L 0 y
  else T y

/-- Row and lane of an entry of the row block that starts at row `o`. -/
theorem emb_row (o : ℕ) (h : ∀ a, (![o, 0] : Fin 2 → ℕ) a + (![512, 128] : Fin 2 → ℕ) a ≤ S3072x128.size a) (x : S512x128.Idx) :
    ((Rect.unit (s := S3072x128) ![o, 0] ![512, 128] h).emb x 0).val = o + (x 0).val := by
  show o + 1 * (x 0).val = _; rw [one_mul]

theorem emb_lane (o : ℕ) (h : ∀ a, (![o, 0] : Fin 2 → ℕ) a + (![512, 128] : Fin 2 → ℕ) a ≤ S3072x128.size a) (x : S512x128.Idx) :
    ((Rect.unit (s := S3072x128) ![o, 0] ![512, 128] h).emb x 1).val = (x 1).val := by
  show 0 + 1 * (x 1).val = _; rw [one_mul, zero_add]

/-- The weights as stored to the scratch buffer are the weights. -/
theorem stored_weights (w : Vec Ideal S512x2560 .fp8e4m3) : k0_pay4 (F := Ideal) w = w := by
  funext x
  unfold_payloads
  pointwise

/-- Integer weights as the numbers they stand for. -/
def midWeights (w : Vec Ideal S512x2560 .i8) : Vec Ideal S512x2560 .bf16 := fun y => (((w y).toInt : ℝ) : EReal)

/-- The integer weights as stored to the scratch buffer are the numbers they stand for. -/
theorem stored_weights1 (w : Vec Ideal S512x2560 .i8) : k1_pay4 (F := Ideal) w = midWeights w := by
  funext x
  unfold midWeights
  unfold_payloads
  pointwise
  rfl

section
variable (X : Vec Ideal S3072x2560 .bf16) (W : Vec Ideal S512x2560 .bf16) (s : Vec Ideal S1x1x512 .f32)
variable (M A T : Vec Ideal S3072x128 .f32) (g : Vec Ideal S3072x128 .i32)
variable (o : ℕ) (hX : ∀ a, (![o, 0] : Fin 2 → ℕ) a + (![512, 2560] : Fin 2 → ℕ) a ≤ S3072x2560.size a)
variable (h : ∀ a, (![o, 0] : Fin 2 → ℕ) a + (![512, 128] : Fin 2 → ℕ) a ≤ S3072x128.size a)
variable (h0 : ∀ a, (![0, 0, 0] : Fin 3 → ℕ) a + (![1, 1, 128] : Fin 3 → ℕ) a ≤ S1x1x512.size a)
variable (h1 : ∀ a, (![0, 0, 128] : Fin 3 → ℕ) a + (![1, 1, 128] : Fin 3 → ℕ) a ≤ S1x1x512.size a)
variable (h2 : ∀ a, (![0, 0, 256] : Fin 3 → ℕ) a + (![1, 1, 128] : Fin 3 → ℕ) a ≤ S1x1x512.size a)
variable (h3 : ∀ a, (![0, 0, 384] : Fin 3 → ℕ) a + (![1, 1, 128] : Fin 3 → ℕ) a ≤ S1x1x512.size a)

/-- The body's logits of lane group 0 in the row block that starts at row `o`. -/
theorem lg0_piece (x : S512x128.Idx) :
    k0_pay6 (F := Ideal) (View.ld (Val := Elt Ideal) X (Rect.unit ![o, 0] ![512, 2560] hX)) W
        (View.ld (Val := Elt Ideal) s (Rect.unit ![0, 0, 0] ![1, 1, 128] h0)) x
      = lg X W s 0 ((Rect.unit (s := S3072x128) ![o, 0] ![512, 128] h).emb x) := by
  have e0 := emb_row o h x
  have e1 := emb_lane o h x
  unfold lg
  unfold_payloads
  pointwise
  congr 1
  · refine Finset.sum_congr rfl fun k _ => ?_
    congr 2
    · congr 1; exact Fin.ext e0.symm
    · congr 1; exact Fin.ext (by simp only [e1]; try rfl)
  · congr 2; exact Fin.ext (by simp only [e1]; try rfl)

/-- The body's logits of lane group 1 in the row block that starts at row `o`. -/
theorem lg1_piece (x : S512x128.Idx) :
    k0_pay7 (F := Ideal) (View.ld (Val := Elt Ideal) X (Rect.unit ![o, 0] ![512, 2560] hX)) W
        (View.ld (Val := Elt Ideal) s (Rect.unit ![0, 0, 128] ![1, 1, 128] h1)) x
      = lg X W s 1 ((Rect.unit (s := S3072x128) ![o, 0] ![512, 128] h).emb x) := by
  have e0 := emb_row o h x
  have e1 := emb_lane o h x
  unfold lg
  unfold_payloads
  pointwise
  congr 1
  · refine Finset.sum_congr rfl fun k _ => ?_
    congr 2
    · congr 1; exact Fin.ext e0.symm
    · congr 1; exact Fin.ext (by simp only [e1]; try rfl)
  · congr 2; exact Fin.ext (by simp only [e1]; try rfl)

/-- The body's logits of lane group 2 in the row block that starts at row `o`. -/
theorem lg2_piece (x : S512x128.Idx) :
    k0_pay8 (F := Ideal) (View.ld (Val := Elt Ideal) X (Rect.unit ![o, 0] ![512, 2560] hX)) W
        (View.ld (Val := Elt Ideal) s (Rect.unit ![0, 0, 256] ![1, 1, 128] h2)) x
      = lg X W s 2 ((Rect.unit (s := S3072x128) ![o, 0] ![512, 128] h).emb x) := by
  have e0 := emb_row o h x
  have e1 := emb_lane o h x
  unfold lg
  unfold_payloads
  pointwise
  congr 1
  · refine Finset.sum_congr rfl fun k _ => ?_
    congr 2
    · congr 1; exact Fin.ext e0.symm
    · congr 1; exact Fin.ext (by simp only [e1]; try rfl)
  · congr 2; exact Fin.ext (by simp only [e1]; try rfl)

/-- The body's logits of lane group 3 in the row block that starts at row `o`. -/
theorem lg3_piece (x : S512x128.Idx) :
    k0_pay9 (F := Ideal) (View.ld (Val := Elt Ideal) X (Rect.unit ![o, 0] ![512, 2560] hX)) W
        (View.ld (Val := Elt Ideal) s (Rect.unit ![0, 0, 384] ![1, 1, 128] h3)) x
      = lg X W s 3 ((Rect.unit (s := S3072x128) ![o, 0] ![512, 128] h).emb x) := by
  have e0 := emb_row o h x
  have e1 := emb_lane o h x
  unfold lg
  unfold_payloads
  pointwise
  congr 1
  · refine Finset.sum_congr rfl fun k _ => ?_
    congr 2
    · congr 1; exact Fin.ext e0.symm
    · congr 1; exact Fin.ext (by simp only [e1]; try rfl)
  · congr 2; exact Fin.ext (by simp only [e1]; try rfl)

/-- What the body stores as the row block's lane maxima. -/
theorem m_piece (x : S512x128.Idx) :
    k0_pay11 (F := Ideal)
      (k0_pay6 (F := Ideal) (View.ld (Val := Elt Ideal) X (Rect.unit ![o, 0] ![512, 2560] hX)) W (View.ld (Val := Elt Ideal) s (Rect.unit ![0, 0, 0] ![1, 1, 128] h0)))
      (k0_pay7 (F := Ideal) (View.ld (Val := Elt Ideal) X (Rect.unit ![o, 0] ![512, 2560] hX)) W (View.ld (Val := Elt Ideal) s (Rect.unit ![0, 0, 128] ![1, 1, 128] h1)))
      (k0_pay8 (F := Ideal) (View.ld (Val := Elt Ideal) X (Rect.unit ![o, 0] ![512, 2560] hX)) W (View.ld (Val := Elt Ideal) s (Rect.unit ![0, 0, 256] ![1, 1, 128] h2)))
      (k0_pay9 (F := Ideal) (View.ld (Val := Elt Ideal) X (Rect.unit ![o, 0] ![512, 2560] hX)) W (View.ld (Val := Elt Ideal) s (Rect.unit ![0, 0, 384] ![1, 1, 128] h3)))
      (View.ld (Val := Elt Ideal) M (Rect.unit ![o, 0] ![512, 128] h)) x
      = mStep (lg X W s) M ((Rect.unit (s := S3072x128) ![o, 0] ![512, 128] h).emb x) := by
  unfold mStep
  rw [← lg0_piece X W s o hX h h0, ← lg1_piece X W s o hX h h1, ← lg2_piece X W s o hX h h2, ← lg3_piece X W s o hX h h3]
  unfold k0_pay11 k0_pay10
  rw [shapeCast_self]
  rfl

/-- What the body stores as the row block's lane sums. -/
theorem l_piece (x : S512x128.Idx) :
    k0_pay12 (F := Ideal)
      (k0_pay6 (F := Ideal) (View.ld (Val := Elt Ideal) X (Rect.unit ![o, 0] ![512, 2560] hX)) W (View.ld (Val := Elt Ideal) s (Rect.unit ![0, 0, 0] ![1, 1, 128] h0)))
      (k0_pay7 (F := Ideal) (View.ld (Val := Elt Ideal) X (Rect.unit ![o, 0] ![512, 2560] hX)) W (View.ld (Val := Elt Ideal) s (Rect.unit ![0, 0, 128] ![1, 1, 128] h1)))
      (k0_pay8 (F := Ideal) (View.ld (Val := Elt Ideal) X (Rect.unit ![o, 0] ![512, 2560] hX)) W (View.ld (Val := Elt Ideal) s (Rect.unit ![0, 0, 256] ![1, 1, 128] h2)))
      (k0_pay9 (F := Ideal) (View.ld (Val := Elt Ideal) X (Rect.unit ![o, 0] ![512, 2560] hX)) W (View.ld (Val := Elt Ideal) s (Rect.unit ![0, 0, 384] ![1, 1, 128] h3)))
      (View.ld (Val := Elt Ideal) M (Rect.unit ![o, 0] ![512, 128] h))
      (View.ld (Val := Elt Ideal) A (Rect.unit ![o, 0] ![512, 128] h)) x
      = lStep (lg X W s) M A ((Rect.unit (s := S3072x128) ![o, 0] ![512, 128] h).emb x) := by
  unfold lStep
  rw [← m_piece X W s M o hX h h0 h1 h2 h3, ← lg0_piece X W s o hX h h0, ← lg1_piece X W s o hX h h1,
    ← lg2_piece X W s o hX h h2, ← lg3_piece X W s o hX h h3]
  unfold k0_pay12 k0_pay10
  simp only [shapeCast_self]
  rfl

/-- What the body stores as the row block's lane target logits. -/
theorem t_piece (n : BitVec 32) (x : S512x128.Idx) :
    k0_pay13 (F := Ideal) n (iota Kind.tc S512x128 32 [1] iota_S512x128_d1_w32)
      (k0_pay6 (F := Ideal) (View.ld (Val := Elt Ideal) X (Rect.unit ![o, 0] ![512, 2560] hX)) W (View.ld (Val := Elt Ideal) s (Rect.unit ![0, 0, 0] ![1, 1, 128] h0)))
      (k0_pay7 (F := Ideal) (View.ld (Val := Elt Ideal) X (Rect.unit ![o, 0] ![512, 2560] hX)) W (View.ld (Val := Elt Ideal) s (Rect.unit ![0, 0, 128] ![1, 1, 128] h1)))
      (k0_pay8 (F := Ideal) (View.ld (Val := Elt Ideal) X (Rect.unit ![o, 0] ![512, 2560] hX)) W (View.ld (Val := Elt Ideal) s (Rect.unit ![0, 0, 256] ![1, 1, 128] h2)))
      (k0_pay9 (F := Ideal) (View.ld (Val := Elt Ideal) X (Rect.unit ![o, 0] ![512, 2560] hX)) W (View.ld (Val := Elt Ideal) s (Rect.unit ![0, 0, 384] ![1, 1, 128] h3)))
      (View.ld (Val := Elt Ideal) g (Rect.unit ![o, 0] ![512, 128] h))
      (View.ld (Val := Elt Ideal) T (Rect.unit ![o, 0] ![512, 128] h)) x
      = tStep (lg X W s) n g T ((Rect.unit (s := S3072x128) ![o, 0] ![512, 128] h).emb x) := by
  unfold tStep
  rw [emb_lane, ← lg0_piece X W s o hX h h0, ← lg1_piece X W s o hX h h1, ← lg2_piece X W s o hX h h2,
    ← lg3_piece X W s o hX h h3]
  unfold k0_pay13
  simp only [shapeCast_self]
  generalize (k0_pay6 (F := Ideal) (View.ld (Val := Elt Ideal) X (Rect.unit ![o, 0] ![512, 2560] hX)) W (View.ld (Val := Elt Ideal) s (Rect.unit ![0, 0, 0] ![1, 1, 128] h0))) = l0
  generalize (k0_pay7 (F := Ideal) (View.ld (Val := Elt Ideal) X (Rect.unit ![o, 0] ![512, 2560] hX)) W (View.ld (Val := Elt Ideal) s (Rect.unit ![0, 0, 128] ![1, 1, 128] h1))) = l1
  generalize (k0_pay8 (F := Ideal) (View.ld (Val := Elt Ideal) X (Rect.unit ![o, 0] ![512, 2560] hX)) W (View.ld (Val := Elt Ideal) s (Rect.unit ![0, 0, 256] ![1, 1, 128] h2))) = l2
  generalize (k0_pay9 (F := Ideal) (View.ld (Val := Elt Ideal) X (Rect.unit ![o, 0] ![512, 2560] hX)) W (View.ld (Val := Elt Ideal) s (Rect.unit ![0, 0, 384] ![1, 1, 128] h3))) = l3
  generalize hg : View.ld (Val := Elt Ideal) g (Rect.unit ![o, 0] ![512, 128] h) = gv
  generalize hT : View.ld (Val := Elt Ideal) T (Rect.unit ![o, 0] ![512, 128] h) = Tv
  have sel : ∀ (a b : BitVec 32) (u v : EReal), Scalar.select (IntOp.cmpi CmpIPredicate.eq a b) u v = if a = b then u else v := by
    intro a b u v
    by_cases e : a = b
    · subst e; rw [if_pos rfl]; simp [Scalar.select, IntOp.cmpi]
    · rw [if_neg e]
      have eb : (a == b) = false := by simpa using e
      simp [Scalar.select, IntOp.cmpi, eb]
  pointwise [sel]
  subst hg hT
  rfl
end
end Cert.Hand
-- ==== Proof.Steps.lean ====
module

public import proofs.«01_k».proof.Proof.Tier

@[expose] public section

noncomputable section

namespace Cert.Hand

open Idealize.ShloMosaic Idealize.ShloMosaic.TcCoe Cert.KernelIdeal Cert.KernelIdeal.Gen

/-- The lowest finite number, where the running maxima start. -/
def low : EReal := Scalar.ofBits (F := Ideal) .f32 0xFF7FFFFF#32

/-- Wrapping differences name the column: within range, `g` less the tile's first column less the lane is `d` exactly when
    `g` is the column. -/
theorem column_test (g : BitVec 32) (n c d : ℕ) (h : 512 * n + d + c < 2 ^ 32) :
    g - BitVec.ofNat 32 n * 512#32 - BitVec.ofNat 32 c = BitVec.ofNat 32 d ↔ g.toNat = 512 * n + d + c := by
  have hg := g.isLt
  constructor
  · intro e
    have e := congrArg BitVec.toNat e
    simp only [BitVec.toNat_sub, BitVec.toNat_mul, BitVec.toNat_ofNat] at e
    omega
  · intro e
    apply BitVec.eq_of_toNat_eq
    simp only [BitVec.toNat_sub, BitVec.toNat_mul, BitVec.toNat_ofNat]
    omega

variable (Lr : Fin 3072 → ℕ → EReal) (Lg : Fin 4 → S3072x128.Idx → EReal) (n : ℕ)

/-- The state of the lanes after `n` tiles of the logits `Lr`. -/
def mLane (y : S3072x128.Idx) : EReal := mAt low (Lr (y 0)) (y 1).val n
def lLane (y : S3072x128.Idx) : EReal := lAt low (Lr (y 0)) (y 1).val n
def tLane (g : S3072x128.Idx → BitVec 32) (y : S3072x128.Idx) : EReal := tAt (Lr (y 0)) (g y).toNat (y 1).val n

variable (h : ∀ (j : Fin 4) (y : S3072x128.Idx), Lg j y = Lr (y 0) (512 * n + 128 * j.val + (y 1).val))
include h

/-- One tile takes the lane maxima after `n` tiles to those after `n + 1`. -/
theorem mStep_at : mStep Lg (mLane Lr n) = mLane Lr (n + 1) := by
  funext y
  unfold mStep mLane
  rw [h, h, h, h]
  rfl

/-- One tile takes the lane sums after `n` tiles to those after `n + 1`. -/
theorem lStep_at : lStep Lg (mLane Lr n) (lLane Lr n) = lLane Lr (n + 1) := by
  funext y
  unfold lStep
  rw [mStep_at Lr Lg n h, h, h, h, h]
  rfl

/-- One tile takes the lane target logits after `n` tiles to those after `n + 1`. -/
theorem tStep_at (hn : n < 1048576) (g : S3072x128.Idx → BitVec 32) :
    tStep Lg (BitVec.ofNat 32 n) g (tLane Lr n g) = tLane Lr (n + 1) g := by
  funext y
  have hy : (y 1).val < 128 := (y 1).isLt
  unfold tStep
  simp only [h, column_test (g y) n (y 1).val 384 (by omega), column_test (g y) n (y 1).val 256 (by omega),
    column_test (g y) n (y 1).val 128 (by omega), column_test (g y) n (y 1).val 0 (by omega)]
  rfl

end Cert.Hand
-- ==== Proof.Tile0.lean ====
module

public import proofs.«01_k».proof.Proof.Gen.KernelIdeal.Frame.Region0
public import proofs.«01_k».proof.Proof.Tier

@[expose] public section

set_option maxRecDepth 16384

noncomputable section

namespace Cert.Hand

open Idealize.ShloMosaic Idealize.ShloMosaic.TcCoe Idealize.ShloMosaic.Tactic Cert.KernelIdeal Cert.KernelIdeal.Gen

set_option maxHeartbeats 1000000 in
/-- Every tile but the first leaves the lane maxima one step on from what they were. -/
theorem out0_B_4_eq (c : Dev nD) (i : grid0.Coords) (arg1 : Memref sig .tc .vmem S3072x2560 .bf16) (harg1 : arg1.IsWhole) (arg2 : Memref sig .tc .vmem S512x2560 .fp8e4m3) (harg2 : arg2.IsWhole) (arg3 : Memref sig .tc .vmem S1x1x512 .f32) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : ¬cond0_0 i)
    (x0 : Vec Ideal S3072x2560 .bf16) (x1 : Vec Ideal S512x2560 .fp8e4m3) (x2 : Vec Ideal S1x1x512 .f32) (x3 : Vec Ideal S3072x128 .i32) (xo4 : Vec Ideal S3072x128 .f32) (xo5 : Vec Ideal S3072x128 .f32) (xo6 : Vec Ideal S3072x128 .f32) :
    out0_B_4 c i arg1 harg1 arg2 harg2 arg3 harg3 arg4 harg4 arg5 harg5 arg6 harg6 arg7 harg7 arg8 harg8 hc0 x0 x1 x2 x3 xo4 xo5 xo6 = mStep (lg x0 x1 x2) xo4 := by
  have hz : (![0, 0] : Fin 2 → ℕ) = fun _ => 0 := by decide
  unfold out0_B_4; rw [View.read_writes_junk_eq_canon]; unfold kernelRun0_B; dsimp only; sl_unfold_words
  simp only [View.readAt_eq_ld, harg1.read_unread, harg2.read_unread, harg3.read_unread, harg4.read_unread, harg5.read_unread, harg6.read_unread, harg7.read_unread]
  simp only [View.readCov_unit_zero (S := S512x2560) _ hz, View.ld_unit_zero (S := S512x2560) hz, stored_weights]
  funext y
  refine View.canon_apply_of_pieces (Val := Elt Ideal) (e := .f32) (mStep (lg x0 x1 x2) xo4) _ (View.PiecesOf.mem ?_) y ?_
  · exact ⟨fun x => m_piece x0 x1 x2 xo4 2560 _ _ _ _ _ _ x, fun x => m_piece x0 x1 x2 xo4 2048 _ _ _ _ _ _ x, fun x => m_piece x0 x1 x2 xo4 1536 _ _ _ _ _ _ x, fun x => m_piece x0 x1 x2 xo4 1024 _ _ _ _ _ _ x, fun x => m_piece x0 x1 x2 xo4 512 _ _ _ _ _ _ x, fun x => m_piece x0 x1 x2 xo4 0 _ _ _ _ _ _ x, trivial⟩
  · exact View.cover_of_tiledL (s := S3072x128) _ S512x128.size (by sl_kernel_rfl) y

set_option maxHeartbeats 1000000 in
/-- Every tile but the first leaves the lane sums one step on from what they were. -/
theorem out0_B_5_eq (c : Dev nD) (i : grid0.Coords) (arg1 : Memref sig .tc .vmem S3072x2560 .bf16) (harg1 : arg1.IsWhole) (arg2 : Memref sig .tc .vmem S512x2560 .fp8e4m3) (harg2 : arg2.IsWhole) (arg3 : Memref sig .tc .vmem S1x1x512 .f32) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : ¬cond0_0 i)
    (x0 : Vec Ideal S3072x2560 .bf16) (x1 : Vec Ideal S512x2560 .fp8e4m3) (x2 : Vec Ideal S1x1x512 .f32) (x3 : Vec Ideal S3072x128 .i32) (xo4 : Vec Ideal S3072x128 .f32) (xo5 : Vec Ideal S3072x128 .f32) (xo6 : Vec Ideal S3072x128 .f32) :
    out0_B_5 c i arg1 harg1 arg2 harg2 arg3 harg3 arg4 harg4 arg5 harg5 arg6 harg6 arg7 harg7 arg8 harg8 hc0 x0 x1 x2 x3 xo4 xo5 xo6 = lStep (lg x0 x1 x2) xo4 xo5 := by
  have hz : (![0, 0] : Fin 2 → ℕ) = fun _ => 0 := by decide
  unfold out0_B_5; rw [View.read_writes_junk_eq_canon]; unfold kernelRun0_B; dsimp only; sl_unfold_words
  simp only [View.readAt_eq_ld, harg1.read_unread, harg2.read_unread, harg3.read_unread, harg4.read_unread, harg5.read_unread, harg6.read_unread, harg7.read_unread]
  simp only [View.readCov_unit_zero (S := S512x2560) _ hz, View.ld_unit_zero (S := S512x2560) hz, stored_weights]
  funext y
  refine View.canon_apply_of_pieces (Val := Elt Ideal) (e := .f32) (lStep (lg x0 x1 x2) xo4 xo5) _ (View.PiecesOf.mem ?_) y ?_
  · exact ⟨fun x => l_piece x0 x1 x2 xo4 xo5 2560 _ _ _ _ _ _ x, fun x => l_piece x0 x1 x2 xo4 xo5 2048 _ _ _ _ _ _ x, fun x => l_piece x0 x1 x2 xo4 xo5 1536 _ _ _ _ _ _ x, fun x => l_piece x0 x1 x2 xo4 xo5 1024 _ _ _ _ _ _ x, fun x => l_piece x0 x1 x2 xo4 xo5 512 _ _ _ _ _ _ x, fun x => l_piece x0 x1 x2 xo4 xo5 0 _ _ _ _ _ _ x, trivial⟩
  · exact View.cover_of_tiledL (s := S3072x128) _ S512x128.size (by sl_kernel_rfl) y

set_option maxHeartbeats 1000000 in
/-- Every tile but the first leaves the lane target logits one step on from what they were. -/
theorem out0_B_6_eq (c : Dev nD) (i : grid0.Coords) (arg1 : Memref sig .tc .vmem S3072x2560 .bf16) (harg1 : arg1.IsWhole) (arg2 : Memref sig .tc .vmem S512x2560 .fp8e4m3) (harg2 : arg2.IsWhole) (arg3 : Memref sig .tc .vmem S1x1x512 .f32) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : ¬cond0_0 i)
    (x0 : Vec Ideal S3072x2560 .bf16) (x1 : Vec Ideal S512x2560 .fp8e4m3) (x2 : Vec Ideal S1x1x512 .f32) (x3 : Vec Ideal S3072x128 .i32) (xo4 : Vec Ideal S3072x128 .f32) (xo5 : Vec Ideal S3072x128 .f32) (xo6 : Vec Ideal S3072x128 .f32) :
    out0_B_6 c i arg1 harg1 arg2 harg2 arg3 harg3 arg4 harg4 arg5 harg5 arg6 harg6 arg7 harg7 arg8 harg8 hc0 x0 x1 x2 x3 xo4 xo5 xo6 = tStep (lg x0 x1 x2) (BitVec.ofNat 32 (i 0).val) x3 xo6 := by
  have hz : (![0, 0] : Fin 2 → ℕ) = fun _ => 0 := by decide
  unfold out0_B_6; rw [View.read_writes_junk_eq_canon]; unfold kernelRun0_B; dsimp only; sl_unfold_words
  simp only [View.readAt_eq_ld, harg1.read_unread, harg2.read_unread, harg3.read_unread, harg4.read_unread, harg5.read_unread, harg6.read_unread, harg7.read_unread]
  simp only [View.readCov_unit_zero (S := S512x2560) _ hz, View.ld_unit_zero (S := S512x2560) hz, stored_weights]
  funext y
  refine View.canon_apply_of_pieces (Val := Elt Ideal) (e := .f32) (tStep (lg x0 x1 x2) (BitVec.ofNat 32 (i 0).val) x3 xo6) _ (View.PiecesOf.mem ?_) y ?_
  · exact ⟨fun x => t_piece x0 x1 x2 xo6 x3 2560 _ _ _ _ _ _ _ x, fun x => t_piece x0 x1 x2 xo6 x3 2048 _ _ _ _ _ _ _ x, fun x => t_piece x0 x1 x2 xo6 x3 1536 _ _ _ _ _ _ _ x, fun x => t_piece x0 x1 x2 xo6 x3 1024 _ _ _ _ _ _ _ x, fun x => t_piece x0 x1 x2 xo6 x3 512 _ _ _ _ _ _ _ x, fun x => t_piece x0 x1 x2 xo6 x3 0 _ _ _ _ _ _ _ x, trivial⟩
  · exact View.cover_of_tiledL (s := S3072x128) _ S512x128.size (by sl_kernel_rfl) y

set_option maxHeartbeats 1000000 in
/-- The first tile leaves the lane maxima one step on from their starting value. -/
theorem out0_A_4_eq (c : Dev nD) (i : grid0.Coords) (arg1 : Memref sig .tc .vmem S3072x2560 .bf16) (harg1 : arg1.IsWhole) (arg2 : Memref sig .tc .vmem S512x2560 .fp8e4m3) (harg2 : arg2.IsWhole) (arg3 : Memref sig .tc .vmem S1x1x512 .f32) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : cond0_0 i)
    (x0 : Vec Ideal S3072x2560 .bf16) (x1 : Vec Ideal S512x2560 .fp8e4m3) (x2 : Vec Ideal S1x1x512 .f32) (x3 : Vec Ideal S3072x128 .i32) :
    out0_A_4 c i arg1 harg1 arg2 harg2 arg3 harg3 arg4 harg4 arg5 harg5 arg6 harg6 arg7 harg7 arg8 harg8 hc0 x0 x1 x2 x3 = mStep (lg x0 x1 x2) (k0_pay1 (F := Ideal)) := by
  have hz : (![0, 0] : Fin 2 → ℕ) = fun _ => 0 := by decide
  unfold out0_A_4; rw [View.read_writes_junk_eq_canon]; unfold kernelRun0_A; dsimp only; sl_unfold_words
  simp only [View.readAt_eq_ld, harg1.read_unread, harg2.read_unread, harg3.read_unread, harg4.read_unread]
  simp only [View.readCov_unit_zero (S := S512x2560) _ hz, View.ld_unit_zero (S := S512x2560) hz, stored_weights]
  simp (disch := decide) only [↓ View.readCov_skip, ↓ View.readCov_fill]
  funext y
  refine View.canon_append_of_piecesOf (Val := Elt Ideal) (e := .f32) (mStep (lg x0 x1 x2) (k0_pay1 (F := Ideal))) [_] [_, _, _, _, _, _] ?_ y ?_
  · exact ⟨fun x => m_piece x0 x1 x2 (k0_pay1 (F := Ideal)) 2560 _ _ _ _ _ _ x, fun x => m_piece x0 x1 x2 (k0_pay1 (F := Ideal)) 2048 _ _ _ _ _ _ x, fun x => m_piece x0 x1 x2 (k0_pay1 (F := Ideal)) 1536 _ _ _ _ _ _ x, fun x => m_piece x0 x1 x2 (k0_pay1 (F := Ideal)) 1024 _ _ _ _ _ _ x, fun x => m_piece x0 x1 x2 (k0_pay1 (F := Ideal)) 512 _ _ _ _ _ _ x, fun x => m_piece x0 x1 x2 (k0_pay1 (F := Ideal)) 0 _ _ _ _ _ _ x, trivial⟩
  · exact View.cover_of_tiledL (s := S3072x128) _ S512x128.size (by sl_kernel_rfl) y

set_option maxHeartbeats 1000000 in
/-- The first tile leaves the lane sums one step on from their starting value. -/
theorem out0_A_5_eq (c : Dev nD) (i : grid0.Coords) (arg1 : Memref sig .tc .vmem S3072x2560 .bf16) (harg1 : arg1.IsWhole) (arg2 : Memref sig .tc .vmem S512x2560 .fp8e4m3) (harg2 : arg2.IsWhole) (arg3 : Memref sig .tc .vmem S1x1x512 .f32) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : cond0_0 i)
    (x0 : Vec Ideal S3072x2560 .bf16) (x1 : Vec Ideal S512x2560 .fp8e4m3) (x2 : Vec Ideal S1x1x512 .f32) (x3 : Vec Ideal S3072x128 .i32) :
    out0_A_5 c i arg1 harg1 arg2 harg2 arg3 harg3 arg4 harg4 arg5 harg5 arg6 harg6 arg7 harg7 arg8 harg8 hc0 x0 x1 x2 x3 = lStep (lg x0 x1 x2) (k0_pay1 (F := Ideal)) (k0_pay2 (F := Ideal)) := by
  have hz : (![0, 0] : Fin 2 → ℕ) = fun _ => 0 := by decide
  unfold out0_A_5; rw [View.read_writes_junk_eq_canon]; unfold kernelRun0_A; dsimp only; sl_unfold_words
  simp only [View.readAt_eq_ld, harg1.read_unread, harg2.read_unread, harg3.read_unread, harg4.read_unread]
  simp only [View.readCov_unit_zero (S := S512x2560) _ hz, View.ld_unit_zero (S := S512x2560) hz, stored_weights]
  simp (disch := decide) only [↓ View.readCov_skip, ↓ View.readCov_fill]
  funext y
  refine View.canon_append_of_piecesOf (Val := Elt Ideal) (e := .f32) (lStep (lg x0 x1 x2) (k0_pay1 (F := Ideal)) (k0_pay2 (F := Ideal))) [_] [_, _, _, _, _, _] ?_ y ?_
  · exact ⟨fun x => l_piece x0 x1 x2 (k0_pay1 (F := Ideal)) (k0_pay2 (F := Ideal)) 2560 _ _ _ _ _ _ x, fun x => l_piece x0 x1 x2 (k0_pay1 (F := Ideal)) (k0_pay2 (F := Ideal)) 2048 _ _ _ _ _ _ x, fun x => l_piece x0 x1 x2 (k0_pay1 (F := Ideal)) (k0_pay2 (F := Ideal)) 1536 _ _ _ _ _ _ x, fun x => l_piece x0 x1 x2 (k0_pay1 (F := Ideal)) (k0_pay2 (F := Ideal)) 1024 _ _ _ _ _ _ x, fun x => l_piece x0 x1 x2 (k0_pay1 (F := Ideal)) (k0_pay2 (F := Ideal)) 512 _ _ _ _ _ _ x, fun x => l_piece x0 x1 x2 (k0_pay1 (F := Ideal)) (k0_pay2 (F := Ideal)) 0 _ _ _ _ _ _ x, trivial⟩
  · exact View.cover_of_tiledL (s := S3072x128) _ S512x128.size (by sl_kernel_rfl) y

set_option maxHeartbeats 1000000 in
/-- The first tile leaves the lane target logits one step on from their starting value. -/
theorem out0_A_6_eq (c : Dev nD) (i : grid0.Coords) (arg1 : Memref sig .tc .vmem S3072x2560 .bf16) (harg1 : arg1.IsWhole) (arg2 : Memref sig .tc .vmem S512x2560 .fp8e4m3) (harg2 : arg2.IsWhole) (arg3 : Memref sig .tc .vmem S1x1x512 .f32) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : cond0_0 i)
    (x0 : Vec Ideal S3072x2560 .bf16) (x1 : Vec Ideal S512x2560 .fp8e4m3) (x2 : Vec Ideal S1x1x512 .f32) (x3 : Vec Ideal S3072x128 .i32) :
    out0_A_6 c i arg1 harg1 arg2 harg2 arg3 harg3 arg4 harg4 arg5 harg5 arg6 harg6 arg7 harg7 arg8 harg8 hc0 x0 x1 x2 x3 = tStep (lg x0 x1 x2) (BitVec.ofNat 32 (i 0).val) x3 (k0_pay3 (F := Ideal)) := by
  have hz : (![0, 0] : Fin 2 → ℕ) = fun _ => 0 := by decide
  unfold out0_A_6; rw [View.read_writes_junk_eq_canon]; unfold kernelRun0_A; dsimp only; sl_unfold_words
  simp only [View.readAt_eq_ld, harg1.read_unread, harg2.read_unread, harg3.read_unread, harg4.read_unread]
  simp only [View.readCov_unit_zero (S := S512x2560) _ hz, View.ld_unit_zero (S := S512x2560) hz, stored_weights]
  simp (disch := decide) only [↓ View.readCov_skip, ↓ View.readCov_fill]
  funext y
  refine View.canon_append_of_piecesOf (Val := Elt Ideal) (e := .f32) (tStep (lg x0 x1 x2) (BitVec.ofNat 32 (i 0).val) x3 (k0_pay3 (F := Ideal))) [_] [_, _, _, _, _, _] ?_ y ?_
  · exact ⟨fun x => t_piece x0 x1 x2 (k0_pay3 (F := Ideal)) x3 2560 _ _ _ _ _ _ _ x, fun x => t_piece x0 x1 x2 (k0_pay3 (F := Ideal)) x3 2048 _ _ _ _ _ _ _ x, fun x => t_piece x0 x1 x2 (k0_pay3 (F := Ideal)) x3 1536 _ _ _ _ _ _ _ x, fun x => t_piece x0 x1 x2 (k0_pay3 (F := Ideal)) x3 1024 _ _ _ _ _ _ _ x, fun x => t_piece x0 x1 x2 (k0_pay3 (F := Ideal)) x3 512 _ _ _ _ _ _ _ x, fun x => t_piece x0 x1 x2 (k0_pay3 (F := Ideal)) x3 0 _ _ _ _ _ _ _ x, trivial⟩
  · exact View.cover_of_tiledL (s := S3072x128) _ S512x128.size (by sl_kernel_rfl) y

end Cert.Hand
-- ==== Proof.Fold0.lean ====
module

public import proofs.«01_k».proof.Proof.Steps
public import proofs.«01_k».proof.Proof.Tile0
public import Idealize.ShloMosaic.Lib.Pipeline.Value

@[expose] public section

set_option maxRecDepth 16384

noncomputable section

namespace Cert.Hand

open Idealize.ShloMosaic Idealize.ShloMosaic.TcCoe Cert.KernelIdeal Cert.KernelIdeal.Gen
open Idealize.ShloMosaic.Pipeline (Dat)

/-- The head logit of row `r` and column `v`: activations against the column's weights, times the column's scale. -/
def headLogit (X : Vec Ideal S3072x2560 .bf16) (W : Vec Ideal S8192x2560 .fp8e4m3) (s : Vec Ideal S16x1x512 .f32) (r : Fin 3072) (v : ℕ) : EReal :=
  if h : v < 8192 then (∑ k : Fin 2560, X (ix2 r k) * W (ix2 (⟨v, h⟩ : Fin 8192) k)) *
    s (ix3 (⟨v / 512, by omega⟩ : Fin 16) (0 : Fin 1) (⟨v % 512, by omega⟩ : Fin 512)) else 0

section
variable (V : (c : Dev nD) → (b : Ref sig .tc) → Buf (Elt Ideal) ((c : Thread nD τ).loc b)) (c : Dev nD)

/-- Point `t` of the grid is tile `t`. -/
theorem coord0 (t : Fin cfg0.N) : (grid0.coords t 0).val = t.val := by
  have ht : t.val < 16 := lt_of_lt_of_eq t.isLt N_0
  have e : (grid0.coords t 0).val = t.val / 1 % 16 := Pipeline.Grid.coords_val t 0 (by decide) rfl
  rw [e]; omega

/-- The activations' block is the whole array. -/
theorem xblock0 (t : Fin cfg0.N) : (iblk0 V c 0 t : Vec Ideal S3072x2560 .bf16) = V c main_v0 := by
  have hx0 : win0_0.index t 0 = 0 := rfl
  have hx1 : win0_0.index t 1 = 0 := rfl
  funext j
  unfold iblk0
  rw [View.read_apply]
  show (V c main_v0 : Vec Ideal S3072x2560 .bf16) _ = _
  congr 1
  funext a
  apply Fin.ext
  match a with
  | ⟨0, _⟩ => show win0_0.index t 0 * 3072 + 1 * (j 0).val = (j 0).val; rw [hx0]; omega
  | ⟨1, _⟩ => show win0_0.index t 1 * 2560 + 1 * (j 1).val = (j 1).val; rw [hx1]; omega

/-- The targets' block is the whole array. -/
theorem gblock0 (t : Fin cfg0.N) : (iblk0 V c 3 t : Vec Ideal S3072x128 .i32) = V c main_v5 := by
  have hx0 : win0_3.index t 0 = 0 := rfl
  have hx1 : win0_3.index t 1 = 0 := rfl
  funext j
  unfold iblk0
  rw [View.read_apply]
  show (V c main_v5 : Vec Ideal S3072x128 .i32) _ = _
  congr 1
  funext a
  apply Fin.ext
  match a with
  | ⟨0, _⟩ => show win0_3.index t 0 * 3072 + 1 * (j 0).val = (j 0).val; rw [hx0]; omega
  | ⟨1, _⟩ => show win0_3.index t 1 * 128 + 1 * (j 1).val = (j 1).val; rw [hx1]; omega

/-- The weights' block at tile `t` starts at row `512 t`. -/
theorem wblock0 (t : Fin cfg0.N) (i : Fin 512) (k : Fin 2560) :
    (iblk0 V c 1 t : Vec Ideal S512x2560 .fp8e4m3) (ix2 i k) = (V c main_arg1 : Vec Ideal S8192x2560 .fp8e4m3) (ix2 (⟨512 * t.val + i.val, by have := lt_of_lt_of_eq t.isLt N_0; omega⟩ : Fin 8192) k) := by
  have hx0 : win0_1.index t 0 = t.val := by
    have e := coord0 t
    have ht : t.val < 16 := lt_of_lt_of_eq t.isLt N_0
    show (BitVec.ofNat 32 (grid0.coords t 0).val).toNat = _
    rw [e, BitVec.toNat_ofNat]; omega
  have hx1 : win0_1.index t 1 = 0 := rfl
  unfold iblk0
  rw [View.read_apply]
  show (V c main_arg1 : Vec Ideal S8192x2560 .fp8e4m3) _ = _
  congr 1
  funext a
  apply Fin.ext
  match a with
  | ⟨0, _⟩ => show win0_1.index t 0 * 512 + 1 * i.val = 512 * t.val + i.val; rw [hx0]; omega
  | ⟨1, _⟩ => show win0_1.index t 1 * 2560 + 1 * k.val = k.val; rw [hx1]; omega

/-- The scales' block at tile `t`. -/
theorem sblock0 (t : Fin cfg0.N) (i : Fin 512) :
    (iblk0 V c 2 t : Vec Ideal S1x1x512 .f32) (ix3 0 0 i) = (V c main_v6 : Vec Ideal S16x1x512 .f32) (ix3 (⟨t.val, lt_of_lt_of_eq t.isLt N_0⟩ : Fin 16) (0 : Fin 1) i) := by
  have hx0 : win0_2.index t 0 = t.val := by
    have e := coord0 t
    have ht : t.val < 16 := lt_of_lt_of_eq t.isLt N_0
    show (BitVec.ofNat 32 (grid0.coords t 0).val).toNat = _
    rw [e, BitVec.toNat_ofNat]; omega
  have hx1 : win0_2.index t 1 = 0 := rfl
  have hx2 : win0_2.index t 2 = 0 := rfl
  unfold iblk0
  rw [View.read_apply]
  show (V c main_v6 : Vec Ideal S16x1x512 .f32) _ = _
  congr 1
  funext a
  apply Fin.ext
  match a with
  | ⟨0, _⟩ => show win0_2.index t 0 * 1 + 1 * 0 = t.val; rw [hx0]; omega
  | ⟨1, _⟩ => show win0_2.index t 1 * 1 + 1 * 0 = 0; rw [hx1]
  | ⟨2, _⟩ => show win0_2.index t 2 * 512 + 1 * i.val = i.val; rw [hx2]; omega

/-- The logits tile `t` works with are those of columns `512 t` to `512 t + 511`. -/
theorem logits0 (t : Fin cfg0.N) (j : Fin 4) (y : S3072x128.Idx) :
    lg (iblk0 V c 0 t) (iblk0 V c 1 t) (iblk0 V c 2 t) j y
      = headLogit (V c main_v0) (V c main_arg1) (V c main_v6) (y 0) (512 * t.val + 128 * j.val + (y 1).val) := by
  have hy : (y 1).val < 128 := (y 1).isLt
  have hj := j.isLt
  have ht : t.val < 16 := lt_of_lt_of_eq t.isLt N_0
  unfold lg headLogit
  rw [dif_pos (by omega), sblock0, xblock0]
  simp only [wblock0]
  congr 1
  · refine Finset.sum_congr rfl fun k _ => ?_
    congr 2
    exact congrArg (fun q => ix2 q k) (Fin.ext (by show _ = _; simp only; omega))
  · congr 1
    refine congrArg₂ (fun p q => ix3 p (0 : Fin 1) q) (Fin.ext ?_) (Fin.ext ?_)
    · show t.val = (512 * t.val + 128 * j.val + (y 1).val) / 512; omega
    · show 128 * j.val + (y 1).val = (512 * t.val + 128 * j.val + (y 1).val) % 512; omega

/-- After tile `n` the three buffers hold the lanes' states after `n + 1` tiles. -/
theorem state0 : ∀ (n : ℕ) (hn : n < cfg0.N), outsAt0 V c n hn
    = (mLane (headLogit (V c main_v0) (V c main_arg1) (V c main_v6)) (n + 1),
       lLane (headLogit (V c main_v0) (V c main_arg1) (V c main_v6)) (n + 1),
       tLane (headLogit (V c main_v0) (V c main_arg1) (V c main_v6)) (n + 1) (V c main_v5))
  | 0, hn => by
    have hL := logits0 V c ⟨0, hn⟩
    have em : (k0_pay1 (F := Ideal)) = mLane (headLogit (V c main_v0) (V c main_arg1) (V c main_v6)) 0 := rfl
    have z : (Scalar.ofBits (F := Ideal) .f32 0x00000000#32 : EReal) = 0 := Ideal.ofBits_zero_f32
    have el : (k0_pay2 (F := Ideal)) = lLane (headLogit (V c main_v0) (V c main_arg1) (V c main_v6)) 0 := funext fun _ => z
    have et : (k0_pay3 (F := Ideal)) = tLane (headLogit (V c main_v0) (V c main_arg1) (V c main_v6)) 0 (V c main_v5) := funext fun _ => z
    have hA : (⟨0, hn⟩ : Fin cfg0.N).val % 16 = 0 := rfl
    refine (outsAt0_A V c ⟨0, hn⟩ hA).trans ?_
    rw [out0_A_4_eq, out0_A_5_eq, out0_A_6_eq, gblock0, coord0, em, el, et]
    exact congrArg₂ Prod.mk (mStep_at _ _ 0 hL) (congrArg₂ Prod.mk (lStep_at _ _ 0 hL) (tStep_at _ _ 0 hL (by norm_num) _))
  | n + 1, hn => by
    have hN : n + 1 < 16 := lt_of_lt_of_eq hn N_0
    have hL := logits0 V c ⟨n + 1, hn⟩
    have hB : ¬(⟨n + 1, hn⟩ : Fin cfg0.N).val % 16 = 0 := by dsimp only; omega
    refine (outsAt0_B V c ⟨n + 1, hn⟩ hB).trans ?_
    rw [out0_B_4_eq, out0_B_5_eq, out0_B_6_eq, gblock0, coord0]
    have ih := state0 n (Nat.lt_of_succ_lt hn)
    have i1 := congrArg (fun p => p.1) ih
    have i2 := congrArg (fun p => p.2.1) ih
    have i3 := congrArg (fun p => p.2.2) ih
    dsimp only at i1 i2 i3
    simp only [Nat.add_sub_cancel]
    rw [i1, i2, i3]
    exact congrArg₂ Prod.mk (mStep_at _ _ (n + 1) hL) (congrArg₂ Prod.mk (lStep_at _ _ (n + 1) hL) (tStep_at _ _ (n + 1) hL (by omega) _))

attribute [local irreducible] mLane lLane tLane

/-- What the last tile leaves is what the array of lane maxima ends holding. -/
theorem last0_4 (T : Fin cfg0.N) (hT : T.val = 15) (G : S3072x128.Idx → EReal) (hG : (outsAt0 V c T.val T.isLt).1 = G) :
    (dat0 V c).arrAt 4 cfg0.N = (G : Buf (Elt Ideal) ((c : Thread nD τ).loc main_v7_0)) := by
  have hN : cfg0.N = 16 := N_0
  refine (dat0 V c).arrAt_eq_of_cover 4 _ (fun t hf => ?_) fun i => ⟨T, (flush0_4 _).mpr (by rw [hT]), ?_⟩
  · have hl : t = T := Fin.ext (by have := (flush0_4 t).mp hf; have := t.isLt; omega)
    subst hl
    show (cfg0.win 4).cut (grid0.coords t) ((dat0 V c).after 4 t) = _
    rw [after0_4, hG]
    have hz' : (fun a => win0_4.index t a * main_v7_0.ty.shape.size a) = fun _ => 0 := funext fun a => by
      match a with
      | ⟨0, _⟩ => exact Nat.zero_mul _
      | ⟨1, _⟩ => exact Nat.zero_mul _
    exact (Memref.read_access_unit_zero (Elt Ideal) main_v7_0 hz' (fun a => by rw [congrFun hz' a]; simp) G).symm
  · show i ∈ ((View.whole main_v7_0).slice (win0_4.rect T)).set
    rw [View.set_slice_whole, Rect.mem_set_unit]
    intro a
    have h0 : (i 0 : Nat) < 3072 := (i 0).isLt
    have h1 : (i 1 : Nat) < 128 := (i 1).isLt
    match a with
    | ⟨0, _⟩ => exact ⟨Nat.zero_le _, by show (i 0 : Nat) < 0 * 3072 + 3072; omega⟩
    | ⟨1, _⟩ => exact ⟨Nat.zero_le _, by show (i 1 : Nat) < 0 * 128 + 128; omega⟩

/-- The array of lane maxima after the whole grid. -/
theorem array0_4 : (dat0 V c).arrAt 4 cfg0.N = (mLane (headLogit (V c main_v0) (V c main_arg1) (V c main_v6)) 16 : S3072x128.Idx → EReal) := by
  obtain ⟨T, hT⟩ : ∃ T : Fin cfg0.N, T.val = 15 := ⟨⟨15, lt_of_lt_of_eq (by norm_num) N_0.symm⟩, rfl⟩
  exact last0_4 V c T hT _ (by rw [state0, hT])

/-- What the last tile leaves is what the array of lane sums ends holding. -/
theorem last0_5 (T : Fin cfg0.N) (hT : T.val = 15) (G : S3072x128.Idx → EReal) (hG : (outsAt0 V c T.val T.isLt).2.1 = G) :
    (dat0 V c).arrAt 5 cfg0.N = (G : Buf (Elt Ideal) ((c : Thread nD τ).loc main_v7_1)) := by
  have hN : cfg0.N = 16 := N_0
  refine (dat0 V c).arrAt_eq_of_cover 5 _ (fun t hf => ?_) fun i => ⟨T, (flush0_5 _).mpr (by rw [hT]), ?_⟩
  · have hl : t = T := Fin.ext (by have := (flush0_5 t).mp hf; have := t.isLt; omega)
    subst hl
    show (cfg0.win 5).cut (grid0.coords t) ((dat0 V c).after 5 t) = _
    rw [after0_5, hG]
    have hz' : (fun a => win0_5.index t a * main_v7_1.ty.shape.size a) = fun _ => 0 := funext fun a => by
      match a with
      | ⟨0, _⟩ => exact Nat.zero_mul _
      | ⟨1, _⟩ => exact Nat.zero_mul _
    exact (Memref.read_access_unit_zero (Elt Ideal) main_v7_1 hz' (fun a => by rw [congrFun hz' a]; simp) G).symm
  · show i ∈ ((View.whole main_v7_1).slice (win0_5.rect T)).set
    rw [View.set_slice_whole, Rect.mem_set_unit]
    intro a
    have h0 : (i 0 : Nat) < 3072 := (i 0).isLt
    have h1 : (i 1 : Nat) < 128 := (i 1).isLt
    match a with
    | ⟨0, _⟩ => exact ⟨Nat.zero_le _, by show (i 0 : Nat) < 0 * 3072 + 3072; omega⟩
    | ⟨1, _⟩ => exact ⟨Nat.zero_le _, by show (i 1 : Nat) < 0 * 128 + 128; omega⟩

/-- The array of lane sums after the whole grid. -/
theorem array0_5 : (dat0 V c).arrAt 5 cfg0.N = (lLane (headLogit (V c main_v0) (V c main_arg1) (V c main_v6)) 16 : S3072x128.Idx → EReal) := by
  obtain ⟨T, hT⟩ : ∃ T : Fin cfg0.N, T.val = 15 := ⟨⟨15, lt_of_lt_of_eq (by norm_num) N_0.symm⟩, rfl⟩
  exact last0_5 V c T hT _ (by rw [state0, hT])

/-- What the last tile leaves is what the array of lane target logits ends holding. -/
theorem last0_6 (T : Fin cfg0.N) (hT : T.val = 15) (G : S3072x128.Idx → EReal) (hG : (outsAt0 V c T.val T.isLt).2.2 = G) :
    (dat0 V c).arrAt 6 cfg0.N = (G : Buf (Elt Ideal) ((c : Thread nD τ).loc main_v7_2)) := by
  have hN : cfg0.N = 16 := N_0
  refine (dat0 V c).arrAt_eq_of_cover 6 _ (fun t hf => ?_) fun i => ⟨T, (flush0_6 _).mpr (by rw [hT]), ?_⟩
  · have hl : t = T := Fin.ext (by have := (flush0_6 t).mp hf; have := t.isLt; omega)
    subst hl
    show (cfg0.win 6).cut (grid0.coords t) ((dat0 V c).after 6 t) = _
    rw [after0_6, hG]
    have hz' : (fun a => win0_6.index t a * main_v7_2.ty.shape.size a) = fun _ => 0 := funext fun a => by
      match a with
      | ⟨0, _⟩ => exact Nat.zero_mul _
      | ⟨1, _⟩ => exact Nat.zero_mul _
    exact (Memref.read_access_unit_zero (Elt Ideal) main_v7_2 hz' (fun a => by rw [congrFun hz' a]; simp) G).symm
  · show i ∈ ((View.whole main_v7_2).slice (win0_6.rect T)).set
    rw [View.set_slice_whole, Rect.mem_set_unit]
    intro a
    have h0 : (i 0 : Nat) < 3072 := (i 0).isLt
    have h1 : (i 1 : Nat) < 128 := (i 1).isLt
    match a with
    | ⟨0, _⟩ => exact ⟨Nat.zero_le _, by show (i 0 : Nat) < 0 * 3072 + 3072; omega⟩
    | ⟨1, _⟩ => exact ⟨Nat.zero_le _, by show (i 1 : Nat) < 0 * 128 + 128; omega⟩

/-- The array of lane target logits after the whole grid. -/
theorem array0_6 : (dat0 V c).arrAt 6 cfg0.N = (tLane (headLogit (V c main_v0) (V c main_arg1) (V c main_v6)) 16 (V c main_v5) : S3072x128.Idx → EReal) := by
  obtain ⟨T, hT⟩ : ∃ T : Fin cfg0.N, T.val = 15 := ⟨⟨15, lt_of_lt_of_eq (by norm_num) N_0.symm⟩, rfl⟩
  exact last0_6 V c T hT _ (by rw [state0, hT])

end

end Cert.Hand
-- ==== Proof.Tile1.lean ====
module

public import proofs.«01_k».proof.Proof.Gen.KernelIdeal.Frame.Region1
public import proofs.«01_k».proof.Proof.Tier

@[expose] public section

set_option maxRecDepth 16384

noncomputable section

namespace Cert.Hand

open Idealize.ShloMosaic Idealize.ShloMosaic.TcCoe Idealize.ShloMosaic.Tactic Cert.KernelIdeal Cert.KernelIdeal.Gen

set_option maxHeartbeats 1000000 in
/-- Every tile but the first leaves the lane maxima one step on from what they were. -/
theorem out1_B_4_eq (c : Dev nD) (i : grid1.Coords) (arg1 : Memref sig .tc .vmem S3072x2560 .bf16) (harg1 : arg1.IsWhole) (arg2 : Memref sig .tc .vmem S512x2560 .i8) (harg2 : arg2.IsWhole) (arg3 : Memref sig .tc .vmem S1x1x512 .f32) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : ¬cond1_0 i)
    (x0 : Vec Ideal S3072x2560 .bf16) (x1 : Vec Ideal S512x2560 .i8) (x2 : Vec Ideal S1x1x512 .f32) (x3 : Vec Ideal S3072x128 .i32) (xo4 : Vec Ideal S3072x128 .f32) (xo5 : Vec Ideal S3072x128 .f32) (xo6 : Vec Ideal S3072x128 .f32) :
    out1_B_4 c i arg1 harg1 arg2 harg2 arg3 harg3 arg4 harg4 arg5 harg5 arg6 harg6 arg7 harg7 arg8 harg8 hc0 x0 x1 x2 x3 xo4 xo5 xo6 = mStep (lg x0 (midWeights x1) x2) xo4 := by
  have hz : (![0, 0] : Fin 2 → ℕ) = fun _ => 0 := by decide
  unfold out1_B_4; rw [View.read_writes_junk_eq_canon]; unfold kernelRun1_B; dsimp only; sl_unfold_words
  simp only [View.readAt_eq_ld, harg1.read_unread, harg2.read_unread, harg3.read_unread, harg4.read_unread, harg5.read_unread, harg6.read_unread, harg7.read_unread]
  simp only [View.readCov_unit_zero (S := S512x2560) _ hz, View.ld_unit_zero (S := S512x2560) hz, stored_weights1]
  funext y
  refine View.canon_apply_of_pieces (Val := Elt Ideal) (e := .f32) (mStep (lg x0 (midWeights x1) x2) xo4) _ (View.PiecesOf.mem ?_) y ?_
  · exact ⟨fun x => m_piece x0 (midWeights x1) x2 xo4 2560 _ _ _ _ _ _ x, fun x => m_piece x0 (midWeights x1) x2 xo4 2048 _ _ _ _ _ _ x, fun x => m_piece x0 (midWeights x1) x2 xo4 1536 _ _ _ _ _ _ x, fun x => m_piece x0 (midWeights x1) x2 xo4 1024 _ _ _ _ _ _ x, fun x => m_piece x0 (midWeights x1) x2 xo4 512 _ _ _ _ _ _ x, fun x => m_piece x0 (midWeights x1) x2 xo4 0 _ _ _ _ _ _ x, trivial⟩
  · exact View.cover_of_tiledL (s := S3072x128) _ S512x128.size (by sl_kernel_rfl) y

set_option maxHeartbeats 1000000 in
/-- Every tile but the first leaves the lane sums one step on from what they were. -/
theorem out1_B_5_eq (c : Dev nD) (i : grid1.Coords) (arg1 : Memref sig .tc .vmem S3072x2560 .bf16) (harg1 : arg1.IsWhole) (arg2 : Memref sig .tc .vmem S512x2560 .i8) (harg2 : arg2.IsWhole) (arg3 : Memref sig .tc .vmem S1x1x512 .f32) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : ¬cond1_0 i)
    (x0 : Vec Ideal S3072x2560 .bf16) (x1 : Vec Ideal S512x2560 .i8) (x2 : Vec Ideal S1x1x512 .f32) (x3 : Vec Ideal S3072x128 .i32) (xo4 : Vec Ideal S3072x128 .f32) (xo5 : Vec Ideal S3072x128 .f32) (xo6 : Vec Ideal S3072x128 .f32) :
    out1_B_5 c i arg1 harg1 arg2 harg2 arg3 harg3 arg4 harg4 arg5 harg5 arg6 harg6 arg7 harg7 arg8 harg8 hc0 x0 x1 x2 x3 xo4 xo5 xo6 = lStep (lg x0 (midWeights x1) x2) xo4 xo5 := by
  have hz : (![0, 0] : Fin 2 → ℕ) = fun _ => 0 := by decide
  unfold out1_B_5; rw [View.read_writes_junk_eq_canon]; unfold kernelRun1_B; dsimp only; sl_unfold_words
  simp only [View.readAt_eq_ld, harg1.read_unread, harg2.read_unread, harg3.read_unread, harg4.read_unread, harg5.read_unread, harg6.read_unread, harg7.read_unread]
  simp only [View.readCov_unit_zero (S := S512x2560) _ hz, View.ld_unit_zero (S := S512x2560) hz, stored_weights1]
  funext y
  refine View.canon_apply_of_pieces (Val := Elt Ideal) (e := .f32) (lStep (lg x0 (midWeights x1) x2) xo4 xo5) _ (View.PiecesOf.mem ?_) y ?_
  · exact ⟨fun x => l_piece x0 (midWeights x1) x2 xo4 xo5 2560 _ _ _ _ _ _ x, fun x => l_piece x0 (midWeights x1) x2 xo4 xo5 2048 _ _ _ _ _ _ x, fun x => l_piece x0 (midWeights x1) x2 xo4 xo5 1536 _ _ _ _ _ _ x, fun x => l_piece x0 (midWeights x1) x2 xo4 xo5 1024 _ _ _ _ _ _ x, fun x => l_piece x0 (midWeights x1) x2 xo4 xo5 512 _ _ _ _ _ _ x, fun x => l_piece x0 (midWeights x1) x2 xo4 xo5 0 _ _ _ _ _ _ x, trivial⟩
  · exact View.cover_of_tiledL (s := S3072x128) _ S512x128.size (by sl_kernel_rfl) y

set_option maxHeartbeats 1000000 in
/-- Every tile but the first leaves the lane target logits one step on from what they were. -/
theorem out1_B_6_eq (c : Dev nD) (i : grid1.Coords) (arg1 : Memref sig .tc .vmem S3072x2560 .bf16) (harg1 : arg1.IsWhole) (arg2 : Memref sig .tc .vmem S512x2560 .i8) (harg2 : arg2.IsWhole) (arg3 : Memref sig .tc .vmem S1x1x512 .f32) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : ¬cond1_0 i)
    (x0 : Vec Ideal S3072x2560 .bf16) (x1 : Vec Ideal S512x2560 .i8) (x2 : Vec Ideal S1x1x512 .f32) (x3 : Vec Ideal S3072x128 .i32) (xo4 : Vec Ideal S3072x128 .f32) (xo5 : Vec Ideal S3072x128 .f32) (xo6 : Vec Ideal S3072x128 .f32) :
    out1_B_6 c i arg1 harg1 arg2 harg2 arg3 harg3 arg4 harg4 arg5 harg5 arg6 harg6 arg7 harg7 arg8 harg8 hc0 x0 x1 x2 x3 xo4 xo5 xo6 = tStep (lg x0 (midWeights x1) x2) (BitVec.ofNat 32 (i 0).val) x3 xo6 := by
  have hz : (![0, 0] : Fin 2 → ℕ) = fun _ => 0 := by decide
  unfold out1_B_6; rw [View.read_writes_junk_eq_canon]; unfold kernelRun1_B; dsimp only; sl_unfold_words
  simp only [View.readAt_eq_ld, harg1.read_unread, harg2.read_unread, harg3.read_unread, harg4.read_unread, harg5.read_unread, harg6.read_unread, harg7.read_unread]
  simp only [View.readCov_unit_zero (S := S512x2560) _ hz, View.ld_unit_zero (S := S512x2560) hz, stored_weights1]
  funext y
  refine View.canon_apply_of_pieces (Val := Elt Ideal) (e := .f32) (tStep (lg x0 (midWeights x1) x2) (BitVec.ofNat 32 (i 0).val) x3 xo6) _ (View.PiecesOf.mem ?_) y ?_
  · exact ⟨fun x => t_piece x0 (midWeights x1) x2 xo6 x3 2560 _ _ _ _ _ _ _ x, fun x => t_piece x0 (midWeights x1) x2 xo6 x3 2048 _ _ _ _ _ _ _ x, fun x => t_piece x0 (midWeights x1) x2 xo6 x3 1536 _ _ _ _ _ _ _ x, fun x => t_piece x0 (midWeights x1) x2 xo6 x3 1024 _ _ _ _ _ _ _ x, fun x => t_piece x0 (midWeights x1) x2 xo6 x3 512 _ _ _ _ _ _ _ x, fun x => t_piece x0 (midWeights x1) x2 xo6 x3 0 _ _ _ _ _ _ _ x, trivial⟩
  · exact View.cover_of_tiledL (s := S3072x128) _ S512x128.size (by sl_kernel_rfl) y

set_option maxHeartbeats 1000000 in
/-- The first tile leaves the lane maxima one step on from their starting value. -/
theorem out1_A_4_eq (c : Dev nD) (i : grid1.Coords) (arg1 : Memref sig .tc .vmem S3072x2560 .bf16) (harg1 : arg1.IsWhole) (arg2 : Memref sig .tc .vmem S512x2560 .i8) (harg2 : arg2.IsWhole) (arg3 : Memref sig .tc .vmem S1x1x512 .f32) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : cond1_0 i)
    (x0 : Vec Ideal S3072x2560 .bf16) (x1 : Vec Ideal S512x2560 .i8) (x2 : Vec Ideal S1x1x512 .f32) (x3 : Vec Ideal S3072x128 .i32) :
    out1_A_4 c i arg1 harg1 arg2 harg2 arg3 harg3 arg4 harg4 arg5 harg5 arg6 harg6 arg7 harg7 arg8 harg8 hc0 x0 x1 x2 x3 = mStep (lg x0 (midWeights x1) x2) (k1_pay1 (F := Ideal)) := by
  have hz : (![0, 0] : Fin 2 → ℕ) = fun _ => 0 := by decide
  unfold out1_A_4; rw [View.read_writes_junk_eq_canon]; unfold kernelRun1_A; dsimp only; sl_unfold_words
  simp only [View.readAt_eq_ld, harg1.read_unread, harg2.read_unread, harg3.read_unread, harg4.read_unread]
  simp only [View.readCov_unit_zero (S := S512x2560) _ hz, View.ld_unit_zero (S := S512x2560) hz, stored_weights1]
  simp (disch := decide) only [↓ View.readCov_skip, ↓ View.readCov_fill]
  funext y
  refine View.canon_append_of_piecesOf (Val := Elt Ideal) (e := .f32) (mStep (lg x0 (midWeights x1) x2) (k1_pay1 (F := Ideal))) [_] [_, _, _, _, _, _] ?_ y ?_
  · exact ⟨fun x => m_piece x0 (midWeights x1) x2 (k1_pay1 (F := Ideal)) 2560 _ _ _ _ _ _ x, fun x => m_piece x0 (midWeights x1) x2 (k1_pay1 (F := Ideal)) 2048 _ _ _ _ _ _ x, fun x => m_piece x0 (midWeights x1) x2 (k1_pay1 (F := Ideal)) 1536 _ _ _ _ _ _ x, fun x => m_piece x0 (midWeights x1) x2 (k1_pay1 (F := Ideal)) 1024 _ _ _ _ _ _ x, fun x => m_piece x0 (midWeights x1) x2 (k1_pay1 (F := Ideal)) 512 _ _ _ _ _ _ x, fun x => m_piece x0 (midWeights x1) x2 (k1_pay1 (F := Ideal)) 0 _ _ _ _ _ _ x, trivial⟩
  · exact View.cover_of_tiledL (s := S3072x128) _ S512x128.size (by sl_kernel_rfl) y

set_option maxHeartbeats 1000000 in
/-- The first tile leaves the lane sums one step on from their starting value. -/
theorem out1_A_5_eq (c : Dev nD) (i : grid1.Coords) (arg1 : Memref sig .tc .vmem S3072x2560 .bf16) (harg1 : arg1.IsWhole) (arg2 : Memref sig .tc .vmem S512x2560 .i8) (harg2 : arg2.IsWhole) (arg3 : Memref sig .tc .vmem S1x1x512 .f32) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : cond1_0 i)
    (x0 : Vec Ideal S3072x2560 .bf16) (x1 : Vec Ideal S512x2560 .i8) (x2 : Vec Ideal S1x1x512 .f32) (x3 : Vec Ideal S3072x128 .i32) :
    out1_A_5 c i arg1 harg1 arg2 harg2 arg3 harg3 arg4 harg4 arg5 harg5 arg6 harg6 arg7 harg7 arg8 harg8 hc0 x0 x1 x2 x3 = lStep (lg x0 (midWeights x1) x2) (k1_pay1 (F := Ideal)) (k1_pay2 (F := Ideal)) := by
  have hz : (![0, 0] : Fin 2 → ℕ) = fun _ => 0 := by decide
  unfold out1_A_5; rw [View.read_writes_junk_eq_canon]; unfold kernelRun1_A; dsimp only; sl_unfold_words
  simp only [View.readAt_eq_ld, harg1.read_unread, harg2.read_unread, harg3.read_unread, harg4.read_unread]
  simp only [View.readCov_unit_zero (S := S512x2560) _ hz, View.ld_unit_zero (S := S512x2560) hz, stored_weights1]
  simp (disch := decide) only [↓ View.readCov_skip, ↓ View.readCov_fill]
  funext y
  refine View.canon_append_of_piecesOf (Val := Elt Ideal) (e := .f32) (lStep (lg x0 (midWeights x1) x2) (k1_pay1 (F := Ideal)) (k1_pay2 (F := Ideal))) [_] [_, _, _, _, _, _] ?_ y ?_
  · exact ⟨fun x => l_piece x0 (midWeights x1) x2 (k1_pay1 (F := Ideal)) (k1_pay2 (F := Ideal)) 2560 _ _ _ _ _ _ x, fun x => l_piece x0 (midWeights x1) x2 (k1_pay1 (F := Ideal)) (k1_pay2 (F := Ideal)) 2048 _ _ _ _ _ _ x, fun x => l_piece x0 (midWeights x1) x2 (k1_pay1 (F := Ideal)) (k1_pay2 (F := Ideal)) 1536 _ _ _ _ _ _ x, fun x => l_piece x0 (midWeights x1) x2 (k1_pay1 (F := Ideal)) (k1_pay2 (F := Ideal)) 1024 _ _ _ _ _ _ x, fun x => l_piece x0 (midWeights x1) x2 (k1_pay1 (F := Ideal)) (k1_pay2 (F := Ideal)) 512 _ _ _ _ _ _ x, fun x => l_piece x0 (midWeights x1) x2 (k1_pay1 (F := Ideal)) (k1_pay2 (F := Ideal)) 0 _ _ _ _ _ _ x, trivial⟩
  · exact View.cover_of_tiledL (s := S3072x128) _ S512x128.size (by sl_kernel_rfl) y

set_option maxHeartbeats 1000000 in
/-- The first tile leaves the lane target logits one step on from their starting value. -/
theorem out1_A_6_eq (c : Dev nD) (i : grid1.Coords) (arg1 : Memref sig .tc .vmem S3072x2560 .bf16) (harg1 : arg1.IsWhole) (arg2 : Memref sig .tc .vmem S512x2560 .i8) (harg2 : arg2.IsWhole) (arg3 : Memref sig .tc .vmem S1x1x512 .f32) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : cond1_0 i)
    (x0 : Vec Ideal S3072x2560 .bf16) (x1 : Vec Ideal S512x2560 .i8) (x2 : Vec Ideal S1x1x512 .f32) (x3 : Vec Ideal S3072x128 .i32) :
    out1_A_6 c i arg1 harg1 arg2 harg2 arg3 harg3 arg4 harg4 arg5 harg5 arg6 harg6 arg7 harg7 arg8 harg8 hc0 x0 x1 x2 x3 = tStep (lg x0 (midWeights x1) x2) (BitVec.ofNat 32 (i 0).val) x3 (k1_pay3 (F := Ideal)) := by
  have hz : (![0, 0] : Fin 2 → ℕ) = fun _ => 0 := by decide
  unfold out1_A_6; rw [View.read_writes_junk_eq_canon]; unfold kernelRun1_A; dsimp only; sl_unfold_words
  simp only [View.readAt_eq_ld, harg1.read_unread, harg2.read_unread, harg3.read_unread, harg4.read_unread]
  simp only [View.readCov_unit_zero (S := S512x2560) _ hz, View.ld_unit_zero (S := S512x2560) hz, stored_weights1]
  simp (disch := decide) only [↓ View.readCov_skip, ↓ View.readCov_fill]
  funext y
  refine View.canon_append_of_piecesOf (Val := Elt Ideal) (e := .f32) (tStep (lg x0 (midWeights x1) x2) (BitVec.ofNat 32 (i 0).val) x3 (k1_pay3 (F := Ideal))) [_] [_, _, _, _, _, _] ?_ y ?_
  · exact ⟨fun x => t_piece x0 (midWeights x1) x2 (k1_pay3 (F := Ideal)) x3 2560 _ _ _ _ _ _ _ x, fun x => t_piece x0 (midWeights x1) x2 (k1_pay3 (F := Ideal)) x3 2048 _ _ _ _ _ _ _ x, fun x => t_piece x0 (midWeights x1) x2 (k1_pay3 (F := Ideal)) x3 1536 _ _ _ _ _ _ _ x, fun x => t_piece x0 (midWeights x1) x2 (k1_pay3 (F := Ideal)) x3 1024 _ _ _ _ _ _ _ x, fun x => t_piece x0 (midWeights x1) x2 (k1_pay3 (F := Ideal)) x3 512 _ _ _ _ _ _ _ x, fun x => t_piece x0 (midWeights x1) x2 (k1_pay3 (F := Ideal)) x3 0 _ _ _ _ _ _ _ x, trivial⟩
  · exact View.cover_of_tiledL (s := S3072x128) _ S512x128.size (by sl_kernel_rfl) y

end Cert.Hand
-- ==== Proof.Fold1.lean ====
module

public import proofs.«01_k».proof.Proof.Steps
public import proofs.«01_k».proof.Proof.Tile1
public import Idealize.ShloMosaic.Lib.Pipeline.Value

@[expose] public section

set_option maxRecDepth 16384

noncomputable section

namespace Cert.Hand

open Idealize.ShloMosaic Idealize.ShloMosaic.TcCoe Cert.KernelIdeal Cert.KernelIdeal.Gen
open Idealize.ShloMosaic.Pipeline (Dat)

/-- The mid logit of row `r` and column `v`: activations against the column's weights, times the column's scale. -/
def midLogit (X : Vec Ideal S3072x2560 .bf16) (W : Vec Ideal S24576x2560 .i8) (s : Vec Ideal S48x1x512 .f32) (r : Fin 3072) (v : ℕ) : EReal :=
  if h : v < 24576 then (∑ k : Fin 2560, X (ix2 r k) * (((W (ix2 (⟨v, h⟩ : Fin 24576) k)).toInt : ℝ) : EReal)) *
    s (ix3 (⟨v / 512, by omega⟩ : Fin 48) (0 : Fin 1) (⟨v % 512, by omega⟩ : Fin 512)) else 0

section
variable (V : (c : Dev nD) → (b : Ref sig .tc) → Buf (Elt Ideal) ((c : Thread nD τ).loc b)) (c : Dev nD)

/-- Point `t` of the grid is tile `t`. -/
theorem coord1 (t : Fin cfg1.N) : (grid1.coords t 0).val = t.val := by
  have ht : t.val < 48 := lt_of_lt_of_eq t.isLt N_1
  have e : (grid1.coords t 0).val = t.val / 1 % 48 := Pipeline.Grid.coords_val t 0 (by decide) rfl
  rw [e]; omega

/-- The activations' block is the whole array. -/
theorem xblock1 (t : Fin cfg1.N) : (iblk1 V c 0 t : Vec Ideal S3072x2560 .bf16) = V c main_v0 := by
  have hx0 : win1_0.index t 0 = 0 := rfl
  have hx1 : win1_0.index t 1 = 0 := rfl
  funext j
  unfold iblk1
  rw [View.read_apply]
  show (V c main_v0 : Vec Ideal S3072x2560 .bf16) _ = _
  congr 1
  funext a
  apply Fin.ext
  match a with
  | ⟨0, _⟩ => show win1_0.index t 0 * 3072 + 1 * (j 0).val = (j 0).val; rw [hx0]; omega
  | ⟨1, _⟩ => show win1_0.index t 1 * 2560 + 1 * (j 1).val = (j 1).val; rw [hx1]; omega

/-- The targets' block is the whole array. -/
theorem gblock1 (t : Fin cfg1.N) : (iblk1 V c 3 t : Vec Ideal S3072x128 .i32) = V c main_v9 := by
  have hx0 : win1_3.index t 0 = 0 := rfl
  have hx1 : win1_3.index t 1 = 0 := rfl
  funext j
  unfold iblk1
  rw [View.read_apply]
  show (V c main_v9 : Vec Ideal S3072x128 .i32) _ = _
  congr 1
  funext a
  apply Fin.ext
  match a with
  | ⟨0, _⟩ => show win1_3.index t 0 * 3072 + 1 * (j 0).val = (j 0).val; rw [hx0]; omega
  | ⟨1, _⟩ => show win1_3.index t 1 * 128 + 1 * (j 1).val = (j 1).val; rw [hx1]; omega

/-- The weights' block at tile `t` starts at row `512 t`. -/
theorem wblock1 (t : Fin cfg1.N) (i : Fin 512) (k : Fin 2560) :
    (iblk1 V c 1 t : Vec Ideal S512x2560 .i8) (ix2 i k) = (V c main_arg3 : Vec Ideal S24576x2560 .i8) (ix2 (⟨512 * t.val + i.val, by have := lt_of_lt_of_eq t.isLt N_1; omega⟩ : Fin 24576) k) := by
  have hx0 : win1_1.index t 0 = t.val := by
    have e := coord1 t
    have ht : t.val < 48 := lt_of_lt_of_eq t.isLt N_1
    show (BitVec.ofNat 32 (grid1.coords t 0).val).toNat = _
    rw [e, BitVec.toNat_ofNat]; omega
  have hx1 : win1_1.index t 1 = 0 := rfl
  unfold iblk1
  rw [View.read_apply]
  show (V c main_arg3 : Vec Ideal S24576x2560 .i8) _ = _
  congr 1
  funext a
  apply Fin.ext
  match a with
  | ⟨0, _⟩ => show win1_1.index t 0 * 512 + 1 * i.val = 512 * t.val + i.val; rw [hx0]; omega
  | ⟨1, _⟩ => show win1_1.index t 1 * 2560 + 1 * k.val = k.val; rw [hx1]; omega

/-- The scales' block at tile `t`. -/
theorem sblock1 (t : Fin cfg1.N) (i : Fin 512) :
    (iblk1 V c 2 t : Vec Ideal S1x1x512 .f32) (ix3 0 0 i) = (V c main_v10 : Vec Ideal S48x1x512 .f32) (ix3 (⟨t.val, lt_of_lt_of_eq t.isLt N_1⟩ : Fin 48) (0 : Fin 1) i) := by
  have hx0 : win1_2.index t 0 = t.val := by
    have e := coord1 t
    have ht : t.val < 48 := lt_of_lt_of_eq t.isLt N_1
    show (BitVec.ofNat 32 (grid1.coords t 0).val).toNat = _
    rw [e, BitVec.toNat_ofNat]; omega
  have hx1 : win1_2.index t 1 = 0 := rfl
  have hx2 : win1_2.index t 2 = 0 := rfl
  unfold iblk1
  rw [View.read_apply]
  show (V c main_v10 : Vec Ideal S48x1x512 .f32) _ = _
  congr 1
  funext a
  apply Fin.ext
  match a with
  | ⟨0, _⟩ => show win1_2.index t 0 * 1 + 1 * 0 = t.val; rw [hx0]; omega
  | ⟨1, _⟩ => show win1_2.index t 1 * 1 + 1 * 0 = 0; rw [hx1]
  | ⟨2, _⟩ => show win1_2.index t 2 * 512 + 1 * i.val = i.val; rw [hx2]; omega

/-- The logits tile `t` works with are those of columns `512 t` to `512 t + 511`. -/
theorem logits1 (t : Fin cfg1.N) (j : Fin 4) (y : S3072x128.Idx) :
    lg (iblk1 V c 0 t) (midWeights (iblk1 V c 1 t)) (iblk1 V c 2 t) j y
      = midLogit (V c main_v0) (V c main_arg3) (V c main_v10) (y 0) (512 * t.val + 128 * j.val + (y 1).val) := by
  have hy : (y 1).val < 128 := (y 1).isLt
  have hj := j.isLt
  have ht : t.val < 48 := lt_of_lt_of_eq t.isLt N_1
  unfold lg midLogit midWeights
  rw [dif_pos (by omega), sblock1, xblock1]
  simp only [wblock1]
  congr 1
  · refine Finset.sum_congr rfl fun k _ => ?_
    congr 5
    exact congrArg (fun q => ix2 q k) (Fin.ext (by show _ = _; simp only; omega))
  · congr 1
    refine congrArg₂ (fun p q => ix3 p (0 : Fin 1) q) (Fin.ext ?_) (Fin.ext ?_)
    · show t.val = (512 * t.val + 128 * j.val + (y 1).val) / 512; omega
    · show 128 * j.val + (y 1).val = (512 * t.val + 128 * j.val + (y 1).val) % 512; omega

/-- After tile `n` the three buffers hold the lanes' states after `n + 1` tiles. -/
theorem state1 : ∀ (n : ℕ) (hn : n < cfg1.N), outsAt1 V c n hn
    = (mLane (midLogit (V c main_v0) (V c main_arg3) (V c main_v10)) (n + 1),
       lLane (midLogit (V c main_v0) (V c main_arg3) (V c main_v10)) (n + 1),
       tLane (midLogit (V c main_v0) (V c main_arg3) (V c main_v10)) (n + 1) (V c main_v9))
  | 0, hn => by
    have hL := logits1 V c ⟨0, hn⟩
    have em : (k1_pay1 (F := Ideal)) = mLane (midLogit (V c main_v0) (V c main_arg3) (V c main_v10)) 0 := rfl
    have z : (Scalar.ofBits (F := Ideal) .f32 0x00000000#32 : EReal) = 0 := Ideal.ofBits_zero_f32
    have el : (k1_pay2 (F := Ideal)) = lLane (midLogit (V c main_v0) (V c main_arg3) (V c main_v10)) 0 := funext fun _ => z
    have et : (k1_pay3 (F := Ideal)) = tLane (midLogit (V c main_v0) (V c main_arg3) (V c main_v10)) 0 (V c main_v9) := funext fun _ => z
    have hA : (⟨0, hn⟩ : Fin cfg1.N).val % 48 = 0 := rfl
    refine (outsAt1_A V c ⟨0, hn⟩ hA).trans ?_
    rw [out1_A_4_eq, out1_A_5_eq, out1_A_6_eq, gblock1, coord1, em, el, et]
    exact congrArg₂ Prod.mk (mStep_at _ _ 0 hL) (congrArg₂ Prod.mk (lStep_at _ _ 0 hL) (tStep_at _ _ 0 hL (by norm_num) _))
  | n + 1, hn => by
    have hN : n + 1 < 48 := lt_of_lt_of_eq hn N_1
    have hL := logits1 V c ⟨n + 1, hn⟩
    have hB : ¬(⟨n + 1, hn⟩ : Fin cfg1.N).val % 48 = 0 := by dsimp only; omega
    refine (outsAt1_B V c ⟨n + 1, hn⟩ hB).trans ?_
    rw [out1_B_4_eq, out1_B_5_eq, out1_B_6_eq, gblock1, coord1]
    have ih := state1 n (Nat.lt_of_succ_lt hn)
    have i1 := congrArg (fun p => p.1) ih
    have i2 := congrArg (fun p => p.2.1) ih
    have i3 := congrArg (fun p => p.2.2) ih
    dsimp only at i1 i2 i3
    simp only [Nat.add_sub_cancel]
    rw [i1, i2, i3]
    exact congrArg₂ Prod.mk (mStep_at _ _ (n + 1) hL) (congrArg₂ Prod.mk (lStep_at _ _ (n + 1) hL) (tStep_at _ _ (n + 1) hL (by omega) _))

attribute [local irreducible] mLane lLane tLane

/-- What the last tile leaves is what the array of lane maxima ends holding. -/
theorem last1_4 (T : Fin cfg1.N) (hT : T.val = 47) (G : S3072x128.Idx → EReal) (hG : (outsAt1 V c T.val T.isLt).1 = G) :
    (dat1 V c).arrAt 4 cfg1.N = (G : Buf (Elt Ideal) ((c : Thread nD τ).loc main_v11_0)) := by
  have hN : cfg1.N = 48 := N_1
  refine (dat1 V c).arrAt_eq_of_cover 4 _ (fun t hf => ?_) fun i => ⟨T, (flush1_4 _).mpr (by rw [hT]), ?_⟩
  · have hl : t = T := Fin.ext (by have := (flush1_4 t).mp hf; have := t.isLt; omega)
    subst hl
    show (cfg1.win 4).cut (grid1.coords t) ((dat1 V c).after 4 t) = _
    rw [after1_4, hG]
    have hz' : (fun a => win1_4.index t a * main_v11_0.ty.shape.size a) = fun _ => 0 := funext fun a => by
      match a with
      | ⟨0, _⟩ => exact Nat.zero_mul _
      | ⟨1, _⟩ => exact Nat.zero_mul _
    exact (Memref.read_access_unit_zero (Elt Ideal) main_v11_0 hz' (fun a => by rw [congrFun hz' a]; simp) G).symm
  · show i ∈ ((View.whole main_v11_0).slice (win1_4.rect T)).set
    rw [View.set_slice_whole, Rect.mem_set_unit]
    intro a
    have h0 : (i 0 : Nat) < 3072 := (i 0).isLt
    have h1 : (i 1 : Nat) < 128 := (i 1).isLt
    match a with
    | ⟨0, _⟩ => exact ⟨Nat.zero_le _, by show (i 0 : Nat) < 0 * 3072 + 3072; omega⟩
    | ⟨1, _⟩ => exact ⟨Nat.zero_le _, by show (i 1 : Nat) < 0 * 128 + 128; omega⟩

/-- The array of lane maxima after the whole grid. -/
theorem array1_4 : (dat1 V c).arrAt 4 cfg1.N = (mLane (midLogit (V c main_v0) (V c main_arg3) (V c main_v10)) 48 : S3072x128.Idx → EReal) := by
  obtain ⟨T, hT⟩ : ∃ T : Fin cfg1.N, T.val = 47 := ⟨⟨47, lt_of_lt_of_eq (by norm_num) N_1.symm⟩, rfl⟩
  exact last1_4 V c T hT _ (by rw [state1, hT])

/-- What the last tile leaves is what the array of lane sums ends holding. -/
theorem last1_5 (T : Fin cfg1.N) (hT : T.val = 47) (G : S3072x128.Idx → EReal) (hG : (outsAt1 V c T.val T.isLt).2.1 = G) :
    (dat1 V c).arrAt 5 cfg1.N = (G : Buf (Elt Ideal) ((c : Thread nD τ).loc main_v11_1)) := by
  have hN : cfg1.N = 48 := N_1
  refine (dat1 V c).arrAt_eq_of_cover 5 _ (fun t hf => ?_) fun i => ⟨T, (flush1_5 _).mpr (by rw [hT]), ?_⟩
  · have hl : t = T := Fin.ext (by have := (flush1_5 t).mp hf; have := t.isLt; omega)
    subst hl
    show (cfg1.win 5).cut (grid1.coords t) ((dat1 V c).after 5 t) = _
    rw [after1_5, hG]
    have hz' : (fun a => win1_5.index t a * main_v11_1.ty.shape.size a) = fun _ => 0 := funext fun a => by
      match a with
      | ⟨0, _⟩ => exact Nat.zero_mul _
      | ⟨1, _⟩ => exact Nat.zero_mul _
    exact (Memref.read_access_unit_zero (Elt Ideal) main_v11_1 hz' (fun a => by rw [congrFun hz' a]; simp) G).symm
  · show i ∈ ((View.whole main_v11_1).slice (win1_5.rect T)).set
    rw [View.set_slice_whole, Rect.mem_set_unit]
    intro a
    have h0 : (i 0 : Nat) < 3072 := (i 0).isLt
    have h1 : (i 1 : Nat) < 128 := (i 1).isLt
    match a with
    | ⟨0, _⟩ => exact ⟨Nat.zero_le _, by show (i 0 : Nat) < 0 * 3072 + 3072; omega⟩
    | ⟨1, _⟩ => exact ⟨Nat.zero_le _, by show (i 1 : Nat) < 0 * 128 + 128; omega⟩

/-- The array of lane sums after the whole grid. -/
theorem array1_5 : (dat1 V c).arrAt 5 cfg1.N = (lLane (midLogit (V c main_v0) (V c main_arg3) (V c main_v10)) 48 : S3072x128.Idx → EReal) := by
  obtain ⟨T, hT⟩ : ∃ T : Fin cfg1.N, T.val = 47 := ⟨⟨47, lt_of_lt_of_eq (by norm_num) N_1.symm⟩, rfl⟩
  exact last1_5 V c T hT _ (by rw [state1, hT])

/-- What the last tile leaves is what the array of lane target logits ends holding. -/
theorem last1_6 (T : Fin cfg1.N) (hT : T.val = 47) (G : S3072x128.Idx → EReal) (hG : (outsAt1 V c T.val T.isLt).2.2 = G) :
    (dat1 V c).arrAt 6 cfg1.N = (G : Buf (Elt Ideal) ((c : Thread nD τ).loc main_v11_2)) := by
  have hN : cfg1.N = 48 := N_1
  refine (dat1 V c).arrAt_eq_of_cover 6 _ (fun t hf => ?_) fun i => ⟨T, (flush1_6 _).mpr (by rw [hT]), ?_⟩
  · have hl : t = T := Fin.ext (by have := (flush1_6 t).mp hf; have := t.isLt; omega)
    subst hl
    show (cfg1.win 6).cut (grid1.coords t) ((dat1 V c).after 6 t) = _
    rw [after1_6, hG]
    have hz' : (fun a => win1_6.index t a * main_v11_2.ty.shape.size a) = fun _ => 0 := funext fun a => by
      match a with
      | ⟨0, _⟩ => exact Nat.zero_mul _
      | ⟨1, _⟩ => exact Nat.zero_mul _
    exact (Memref.read_access_unit_zero (Elt Ideal) main_v11_2 hz' (fun a => by rw [congrFun hz' a]; simp) G).symm
  · show i ∈ ((View.whole main_v11_2).slice (win1_6.rect T)).set
    rw [View.set_slice_whole, Rect.mem_set_unit]
    intro a
    have h0 : (i 0 : Nat) < 3072 := (i 0).isLt
    have h1 : (i 1 : Nat) < 128 := (i 1).isLt
    match a with
    | ⟨0, _⟩ => exact ⟨Nat.zero_le _, by show (i 0 : Nat) < 0 * 3072 + 3072; omega⟩
    | ⟨1, _⟩ => exact ⟨Nat.zero_le _, by show (i 1 : Nat) < 0 * 128 + 128; omega⟩

/-- The array of lane target logits after the whole grid. -/
theorem array1_6 : (dat1 V c).arrAt 6 cfg1.N = (tLane (midLogit (V c main_v0) (V c main_arg3) (V c main_v10)) 48 (V c main_v9) : S3072x128.Idx → EReal) := by
  obtain ⟨T, hT⟩ : ∃ T : Fin cfg1.N, T.val = 47 := ⟨⟨47, lt_of_lt_of_eq (by norm_num) N_1.symm⟩, rfl⟩
  exact last1_6 V c T hT _ (by rw [state1, hT])

end

end Cert.Hand
-- ==== Proof.Nibble.lean ====
module

public import proofs.«01_k».proof.Proof.Gen.KernelIdeal.Skeleton
public import Idealize.ShloMosaic.Lib.BitcastFour
public import Idealize.ShloMosaic.Lib.Pointwise

@[expose] public section

noncomputable section

namespace Cert.Hand

open Idealize.ShloMosaic Idealize.ShloMosaic.TcCoe Cert.KernelIdeal Cert.KernelIdeal.Gen

/-- Bit `k` of byte row `p` of what 32-bit words hold, read as bytes: bit `8 (p mod 4) + k` of word row `p / 4`. -/
theorem bytes_bit (w : S128x128.Idx → BitVec 32) (p : Fin 512) (l : Fin 128) (k : ℕ) (hk : k < 8) :
    (bitcast S512x128 8 w bitcasts_S128x128_w32_S512x128_w8 (ix2 p l)).getLsbD k
      = (w (ix2 (⟨p.val / 4, by omega⟩ : Fin 128) l)).getLsbD (8 * (p.val % 4) + k) := by
  rw [bitcast_getLsbD w _ _ k hk (by decide)]
  have hrow : S512x128.row (ix2 p l) = p.val := rfl
  have e1 : (S512x128.row (ix2 p l) * 8 + k) / 32 = p.val / 4 := by rw [hrow]; omega
  have e2 : (S512x128.row (ix2 p l) * 8 + k) % 32 = 8 * (p.val % 4) + k := by rw [hrow]; omega
  rw [e2]
  congr 2
  funext c
  match c with
  | ⟨0, _⟩ => exact Fin.ext ((bitcasts_S128x128_w32_S512x128_w8.srcIdx_row _ _ _ ⟨0, Nat.zero_lt_two⟩ rfl).trans e1)
  | ⟨1, _⟩ => exact Fin.ext (bitcasts_S128x128_w32_S512x128_w8.srcIdx_other _ _ _ ⟨1, Nat.one_lt_two⟩ (by show ¬ 1 + 2 = 2; omega))

/-- Bit `8 i + k` of a word made of four byte rows is bit `k` of byte row `4 a + i`. -/
theorem word_bit (x : S512x128.Idx → BitVec 8) (p : Fin 512) (l : Fin 128) (k : ℕ) (hk : k < 8) :
    (bitcast S128x128 32 x bitcasts_S512x128_w8_S128x128_w32 (ix2 (⟨p.val / 4, by omega⟩ : Fin 128) l)).getLsbD (8 * (p.val % 4) + k)
      = (x (ix2 p l)).getLsbD k := by
  have h := bitcast_8_32_getLsbD_ix2 x bitcasts_S512x128_w8_S128x128_w32 (⟨p.val / 4, by omega⟩ : Fin 128) l (8 * (p.val % 4) + k)
    (by omega) p (by show p.val = 4 * (p.val / 4) + _; omega)
  rw [show (8 * (p.val % 4) + k) % 8 = k by omega] at h
  exact h

/-- The word mask keeps the high four bits of each byte. -/
theorem mask_bit (i k : ℕ) (hi : i < 4) (hk : k < 8) : (4042322160#32).getLsbD (8 * i + k) = decide (4 ≤ k) := by
  interval_cases i <;> interval_cases k <;> rfl

/-- Masked words, read as bytes, are the bytes with their low four bits cleared. -/
theorem high_nibbles (x : S512x128.Idx → BitVec 8) (y : S512x128.Idx) :
    bitcast S512x128 8 (andi (bitcast S128x128 32 x bitcasts_S512x128_w8_S128x128_w32) (broadcast S128x128 4042322160#32))
      bitcasts_S128x128_w32_S512x128_w8 y = x y &&& 240#8 := by
  obtain ⟨p, l, rfl⟩ : ∃ (p : Fin 512) (l : Fin 128), y = ix2 p l := ⟨y 0, y 1, ValueIdx.eq_ix2 y⟩
  refine BitVec.eq_of_getLsbD_eq fun k hk => ?_
  rw [bytes_bit _ p l k hk]
  show (IntOp.andi _ 4042322160#32).getLsbD _ = _
  unfold IntOp.andi
  rw [BitVec.getLsbD_and, word_bit x p l k hk, mask_bit _ k (Nat.mod_lt _ (by norm_num)) hk, BitVec.getLsbD_and]
  congr 1
  interval_cases k <;> rfl

/-- Words shifted by four and masked, read as bytes, are the bytes shifted by four. -/
theorem low_nibbles (x : S512x128.Idx → BitVec 8) (y : S512x128.Idx) :
    bitcast S512x128 8 (andi (shli (bitcast S128x128 32 x bitcasts_S512x128_w8_S128x128_w32) (broadcast S128x128 4#32))
      (broadcast S128x128 4042322160#32)) bitcasts_S128x128_w32_S512x128_w8 y = x y <<< 4 := by
  obtain ⟨p, l, rfl⟩ : ∃ (p : Fin 512) (l : Fin 128), y = ix2 p l := ⟨y 0, y 1, ValueIdx.eq_ix2 y⟩
  refine BitVec.eq_of_getLsbD_eq fun k hk => ?_
  rw [bytes_bit _ p l k hk]
  show (IntOp.andi (IntOp.shli .vector _ 4#32) 4042322160#32).getLsbD _ = _
  unfold IntOp.andi
  rw [BitVec.getLsbD_and, mask_bit _ k (Nat.mod_lt _ (by norm_num)) hk, BitVec.getLsbD_shiftLeft]
  by_cases h4 : 4 ≤ k
  · have e := word_bit x p l (k - 4) (by omega)
    have es : ∀ w : BitVec 32, IntOp.shli .vector w 4#32 = w <<< 4 := by intro w; rfl
    rw [es, BitVec.getLsbD_shiftLeft, show 8 * (p.val % 4) + k - 4 = 8 * (p.val % 4) + (k - 4) by omega]
    rw [← e]
    have h1 : 8 * (p.val % 4) + k < 32 := by omega
    have h2 : ¬ 8 * (p.val % 4) + k < 4 := by omega
    simp [h1, h2, h4, hk, show ¬ k < 4 by omega]
  · simp [h4, show k < 4 by omega]

end Cert.Hand
-- ==== Proof.TailTier.lean ====
module

public import proofs.«01_k».proof.Proof.Tier
public import proofs.«01_k».proof.Proof.Nibble

@[expose] public section

noncomputable section

namespace Cert.Hand

open Idealize.ShloMosaic Idealize.ShloMosaic.TcCoe Cert.KernelIdeal Cert.KernelIdeal.Gen

/-- The logit of group `j` of 128 columns at an entry `y` (row, lane) of the lane arrays, from weights that carry their
    own scales. -/
def lgT (X : Vec Ideal S3072x2560 .bf16) (W : Vec Ideal S512x2560 .bf16) (j : Fin 4) (y : S3072x128.Idx) : EReal :=
  ∑ k : Fin 2560, X (ix2 (y 0) k) * W (ix2 (⟨128 * j.val + (y 1).val, by have := (y 1).isLt; have h : (S3072x128.size 1) = 128 := rfl; omega⟩ : Fin 512) k)

/-- Four-bit weights dequantised in the kernel's column order: columns come in runs of 128, first the low halves of 128
    bytes and then their high halves; a half-byte is read at sixteen times its value and multiplied by a sixteenth and by
    its group's scale. -/
def tailW (p : Vec Ideal S512x1280 .i8) (sc : Vec Ideal S512x20 .bf16) (y : S512x2560.Idx) : EReal :=
  (if (y 1).val / 128 % 2 = 0
      then (((p (ix2 (y 0) (⟨(y 1).val / 256 * 128 + (y 1).val % 128, by have := (y 1).isLt; have h : (S512x2560.size 1) = 2560 := rfl; omega⟩ : Fin 1280)) <<< 4 : BitVec 8).toInt : ℝ) : EReal)
      else (((p (ix2 (y 0) (⟨(y 1).val / 256 * 128 + (y 1).val % 128, by have := (y 1).isLt; have h : (S512x2560.size 1) = 2560 := rfl; omega⟩ : Fin 1280)) &&& 240#8 : BitVec 8).toInt : ℝ) : EReal))
    * (Scalar.ofBits (F := Ideal) .bf16 0x3D80#16 : EReal)
    * sc (ix2 (y 0) (⟨2 * ((y 1).val / 256) + (if (y 1).val % 128 < 64 then 0 else 1), by
        have := (y 1).isLt; have h : (S512x2560.size 1) = 2560 := rfl; split <;> omega⟩ : Fin 20))

/-- Half of the lanes take one scale column and half the next. -/
theorem scale_lanes (a b : Vec Ideal S512x1 .bf16) (x : S512x128.Idx) :
    k2_pay5 (F := Ideal) a b x = if (x 1).val < 64 then a (ix2 (x 0) 0) else b (ix2 (x 0) 0) := by
  have sel : ∀ (u v : EReal), Scalar.select (IntOp.cmpi CmpIPredicate.slt (BitVec.ofNat 32 (x 1).val) 64#32) u v = if (x 1).val < 64 then u else v := by
    intro u v
    have hx : (x 1).val < 128 := (x 1).isLt
    have e : (BitVec.ofNat 32 (x 1).val).slt 64#32 = decide ((x 1).val < 64) := by
      generalize (x 1).val = n at hx
      interval_cases n <;> rfl
    show Scalar.select (BitVec.ofBool ((BitVec.ofNat 32 (x 1).val).slt 64#32)) u v = _
    rw [e]
    by_cases h : (x 1).val < 64 <;> simp [h, Scalar.select]
  unfold_payloads
  pointwise
  exact sel _ _

section
variable (p : Vec Ideal S512x1280 .i8) (sc : Vec Ideal S512x20 .bf16) (kb o1 o2 o3 o4 : ℕ) (hkb : kb < 10)
variable (e1 : o1 = 2 * kb) (e2 : o2 = 2 * kb + 1) (e3 : o3 = 128 * kb)
variable (h1 : ∀ a, (![0, o1] : Fin 2 → ℕ) a + (![512, 1] : Fin 2 → ℕ) a ≤ S512x20.size a)
variable (h2 : ∀ a, (![0, o2] : Fin 2 → ℕ) a + (![512, 1] : Fin 2 → ℕ) a ≤ S512x20.size a)
variable (h3 : ∀ a, (![0, o3] : Fin 2 → ℕ) a + (![512, 128] : Fin 2 → ℕ) a ≤ S512x1280.size a)
variable (h4 : ∀ a, (![0, o4] : Fin 2 → ℕ) a + (![512, 128] : Fin 2 → ℕ) a ≤ S512x2560.size a)
include hkb e1 e2 e3

theorem scale_piece (e4 : o4 % 128 = 0) (e5 : o4 / 256 = kb) (x : S512x128.Idx) :
    k2_pay5 (F := Ideal) (View.ld (Val := Elt Ideal) sc (Rect.unit ![0, o1] ![512, 1] h1))
        (View.ld (Val := Elt Ideal) sc (Rect.unit ![0, o2] ![512, 1] h2)) x
      = sc (ix2 ((Rect.unit (s := S512x2560) ![0, o4] ![512, 128] h4).emb x 0)
          (⟨2 * (((Rect.unit (s := S512x2560) ![0, o4] ![512, 128] h4).emb x 1).val / 256)
            + (if ((Rect.unit (s := S512x2560) ![0, o4] ![512, 128] h4).emb x 1).val % 128 < 64 then 0 else 1), by
        have := ((Rect.unit (s := S512x2560) ![0, o4] ![512, 128] h4).emb x 1).isLt; have h : (S512x2560.size 1) = 2560 := rfl; split <;> omega⟩ : Fin 20)) := by
  have hx : (x 1).val < 128 := (x 1).isLt
  have ec : ((Rect.unit (s := S512x2560) ![0, o4] ![512, 128] h4).emb x 1).val = o4 + (x 1).val := by
    show o4 + 1 * (x 1).val = _; rw [one_mul]
  rw [scale_lanes]
  by_cases hl : (x 1).val < 64
  · rw [if_pos hl]
    refine congrArg sc (ValueIdx.eq_ix2 _ |>.trans ?_)
    congr 1
    refine Fin.ext ?_
    show o1 + 1 * 0 = _
    simp only [ec]
    rw [if_pos (by omega)]; omega
  · rw [if_neg hl]
    refine congrArg sc (ValueIdx.eq_ix2 _ |>.trans ?_)
    congr 1
    refine Fin.ext ?_
    show o2 + 1 * 0 = _
    simp only [ec]
    rw [if_neg (by omega)]; omega

/-- The stored low halves of one run of 128 bytes. -/
theorem lo_piece (e4 : o4 = 256 * kb) (x : S512x128.Idx) :
    k2_pay8 (F := Ideal) (View.ld (Val := Elt Ideal) sc (Rect.unit ![0, o1] ![512, 1] h1))
        (View.ld (Val := Elt Ideal) sc (Rect.unit ![0, o2] ![512, 1] h2))
        (View.ld (Val := Elt Ideal) p (Rect.unit ![0, o3] ![512, 128] h3)) x
      = tailW p sc ((Rect.unit (s := S512x2560) ![0, o4] ![512, 128] h4).emb x) := by
  have hx : (x 1).val < 128 := (x 1).isLt
  have ec : ((Rect.unit (s := S512x2560) ![0, o4] ![512, 128] h4).emb x 1).val = o4 + (x 1).val := by
    show o4 + 1 * (x 1).val = _; rw [one_mul]
  unfold tailW
  rw [← scale_piece sc kb o1 o2 o3 o4 hkb e1 e2 e3 h1 h2 h4 (by omega) (by omega) x, if_pos (by rw [ec]; omega)]
  unfold k2_pay8 k2_pay6
  simp only [shapeCast_self]
  refine congrArg (· * _) (congrArg (· * _) ?_)
  show (((bitcast S512x128 8 (andi (shli (bitcast S128x128 32 _ _) _) _) _ x).toInt : ℝ) : EReal) = _
  rw [low_nibbles]
  refine congrArg (fun w : BitVec 8 => (((w <<< 4).toInt : ℝ) : EReal)) ?_
  refine congrArg p (ValueIdx.eq_ix2 _ |>.trans ?_)
  congr 1
  refine Fin.ext ?_
  show o3 + 1 * (x 1).val = _
  simp only [ec]
  omega

/-- The stored high halves of one run of 128 bytes. -/
theorem hi_piece (e4 : o4 = 256 * kb + 128) (x : S512x128.Idx) :
    k2_pay9 (F := Ideal) (k2_pay7 (F := Ideal) (View.ld (Val := Elt Ideal) sc (Rect.unit ![0, o1] ![512, 1] h1))
        (View.ld (Val := Elt Ideal) sc (Rect.unit ![0, o2] ![512, 1] h2))
        (View.ld (Val := Elt Ideal) p (Rect.unit ![0, o3] ![512, 128] h3))) x
      = tailW p sc ((Rect.unit (s := S512x2560) ![0, o4] ![512, 128] h4).emb x) := by
  have hx : (x 1).val < 128 := (x 1).isLt
  have ec : ((Rect.unit (s := S512x2560) ![0, o4] ![512, 128] h4).emb x 1).val = o4 + (x 1).val := by
    show o4 + 1 * (x 1).val = _; rw [one_mul]
  unfold tailW
  rw [← scale_piece sc kb o1 o2 o3 o4 hkb e1 e2 e3 h1 h2 h4 (by omega) (by omega) x, if_neg (by rw [ec]; omega)]
  unfold k2_pay9 k2_pay7 k2_pay6
  simp only [shapeCast_self]
  refine congrArg (· * _) (congrArg (· * _) ?_)
  show (((bitcast S512x128 8 (andi (bitcast S128x128 32 _ _) _) _ x).toInt : ℝ) : EReal) = _
  rw [high_nibbles]
  refine congrArg (fun w : BitVec 8 => (((w &&& 240#8).toInt : ℝ) : EReal)) ?_
  refine congrArg p (ValueIdx.eq_ix2 _ |>.trans ?_)
  congr 1
  refine Fin.ext ?_
  show o3 + 1 * (x 1).val = _
  simp only [ec]
  omega
end

section
variable (X : Vec Ideal S3072x2560 .bf16) (W : Vec Ideal S512x2560 .bf16)
variable (M A T : Vec Ideal S3072x128 .f32) (g : Vec Ideal S3072x128 .i32)
variable (o : ℕ) (hX : ∀ a, (![o, 0] : Fin 2 → ℕ) a + (![512, 2560] : Fin 2 → ℕ) a ≤ S3072x2560.size a)
variable (h : ∀ a, (![o, 0] : Fin 2 → ℕ) a + (![512, 128] : Fin 2 → ℕ) a ≤ S3072x128.size a)

/-- The body's logits of lane group 0 in the row block that starts at row `o`. -/
theorem lgT0_piece (x : S512x128.Idx) :
    k2_pay59 (F := Ideal) (View.ld (Val := Elt Ideal) X (Rect.unit ![o, 0] ![512, 2560] hX)) W x
      = lgT X W 0 ((Rect.unit (s := S3072x128) ![o, 0] ![512, 128] h).emb x) := by
  have e0 := emb_row o h x
  have e1 := emb_lane o h x
  unfold lgT
  unfold_payloads
  pointwise
  refine Finset.sum_congr rfl fun k _ => ?_
  congr 2
  · congr 1; exact Fin.ext e0.symm
  · congr 1; exact Fin.ext (by simp only [e1]; try rfl)

/-- The body's logits of lane group 1 in the row block that starts at row `o`. -/
theorem lgT1_piece (x : S512x128.Idx) :
    k2_pay60 (F := Ideal) (View.ld (Val := Elt Ideal) X (Rect.unit ![o, 0] ![512, 2560] hX)) W x
      = lgT X W 1 ((Rect.unit (s := S3072x128) ![o, 0] ![512, 128] h).emb x) := by
  have e0 := emb_row o h x
  have e1 := emb_lane o h x
  unfold lgT
  unfold_payloads
  pointwise
  refine Finset.sum_congr rfl fun k _ => ?_
  congr 2
  · congr 1; exact Fin.ext e0.symm
  · congr 1; exact Fin.ext (by simp only [e1]; try rfl)

/-- The body's logits of lane group 2 in the row block that starts at row `o`. -/
theorem lgT2_piece (x : S512x128.Idx) :
    k2_pay61 (F := Ideal) (View.ld (Val := Elt Ideal) X (Rect.unit ![o, 0] ![512, 2560] hX)) W x
      = lgT X W 2 ((Rect.unit (s := S3072x128) ![o, 0] ![512, 128] h).emb x) := by
  have e0 := emb_row o h x
  have e1 := emb_lane o h x
  unfold lgT
  unfold_payloads
  pointwise
  refine Finset.sum_congr rfl fun k _ => ?_
  congr 2
  · congr 1; exact Fin.ext e0.symm
  · congr 1; exact Fin.ext (by simp only [e1]; try rfl)

/-- The body's logits of lane group 3 in the row block that starts at row `o`. -/
theorem lgT3_piece (x : S512x128.Idx) :
    k2_pay62 (F := Ideal) (View.ld (Val := Elt Ideal) X (Rect.unit ![o, 0] ![512, 2560] hX)) W x
      = lgT X W 3 ((Rect.unit (s := S3072x128) ![o, 0] ![512, 128] h).emb x) := by
  have e0 := emb_row o h x
  have e1 := emb_lane o h x
  unfold lgT
  unfold_payloads
  pointwise
  refine Finset.sum_congr rfl fun k _ => ?_
  congr 2
  · congr 1; exact Fin.ext e0.symm
  · congr 1; exact Fin.ext (by simp only [e1]; try rfl)

/-- What the body stores as the row block's lane maxima. -/
theorem mT_piece (x : S512x128.Idx) :
    k0_pay11 (F := Ideal)
      (k2_pay59 (F := Ideal) (View.ld (Val := Elt Ideal) X (Rect.unit ![o, 0] ![512, 2560] hX)) W)
      (k2_pay60 (F := Ideal) (View.ld (Val := Elt Ideal) X (Rect.unit ![o, 0] ![512, 2560] hX)) W)
      (k2_pay61 (F := Ideal) (View.ld (Val := Elt Ideal) X (Rect.unit ![o, 0] ![512, 2560] hX)) W)
      (k2_pay62 (F := Ideal) (View.ld (Val := Elt Ideal) X (Rect.unit ![o, 0] ![512, 2560] hX)) W)
      (View.ld (Val := Elt Ideal) M (Rect.unit ![o, 0] ![512, 128] h)) x
      = mStep (lgT X W) M ((Rect.unit (s := S3072x128) ![o, 0] ![512, 128] h).emb x) := by
  unfold mStep
  rw [← lgT0_piece X W o hX h, ← lgT1_piece X W o hX h, ← lgT2_piece X W o hX h, ← lgT3_piece X W o hX h]
  unfold k0_pay11 k0_pay10
  rw [shapeCast_self]
  rfl

/-- What the body stores as the row block's lane sums. -/
theorem lT_piece (x : S512x128.Idx) :
    k0_pay12 (F := Ideal)
      (k2_pay59 (F := Ideal) (View.ld (Val := Elt Ideal) X (Rect.unit ![o, 0] ![512, 2560] hX)) W)
      (k2_pay60 (F := Ideal) (View.ld (Val := Elt Ideal) X (Rect.unit ![o, 0] ![512, 2560] hX)) W)
      (k2_pay61 (F := Ideal) (View.ld (Val := Elt Ideal) X (Rect.unit ![o, 0] ![512, 2560] hX)) W)
      (k2_pay62 (F := Ideal) (View.ld (Val := Elt Ideal) X (Rect.unit ![o, 0] ![512, 2560] hX)) W)
      (View.ld (Val := Elt Ideal) M (Rect.unit ![o, 0] ![512, 128] h))
      (View.ld (Val := Elt Ideal) A (Rect.unit ![o, 0] ![512, 128] h)) x
      = lStep (lgT X W) M A ((Rect.unit (s := S3072x128) ![o, 0] ![512, 128] h).emb x) := by
  unfold lStep
  rw [← mT_piece X W M o hX h, ← lgT0_piece X W o hX h, ← lgT1_piece X W o hX h,
    ← lgT2_piece X W o hX h, ← lgT3_piece X W o hX h]
  unfold k0_pay12 k0_pay10
  simp only [shapeCast_self]
  rfl

/-- What the body stores as the row block's lane target logits. -/
theorem tT_piece (n : BitVec 32) (x : S512x128.Idx) :
    k0_pay13 (F := Ideal) n (iota Kind.tc S512x128 32 [1] iota_S512x128_d1_w32)
      (k2_pay59 (F := Ideal) (View.ld (Val := Elt Ideal) X (Rect.unit ![o, 0] ![512, 2560] hX)) W)
      (k2_pay60 (F := Ideal) (View.ld (Val := Elt Ideal) X (Rect.unit ![o, 0] ![512, 2560] hX)) W)
      (k2_pay61 (F := Ideal) (View.ld (Val := Elt Ideal) X (Rect.unit ![o, 0] ![512, 2560] hX)) W)
      (k2_pay62 (F := Ideal) (View.ld (Val := Elt Ideal) X (Rect.unit ![o, 0] ![512, 2560] hX)) W)
      (View.ld (Val := Elt Ideal) g (Rect.unit ![o, 0] ![512, 128] h))
      (View.ld (Val := Elt Ideal) T (Rect.unit ![o, 0] ![512, 128] h)) x
      = tStep (lgT X W) n g T ((Rect.unit (s := S3072x128) ![o, 0] ![512, 128] h).emb x) := by
  unfold tStep
  rw [emb_lane, ← lgT0_piece X W o hX h, ← lgT1_piece X W o hX h, ← lgT2_piece X W o hX h,
    ← lgT3_piece X W o hX h]
  unfold k0_pay13
  simp only [shapeCast_self]
  generalize (k2_pay59 (F := Ideal) (View.ld (Val := Elt Ideal) X (Rect.unit ![o, 0] ![512, 2560] hX)) W) = l0
  generalize (k2_pay60 (F := Ideal) (View.ld (Val := Elt Ideal) X (Rect.unit ![o, 0] ![512, 2560] hX)) W) = l1
  generalize (k2_pay61 (F := Ideal) (View.ld (Val := Elt Ideal) X (Rect.unit ![o, 0] ![512, 2560] hX)) W) = l2
  generalize (k2_pay62 (F := Ideal) (View.ld (Val := Elt Ideal) X (Rect.unit ![o, 0] ![512, 2560] hX)) W) = l3
  generalize hg : View.ld (Val := Elt Ideal) g (Rect.unit ![o, 0] ![512, 128] h) = gv
  generalize hT : View.ld (Val := Elt Ideal) T (Rect.unit ![o, 0] ![512, 128] h) = Tv
  have sel : ∀ (a b : BitVec 32) (u v : EReal), Scalar.select (IntOp.cmpi CmpIPredicate.eq a b) u v = if a = b then u else v := by
    intro a b u v
    by_cases e : a = b
    · subst e; rw [if_pos rfl]; simp [Scalar.select, IntOp.cmpi]
    · rw [if_neg e]
      have eb : (a == b) = false := by simpa using e
      simp [Scalar.select, IntOp.cmpi, eb]
  pointwise [sel]
  subst hg hT
  rfl
end
end Cert.Hand
-- ==== Proof.Tile2.lean ====
module

public import proofs.«01_k».proof.Proof.Gen.KernelIdeal.Frame.Region2
public import proofs.«01_k».proof.Proof.TailTier

@[expose] public section

set_option maxRecDepth 16384

noncomputable section

namespace Cert.Hand

open Idealize.ShloMosaic Idealize.ShloMosaic.TcCoe Idealize.ShloMosaic.Tactic Cert.KernelIdeal Cert.KernelIdeal.Gen

/-- Stores that are blocks of `G` and cover the scratch buffer are read back whole as `G`. -/
theorem readCov_of_pieces {κ : Kind} {sp : Space} (v : View sig κ sp S512x2560 .bf16) (G : S512x2560.Idx → Elt Ideal .bf16)
    (L : List (View.Piece (Elt Ideal) S512x2560 .bf16)) (hP : View.PiecesOf G L) (hc : ∀ y, ∃ p ∈ L, y ∈ p.1.set)
    (h : ∀ a, (![0, 0] : Fin 2 → ℕ) a + (![512, 2560] : Fin 2 → ℕ) a ≤ S512x2560.size a) :
    v.readCov L (Rect.unit (s := S512x2560) ![0, 0] ![512, 2560] h) = G := by
  rw [View.readCov_eq_canon']
  funext j
  rw [View.canon_apply_of_pieces G L hP.mem _ (hc _)]
  refine congrArg G (funext fun a => Fin.ext ?_)
  match a with
  | ⟨0, _⟩ => show 0 + 1 * (j 0).val = (j 0).val; omega
  | ⟨1, _⟩ => show 0 + 1 * (j 1).val = (j 1).val; omega

set_option maxHeartbeats 1000000 in
/-- Every tile but the first leaves the lane maxima one step on from what they were. -/
theorem out2_B_4_eq (c : Dev nD) (i : grid2.Coords) (arg1 : Memref sig .tc .vmem S3072x2560 .bf16) (harg1 : arg1.IsWhole) (arg2 : Memref sig .tc .vmem S512x1280 .i8) (harg2 : arg2.IsWhole) (arg3 : Memref sig .tc .vmem S512x20 .bf16) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : ¬cond2_0 i)
    (x0 : Vec Ideal S3072x2560 .bf16) (x1 : Vec Ideal S512x1280 .i8) (x2 : Vec Ideal S512x20 .bf16) (x3 : Vec Ideal S3072x128 .i32) (xo4 : Vec Ideal S3072x128 .f32) (xo5 : Vec Ideal S3072x128 .f32) (xo6 : Vec Ideal S3072x128 .f32) :
    out2_B_4 c i arg1 harg1 arg2 harg2 arg3 harg3 arg4 harg4 arg5 harg5 arg6 harg6 arg7 harg7 arg8 harg8 hc0 x0 x1 x2 x3 xo4 xo5 xo6 = mStep (lgT x0 (tailW x1 x2)) xo4 := by
  have hz : (![0, 0] : Fin 2 → ℕ) = fun _ => 0 := by decide
  unfold out2_B_4; rw [View.read_writes_junk_eq_canon]; unfold kernelRun2_B; dsimp only; sl_unfold_words
  simp only [View.readAt_eq_ld, harg1.read_unread, harg2.read_unread, harg3.read_unread, harg4.read_unread, harg5.read_unread, harg6.read_unread, harg7.read_unread]
  rw [readCov_of_pieces (G := tailW x1 x2) (hP := ?pieces) (hc := ?cover)]
  case pieces =>
    exact ⟨fun x => hi_piece x1 x2 9 18 19 1152 2432 (by norm_num) rfl rfl rfl inb_S512x20_S512x1_0_18 inb_S512x20_S512x1_0_19 inb_S512x1280_S512x128_0_1152 inb_S512x2560_S512x128_0_2432 rfl x,
    fun x => lo_piece x1 x2 9 18 19 1152 2304 (by norm_num) rfl rfl rfl inb_S512x20_S512x1_0_18 inb_S512x20_S512x1_0_19 inb_S512x1280_S512x128_0_1152 inb_S512x2560_S512x128_0_2304 rfl x,
    fun x => hi_piece x1 x2 8 16 17 1024 2176 (by norm_num) rfl rfl rfl inb_S512x20_S512x1_0_16 inb_S512x20_S512x1_0_17 inb_S512x1280_S512x128_0_1024 inb_S512x2560_S512x128_0_2176 rfl x,
    fun x => lo_piece x1 x2 8 16 17 1024 2048 (by norm_num) rfl rfl rfl inb_S512x20_S512x1_0_16 inb_S512x20_S512x1_0_17 inb_S512x1280_S512x128_0_1024 inb_S512x2560_S512x128_0_2048 rfl x,
    fun x => hi_piece x1 x2 7 14 15 896 1920 (by norm_num) rfl rfl rfl inb_S512x20_S512x1_0_14 inb_S512x20_S512x1_0_15 inb_S512x1280_S512x128_0_896 inb_S512x2560_S512x128_0_1920 rfl x,
    fun x => lo_piece x1 x2 7 14 15 896 1792 (by norm_num) rfl rfl rfl inb_S512x20_S512x1_0_14 inb_S512x20_S512x1_0_15 inb_S512x1280_S512x128_0_896 inb_S512x2560_S512x128_0_1792 rfl x,
    fun x => hi_piece x1 x2 6 12 13 768 1664 (by norm_num) rfl rfl rfl inb_S512x20_S512x1_0_12 inb_S512x20_S512x1_0_13 inb_S512x1280_S512x128_0_768 inb_S512x2560_S512x128_0_1664 rfl x,
    fun x => lo_piece x1 x2 6 12 13 768 1536 (by norm_num) rfl rfl rfl inb_S512x20_S512x1_0_12 inb_S512x20_S512x1_0_13 inb_S512x1280_S512x128_0_768 inb_S512x2560_S512x128_0_1536 rfl x,
    fun x => hi_piece x1 x2 5 10 11 640 1408 (by norm_num) rfl rfl rfl inb_S512x20_S512x1_0_10 inb_S512x20_S512x1_0_11 inb_S512x1280_S512x128_0_640 inb_S512x2560_S512x128_0_1408 rfl x,
    fun x => lo_piece x1 x2 5 10 11 640 1280 (by norm_num) rfl rfl rfl inb_S512x20_S512x1_0_10 inb_S512x20_S512x1_0_11 inb_S512x1280_S512x128_0_640 inb_S512x2560_S512x128_0_1280 rfl x,
    fun x => hi_piece x1 x2 4 8 9 512 1152 (by norm_num) rfl rfl rfl inb_S512x20_S512x1_0_8 inb_S512x20_S512x1_0_9 inb_S512x1280_S512x128_0_512 inb_S512x2560_S512x128_0_1152 rfl x,
    fun x => lo_piece x1 x2 4 8 9 512 1024 (by norm_num) rfl rfl rfl inb_S512x20_S512x1_0_8 inb_S512x20_S512x1_0_9 inb_S512x1280_S512x128_0_512 inb_S512x2560_S512x128_0_1024 rfl x,
    fun x => hi_piece x1 x2 3 6 7 384 896 (by norm_num) rfl rfl rfl inb_S512x20_S512x1_0_6 inb_S512x20_S512x1_0_7 inb_S512x1280_S512x128_0_384 inb_S512x2560_S512x128_0_896 rfl x,
    fun x => lo_piece x1 x2 3 6 7 384 768 (by norm_num) rfl rfl rfl inb_S512x20_S512x1_0_6 inb_S512x20_S512x1_0_7 inb_S512x1280_S512x128_0_384 inb_S512x2560_S512x128_0_768 rfl x,
    fun x => hi_piece x1 x2 2 4 5 256 640 (by norm_num) rfl rfl rfl inb_S512x20_S512x1_0_4 inb_S512x20_S512x1_0_5 inb_S512x1280_S512x128_0_256 inb_S512x2560_S512x128_0_640 rfl x,
    fun x => lo_piece x1 x2 2 4 5 256 512 (by norm_num) rfl rfl rfl inb_S512x20_S512x1_0_4 inb_S512x20_S512x1_0_5 inb_S512x1280_S512x128_0_256 inb_S512x2560_S512x128_0_512 rfl x,
    fun x => hi_piece x1 x2 1 2 3 128 384 (by norm_num) rfl rfl rfl inb_S512x20_S512x1_0_2 inb_S512x20_S512x1_0_3 inb_S512x1280_S512x128_0_128 inb_S512x2560_S512x128_0_384 rfl x,
    fun x => lo_piece x1 x2 1 2 3 128 256 (by norm_num) rfl rfl rfl inb_S512x20_S512x1_0_2 inb_S512x20_S512x1_0_3 inb_S512x1280_S512x128_0_128 inb_S512x2560_S512x128_0_256 rfl x,
    fun x => hi_piece x1 x2 0 0 1 0 128 (by norm_num) rfl rfl rfl inb_S512x20_S512x1_0_0 inb_S512x20_S512x1_0_1 inb_S512x1280_S512x128_0_0 inb_S512x2560_S512x128_0_128 rfl x,
    fun x => lo_piece x1 x2 0 0 1 0 0 (by norm_num) rfl rfl rfl inb_S512x20_S512x1_0_0 inb_S512x20_S512x1_0_1 inb_S512x1280_S512x128_0_0 inb_S512x2560_S512x128_0_0 rfl x, trivial⟩
  case cover => exact View.cover_of_tiledL (s := S512x2560) _ S512x128.size (by sl_kernel_rfl)
  funext y
  refine View.canon_apply_of_pieces (Val := Elt Ideal) (e := .f32) (mStep (lgT x0 (tailW x1 x2)) xo4) _ (View.PiecesOf.mem ?_) y ?_
  · exact ⟨fun x => mT_piece x0 (tailW x1 x2) xo4 2560 _ _ x, fun x => mT_piece x0 (tailW x1 x2) xo4 2048 _ _ x, fun x => mT_piece x0 (tailW x1 x2) xo4 1536 _ _ x, fun x => mT_piece x0 (tailW x1 x2) xo4 1024 _ _ x, fun x => mT_piece x0 (tailW x1 x2) xo4 512 _ _ x, fun x => mT_piece x0 (tailW x1 x2) xo4 0 _ _ x, trivial⟩
  · exact View.cover_of_tiledL (s := S3072x128) _ S512x128.size (by sl_kernel_rfl) y

set_option maxHeartbeats 1000000 in
/-- Every tile but the first leaves the lane sums one step on from what they were. -/
theorem out2_B_5_eq (c : Dev nD) (i : grid2.Coords) (arg1 : Memref sig .tc .vmem S3072x2560 .bf16) (harg1 : arg1.IsWhole) (arg2 : Memref sig .tc .vmem S512x1280 .i8) (harg2 : arg2.IsWhole) (arg3 : Memref sig .tc .vmem S512x20 .bf16) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : ¬cond2_0 i)
    (x0 : Vec Ideal S3072x2560 .bf16) (x1 : Vec Ideal S512x1280 .i8) (x2 : Vec Ideal S512x20 .bf16) (x3 : Vec Ideal S3072x128 .i32) (xo4 : Vec Ideal S3072x128 .f32) (xo5 : Vec Ideal S3072x128 .f32) (xo6 : Vec Ideal S3072x128 .f32) :
    out2_B_5 c i arg1 harg1 arg2 harg2 arg3 harg3 arg4 harg4 arg5 harg5 arg6 harg6 arg7 harg7 arg8 harg8 hc0 x0 x1 x2 x3 xo4 xo5 xo6 = lStep (lgT x0 (tailW x1 x2)) xo4 xo5 := by
  have hz : (![0, 0] : Fin 2 → ℕ) = fun _ => 0 := by decide
  unfold out2_B_5; rw [View.read_writes_junk_eq_canon]; unfold kernelRun2_B; dsimp only; sl_unfold_words
  simp only [View.readAt_eq_ld, harg1.read_unread, harg2.read_unread, harg3.read_unread, harg4.read_unread, harg5.read_unread, harg6.read_unread, harg7.read_unread]
  rw [readCov_of_pieces (G := tailW x1 x2) (hP := ?pieces) (hc := ?cover)]
  case pieces =>
    exact ⟨fun x => hi_piece x1 x2 9 18 19 1152 2432 (by norm_num) rfl rfl rfl inb_S512x20_S512x1_0_18 inb_S512x20_S512x1_0_19 inb_S512x1280_S512x128_0_1152 inb_S512x2560_S512x128_0_2432 rfl x,
    fun x => lo_piece x1 x2 9 18 19 1152 2304 (by norm_num) rfl rfl rfl inb_S512x20_S512x1_0_18 inb_S512x20_S512x1_0_19 inb_S512x1280_S512x128_0_1152 inb_S512x2560_S512x128_0_2304 rfl x,
    fun x => hi_piece x1 x2 8 16 17 1024 2176 (by norm_num) rfl rfl rfl inb_S512x20_S512x1_0_16 inb_S512x20_S512x1_0_17 inb_S512x1280_S512x128_0_1024 inb_S512x2560_S512x128_0_2176 rfl x,
    fun x => lo_piece x1 x2 8 16 17 1024 2048 (by norm_num) rfl rfl rfl inb_S512x20_S512x1_0_16 inb_S512x20_S512x1_0_17 inb_S512x1280_S512x128_0_1024 inb_S512x2560_S512x128_0_2048 rfl x,
    fun x => hi_piece x1 x2 7 14 15 896 1920 (by norm_num) rfl rfl rfl inb_S512x20_S512x1_0_14 inb_S512x20_S512x1_0_15 inb_S512x1280_S512x128_0_896 inb_S512x2560_S512x128_0_1920 rfl x,
    fun x => lo_piece x1 x2 7 14 15 896 1792 (by norm_num) rfl rfl rfl inb_S512x20_S512x1_0_14 inb_S512x20_S512x1_0_15 inb_S512x1280_S512x128_0_896 inb_S512x2560_S512x128_0_1792 rfl x,
    fun x => hi_piece x1 x2 6 12 13 768 1664 (by norm_num) rfl rfl rfl inb_S512x20_S512x1_0_12 inb_S512x20_S512x1_0_13 inb_S512x1280_S512x128_0_768 inb_S512x2560_S512x128_0_1664 rfl x,
    fun x => lo_piece x1 x2 6 12 13 768 1536 (by norm_num) rfl rfl rfl inb_S512x20_S512x1_0_12 inb_S512x20_S512x1_0_13 inb_S512x1280_S512x128_0_768 inb_S512x2560_S512x128_0_1536 rfl x,
    fun x => hi_piece x1 x2 5 10 11 640 1408 (by norm_num) rfl rfl rfl inb_S512x20_S512x1_0_10 inb_S512x20_S512x1_0_11 inb_S512x1280_S512x128_0_640 inb_S512x2560_S512x128_0_1408 rfl x,
    fun x => lo_piece x1 x2 5 10 11 640 1280 (by norm_num) rfl rfl rfl inb_S512x20_S512x1_0_10 inb_S512x20_S512x1_0_11 inb_S512x1280_S512x128_0_640 inb_S512x2560_S512x128_0_1280 rfl x,
    fun x => hi_piece x1 x2 4 8 9 512 1152 (by norm_num) rfl rfl rfl inb_S512x20_S512x1_0_8 inb_S512x20_S512x1_0_9 inb_S512x1280_S512x128_0_512 inb_S512x2560_S512x128_0_1152 rfl x,
    fun x => lo_piece x1 x2 4 8 9 512 1024 (by norm_num) rfl rfl rfl inb_S512x20_S512x1_0_8 inb_S512x20_S512x1_0_9 inb_S512x1280_S512x128_0_512 inb_S512x2560_S512x128_0_1024 rfl x,
    fun x => hi_piece x1 x2 3 6 7 384 896 (by norm_num) rfl rfl rfl inb_S512x20_S512x1_0_6 inb_S512x20_S512x1_0_7 inb_S512x1280_S512x128_0_384 inb_S512x2560_S512x128_0_896 rfl x,
    fun x => lo_piece x1 x2 3 6 7 384 768 (by norm_num) rfl rfl rfl inb_S512x20_S512x1_0_6 inb_S512x20_S512x1_0_7 inb_S512x1280_S512x128_0_384 inb_S512x2560_S512x128_0_768 rfl x,
    fun x => hi_piece x1 x2 2 4 5 256 640 (by norm_num) rfl rfl rfl inb_S512x20_S512x1_0_4 inb_S512x20_S512x1_0_5 inb_S512x1280_S512x128_0_256 inb_S512x2560_S512x128_0_640 rfl x,
    fun x => lo_piece x1 x2 2 4 5 256 512 (by norm_num) rfl rfl rfl inb_S512x20_S512x1_0_4 inb_S512x20_S512x1_0_5 inb_S512x1280_S512x128_0_256 inb_S512x2560_S512x128_0_512 rfl x,
    fun x => hi_piece x1 x2 1 2 3 128 384 (by norm_num) rfl rfl rfl inb_S512x20_S512x1_0_2 inb_S512x20_S512x1_0_3 inb_S512x1280_S512x128_0_128 inb_S512x2560_S512x128_0_384 rfl x,
    fun x => lo_piece x1 x2 1 2 3 128 256 (by norm_num) rfl rfl rfl inb_S512x20_S512x1_0_2 inb_S512x20_S512x1_0_3 inb_S512x1280_S512x128_0_128 inb_S512x2560_S512x128_0_256 rfl x,
    fun x => hi_piece x1 x2 0 0 1 0 128 (by norm_num) rfl rfl rfl inb_S512x20_S512x1_0_0 inb_S512x20_S512x1_0_1 inb_S512x1280_S512x128_0_0 inb_S512x2560_S512x128_0_128 rfl x,
    fun x => lo_piece x1 x2 0 0 1 0 0 (by norm_num) rfl rfl rfl inb_S512x20_S512x1_0_0 inb_S512x20_S512x1_0_1 inb_S512x1280_S512x128_0_0 inb_S512x2560_S512x128_0_0 rfl x, trivial⟩
  case cover => exact View.cover_of_tiledL (s := S512x2560) _ S512x128.size (by sl_kernel_rfl)
  funext y
  refine View.canon_apply_of_pieces (Val := Elt Ideal) (e := .f32) (lStep (lgT x0 (tailW x1 x2)) xo4 xo5) _ (View.PiecesOf.mem ?_) y ?_
  · exact ⟨fun x => lT_piece x0 (tailW x1 x2) xo4 xo5 2560 _ _ x, fun x => lT_piece x0 (tailW x1 x2) xo4 xo5 2048 _ _ x, fun x => lT_piece x0 (tailW x1 x2) xo4 xo5 1536 _ _ x, fun x => lT_piece x0 (tailW x1 x2) xo4 xo5 1024 _ _ x, fun x => lT_piece x0 (tailW x1 x2) xo4 xo5 512 _ _ x, fun x => lT_piece x0 (tailW x1 x2) xo4 xo5 0 _ _ x, trivial⟩
  · exact View.cover_of_tiledL (s := S3072x128) _ S512x128.size (by sl_kernel_rfl) y

set_option maxHeartbeats 1000000 in
/-- Every tile but the first leaves the lane target logits one step on from what they were. -/
theorem out2_B_6_eq (c : Dev nD) (i : grid2.Coords) (arg1 : Memref sig .tc .vmem S3072x2560 .bf16) (harg1 : arg1.IsWhole) (arg2 : Memref sig .tc .vmem S512x1280 .i8) (harg2 : arg2.IsWhole) (arg3 : Memref sig .tc .vmem S512x20 .bf16) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : ¬cond2_0 i)
    (x0 : Vec Ideal S3072x2560 .bf16) (x1 : Vec Ideal S512x1280 .i8) (x2 : Vec Ideal S512x20 .bf16) (x3 : Vec Ideal S3072x128 .i32) (xo4 : Vec Ideal S3072x128 .f32) (xo5 : Vec Ideal S3072x128 .f32) (xo6 : Vec Ideal S3072x128 .f32) :
    out2_B_6 c i arg1 harg1 arg2 harg2 arg3 harg3 arg4 harg4 arg5 harg5 arg6 harg6 arg7 harg7 arg8 harg8 hc0 x0 x1 x2 x3 xo4 xo5 xo6 = tStep (lgT x0 (tailW x1 x2)) (BitVec.ofNat 32 (i 0).val) x3 xo6 := by
  have hz : (![0, 0] : Fin 2 → ℕ) = fun _ => 0 := by decide
  unfold out2_B_6; rw [View.read_writes_junk_eq_canon]; unfold kernelRun2_B; dsimp only; sl_unfold_words
  simp only [View.readAt_eq_ld, harg1.read_unread, harg2.read_unread, harg3.read_unread, harg4.read_unread, harg5.read_unread, harg6.read_unread, harg7.read_unread]
  rw [readCov_of_pieces (G := tailW x1 x2) (hP := ?pieces) (hc := ?cover)]
  case pieces =>
    exact ⟨fun x => hi_piece x1 x2 9 18 19 1152 2432 (by norm_num) rfl rfl rfl inb_S512x20_S512x1_0_18 inb_S512x20_S512x1_0_19 inb_S512x1280_S512x128_0_1152 inb_S512x2560_S512x128_0_2432 rfl x,
    fun x => lo_piece x1 x2 9 18 19 1152 2304 (by norm_num) rfl rfl rfl inb_S512x20_S512x1_0_18 inb_S512x20_S512x1_0_19 inb_S512x1280_S512x128_0_1152 inb_S512x2560_S512x128_0_2304 rfl x,
    fun x => hi_piece x1 x2 8 16 17 1024 2176 (by norm_num) rfl rfl rfl inb_S512x20_S512x1_0_16 inb_S512x20_S512x1_0_17 inb_S512x1280_S512x128_0_1024 inb_S512x2560_S512x128_0_2176 rfl x,
    fun x => lo_piece x1 x2 8 16 17 1024 2048 (by norm_num) rfl rfl rfl inb_S512x20_S512x1_0_16 inb_S512x20_S512x1_0_17 inb_S512x1280_S512x128_0_1024 inb_S512x2560_S512x128_0_2048 rfl x,
    fun x => hi_piece x1 x2 7 14 15 896 1920 (by norm_num) rfl rfl rfl inb_S512x20_S512x1_0_14 inb_S512x20_S512x1_0_15 inb_S512x1280_S512x128_0_896 inb_S512x2560_S512x128_0_1920 rfl x,
    fun x => lo_piece x1 x2 7 14 15 896 1792 (by norm_num) rfl rfl rfl inb_S512x20_S512x1_0_14 inb_S512x20_S512x1_0_15 inb_S512x1280_S512x128_0_896 inb_S512x2560_S512x128_0_1792 rfl x,
    fun x => hi_piece x1 x2 6 12 13 768 1664 (by norm_num) rfl rfl rfl inb_S512x20_S512x1_0_12 inb_S512x20_S512x1_0_13 inb_S512x1280_S512x128_0_768 inb_S512x2560_S512x128_0_1664 rfl x,
    fun x => lo_piece x1 x2 6 12 13 768 1536 (by norm_num) rfl rfl rfl inb_S512x20_S512x1_0_12 inb_S512x20_S512x1_0_13 inb_S512x1280_S512x128_0_768 inb_S512x2560_S512x128_0_1536 rfl x,
    fun x => hi_piece x1 x2 5 10 11 640 1408 (by norm_num) rfl rfl rfl inb_S512x20_S512x1_0_10 inb_S512x20_S512x1_0_11 inb_S512x1280_S512x128_0_640 inb_S512x2560_S512x128_0_1408 rfl x,
    fun x => lo_piece x1 x2 5 10 11 640 1280 (by norm_num) rfl rfl rfl inb_S512x20_S512x1_0_10 inb_S512x20_S512x1_0_11 inb_S512x1280_S512x128_0_640 inb_S512x2560_S512x128_0_1280 rfl x,
    fun x => hi_piece x1 x2 4 8 9 512 1152 (by norm_num) rfl rfl rfl inb_S512x20_S512x1_0_8 inb_S512x20_S512x1_0_9 inb_S512x1280_S512x128_0_512 inb_S512x2560_S512x128_0_1152 rfl x,
    fun x => lo_piece x1 x2 4 8 9 512 1024 (by norm_num) rfl rfl rfl inb_S512x20_S512x1_0_8 inb_S512x20_S512x1_0_9 inb_S512x1280_S512x128_0_512 inb_S512x2560_S512x128_0_1024 rfl x,
    fun x => hi_piece x1 x2 3 6 7 384 896 (by norm_num) rfl rfl rfl inb_S512x20_S512x1_0_6 inb_S512x20_S512x1_0_7 inb_S512x1280_S512x128_0_384 inb_S512x2560_S512x128_0_896 rfl x,
    fun x => lo_piece x1 x2 3 6 7 384 768 (by norm_num) rfl rfl rfl inb_S512x20_S512x1_0_6 inb_S512x20_S512x1_0_7 inb_S512x1280_S512x128_0_384 inb_S512x2560_S512x128_0_768 rfl x,
    fun x => hi_piece x1 x2 2 4 5 256 640 (by norm_num) rfl rfl rfl inb_S512x20_S512x1_0_4 inb_S512x20_S512x1_0_5 inb_S512x1280_S512x128_0_256 inb_S512x2560_S512x128_0_640 rfl x,
    fun x => lo_piece x1 x2 2 4 5 256 512 (by norm_num) rfl rfl rfl inb_S512x20_S512x1_0_4 inb_S512x20_S512x1_0_5 inb_S512x1280_S512x128_0_256 inb_S512x2560_S512x128_0_512 rfl x,
    fun x => hi_piece x1 x2 1 2 3 128 384 (by norm_num) rfl rfl rfl inb_S512x20_S512x1_0_2 inb_S512x20_S512x1_0_3 inb_S512x1280_S512x128_0_128 inb_S512x2560_S512x128_0_384 rfl x,
    fun x => lo_piece x1 x2 1 2 3 128 256 (by norm_num) rfl rfl rfl inb_S512x20_S512x1_0_2 inb_S512x20_S512x1_0_3 inb_S512x1280_S512x128_0_128 inb_S512x2560_S512x128_0_256 rfl x,
    fun x => hi_piece x1 x2 0 0 1 0 128 (by norm_num) rfl rfl rfl inb_S512x20_S512x1_0_0 inb_S512x20_S512x1_0_1 inb_S512x1280_S512x128_0_0 inb_S512x2560_S512x128_0_128 rfl x,
    fun x => lo_piece x1 x2 0 0 1 0 0 (by norm_num) rfl rfl rfl inb_S512x20_S512x1_0_0 inb_S512x20_S512x1_0_1 inb_S512x1280_S512x128_0_0 inb_S512x2560_S512x128_0_0 rfl x, trivial⟩
  case cover => exact View.cover_of_tiledL (s := S512x2560) _ S512x128.size (by sl_kernel_rfl)
  funext y
  refine View.canon_apply_of_pieces (Val := Elt Ideal) (e := .f32) (tStep (lgT x0 (tailW x1 x2)) (BitVec.ofNat 32 (i 0).val) x3 xo6) _ (View.PiecesOf.mem ?_) y ?_
  · exact ⟨fun x => tT_piece x0 (tailW x1 x2) xo6 x3 2560 _ _ _ x, fun x => tT_piece x0 (tailW x1 x2) xo6 x3 2048 _ _ _ x, fun x => tT_piece x0 (tailW x1 x2) xo6 x3 1536 _ _ _ x, fun x => tT_piece x0 (tailW x1 x2) xo6 x3 1024 _ _ _ x, fun x => tT_piece x0 (tailW x1 x2) xo6 x3 512 _ _ _ x, fun x => tT_piece x0 (tailW x1 x2) xo6 x3 0 _ _ _ x, trivial⟩
  · exact View.cover_of_tiledL (s := S3072x128) _ S512x128.size (by sl_kernel_rfl) y

set_option maxHeartbeats 1000000 in
/-- The first tile leaves the lane maxima one step on from their starting value. -/
theorem out2_A_4_eq (c : Dev nD) (i : grid2.Coords) (arg1 : Memref sig .tc .vmem S3072x2560 .bf16) (harg1 : arg1.IsWhole) (arg2 : Memref sig .tc .vmem S512x1280 .i8) (harg2 : arg2.IsWhole) (arg3 : Memref sig .tc .vmem S512x20 .bf16) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : cond2_0 i)
    (x0 : Vec Ideal S3072x2560 .bf16) (x1 : Vec Ideal S512x1280 .i8) (x2 : Vec Ideal S512x20 .bf16) (x3 : Vec Ideal S3072x128 .i32) :
    out2_A_4 c i arg1 harg1 arg2 harg2 arg3 harg3 arg4 harg4 arg5 harg5 arg6 harg6 arg7 harg7 arg8 harg8 hc0 x0 x1 x2 x3 = mStep (lgT x0 (tailW x1 x2)) (k2_pay2 (F := Ideal)) := by
  have hz : (![0, 0] : Fin 2 → ℕ) = fun _ => 0 := by decide
  unfold out2_A_4; rw [View.read_writes_junk_eq_canon]; unfold kernelRun2_A; dsimp only; sl_unfold_words
  simp only [View.readAt_eq_ld, harg1.read_unread, harg2.read_unread, harg3.read_unread, harg4.read_unread]
  rw [readCov_of_pieces (G := tailW x1 x2) (hP := ?pieces) (hc := ?cover)]
  case pieces =>
    exact ⟨fun x => hi_piece x1 x2 9 18 19 1152 2432 (by norm_num) rfl rfl rfl inb_S512x20_S512x1_0_18 inb_S512x20_S512x1_0_19 inb_S512x1280_S512x128_0_1152 inb_S512x2560_S512x128_0_2432 rfl x,
    fun x => lo_piece x1 x2 9 18 19 1152 2304 (by norm_num) rfl rfl rfl inb_S512x20_S512x1_0_18 inb_S512x20_S512x1_0_19 inb_S512x1280_S512x128_0_1152 inb_S512x2560_S512x128_0_2304 rfl x,
    fun x => hi_piece x1 x2 8 16 17 1024 2176 (by norm_num) rfl rfl rfl inb_S512x20_S512x1_0_16 inb_S512x20_S512x1_0_17 inb_S512x1280_S512x128_0_1024 inb_S512x2560_S512x128_0_2176 rfl x,
    fun x => lo_piece x1 x2 8 16 17 1024 2048 (by norm_num) rfl rfl rfl inb_S512x20_S512x1_0_16 inb_S512x20_S512x1_0_17 inb_S512x1280_S512x128_0_1024 inb_S512x2560_S512x128_0_2048 rfl x,
    fun x => hi_piece x1 x2 7 14 15 896 1920 (by norm_num) rfl rfl rfl inb_S512x20_S512x1_0_14 inb_S512x20_S512x1_0_15 inb_S512x1280_S512x128_0_896 inb_S512x2560_S512x128_0_1920 rfl x,
    fun x => lo_piece x1 x2 7 14 15 896 1792 (by norm_num) rfl rfl rfl inb_S512x20_S512x1_0_14 inb_S512x20_S512x1_0_15 inb_S512x1280_S512x128_0_896 inb_S512x2560_S512x128_0_1792 rfl x,
    fun x => hi_piece x1 x2 6 12 13 768 1664 (by norm_num) rfl rfl rfl inb_S512x20_S512x1_0_12 inb_S512x20_S512x1_0_13 inb_S512x1280_S512x128_0_768 inb_S512x2560_S512x128_0_1664 rfl x,
    fun x => lo_piece x1 x2 6 12 13 768 1536 (by norm_num) rfl rfl rfl inb_S512x20_S512x1_0_12 inb_S512x20_S512x1_0_13 inb_S512x1280_S512x128_0_768 inb_S512x2560_S512x128_0_1536 rfl x,
    fun x => hi_piece x1 x2 5 10 11 640 1408 (by norm_num) rfl rfl rfl inb_S512x20_S512x1_0_10 inb_S512x20_S512x1_0_11 inb_S512x1280_S512x128_0_640 inb_S512x2560_S512x128_0_1408 rfl x,
    fun x => lo_piece x1 x2 5 10 11 640 1280 (by norm_num) rfl rfl rfl inb_S512x20_S512x1_0_10 inb_S512x20_S512x1_0_11 inb_S512x1280_S512x128_0_640 inb_S512x2560_S512x128_0_1280 rfl x,
    fun x => hi_piece x1 x2 4 8 9 512 1152 (by norm_num) rfl rfl rfl inb_S512x20_S512x1_0_8 inb_S512x20_S512x1_0_9 inb_S512x1280_S512x128_0_512 inb_S512x2560_S512x128_0_1152 rfl x,
    fun x => lo_piece x1 x2 4 8 9 512 1024 (by norm_num) rfl rfl rfl inb_S512x20_S512x1_0_8 inb_S512x20_S512x1_0_9 inb_S512x1280_S512x128_0_512 inb_S512x2560_S512x128_0_1024 rfl x,
    fun x => hi_piece x1 x2 3 6 7 384 896 (by norm_num) rfl rfl rfl inb_S512x20_S512x1_0_6 inb_S512x20_S512x1_0_7 inb_S512x1280_S512x128_0_384 inb_S512x2560_S512x128_0_896 rfl x,
    fun x => lo_piece x1 x2 3 6 7 384 768 (by norm_num) rfl rfl rfl inb_S512x20_S512x1_0_6 inb_S512x20_S512x1_0_7 inb_S512x1280_S512x128_0_384 inb_S512x2560_S512x128_0_768 rfl x,
    fun x => hi_piece x1 x2 2 4 5 256 640 (by norm_num) rfl rfl rfl inb_S512x20_S512x1_0_4 inb_S512x20_S512x1_0_5 inb_S512x1280_S512x128_0_256 inb_S512x2560_S512x128_0_640 rfl x,
    fun x => lo_piece x1 x2 2 4 5 256 512 (by norm_num) rfl rfl rfl inb_S512x20_S512x1_0_4 inb_S512x20_S512x1_0_5 inb_S512x1280_S512x128_0_256 inb_S512x2560_S512x128_0_512 rfl x,
    fun x => hi_piece x1 x2 1 2 3 128 384 (by norm_num) rfl rfl rfl inb_S512x20_S512x1_0_2 inb_S512x20_S512x1_0_3 inb_S512x1280_S512x128_0_128 inb_S512x2560_S512x128_0_384 rfl x,
    fun x => lo_piece x1 x2 1 2 3 128 256 (by norm_num) rfl rfl rfl inb_S512x20_S512x1_0_2 inb_S512x20_S512x1_0_3 inb_S512x1280_S512x128_0_128 inb_S512x2560_S512x128_0_256 rfl x,
    fun x => hi_piece x1 x2 0 0 1 0 128 (by norm_num) rfl rfl rfl inb_S512x20_S512x1_0_0 inb_S512x20_S512x1_0_1 inb_S512x1280_S512x128_0_0 inb_S512x2560_S512x128_0_128 rfl x,
    fun x => lo_piece x1 x2 0 0 1 0 0 (by norm_num) rfl rfl rfl inb_S512x20_S512x1_0_0 inb_S512x20_S512x1_0_1 inb_S512x1280_S512x128_0_0 inb_S512x2560_S512x128_0_0 rfl x, trivial⟩
  case cover => exact View.cover_of_tiledL (s := S512x2560) _ S512x128.size (by sl_kernel_rfl)
  simp (disch := decide) only [↓ View.readCov_skip, ↓ View.readCov_fill]
  funext y
  refine View.canon_append_of_piecesOf (Val := Elt Ideal) (e := .f32) (mStep (lgT x0 (tailW x1 x2)) (k2_pay2 (F := Ideal))) [_] [_, _, _, _, _, _] ?_ y ?_
  · exact ⟨fun x => mT_piece x0 (tailW x1 x2) (k2_pay2 (F := Ideal)) 2560 _ _ x, fun x => mT_piece x0 (tailW x1 x2) (k2_pay2 (F := Ideal)) 2048 _ _ x, fun x => mT_piece x0 (tailW x1 x2) (k2_pay2 (F := Ideal)) 1536 _ _ x, fun x => mT_piece x0 (tailW x1 x2) (k2_pay2 (F := Ideal)) 1024 _ _ x, fun x => mT_piece x0 (tailW x1 x2) (k2_pay2 (F := Ideal)) 512 _ _ x, fun x => mT_piece x0 (tailW x1 x2) (k2_pay2 (F := Ideal)) 0 _ _ x, trivial⟩
  · exact View.cover_of_tiledL (s := S3072x128) _ S512x128.size (by sl_kernel_rfl) y

set_option maxHeartbeats 1000000 in
/-- The first tile leaves the lane sums one step on from their starting value. -/
theorem out2_A_5_eq (c : Dev nD) (i : grid2.Coords) (arg1 : Memref sig .tc .vmem S3072x2560 .bf16) (harg1 : arg1.IsWhole) (arg2 : Memref sig .tc .vmem S512x1280 .i8) (harg2 : arg2.IsWhole) (arg3 : Memref sig .tc .vmem S512x20 .bf16) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : cond2_0 i)
    (x0 : Vec Ideal S3072x2560 .bf16) (x1 : Vec Ideal S512x1280 .i8) (x2 : Vec Ideal S512x20 .bf16) (x3 : Vec Ideal S3072x128 .i32) :
    out2_A_5 c i arg1 harg1 arg2 harg2 arg3 harg3 arg4 harg4 arg5 harg5 arg6 harg6 arg7 harg7 arg8 harg8 hc0 x0 x1 x2 x3 = lStep (lgT x0 (tailW x1 x2)) (k2_pay2 (F := Ideal)) (k2_pay3 (F := Ideal)) := by
  have hz : (![0, 0] : Fin 2 → ℕ) = fun _ => 0 := by decide
  unfold out2_A_5; rw [View.read_writes_junk_eq_canon]; unfold kernelRun2_A; dsimp only; sl_unfold_words
  simp only [View.readAt_eq_ld, harg1.read_unread, harg2.read_unread, harg3.read_unread, harg4.read_unread]
  rw [readCov_of_pieces (G := tailW x1 x2) (hP := ?pieces) (hc := ?cover)]
  case pieces =>
    exact ⟨fun x => hi_piece x1 x2 9 18 19 1152 2432 (by norm_num) rfl rfl rfl inb_S512x20_S512x1_0_18 inb_S512x20_S512x1_0_19 inb_S512x1280_S512x128_0_1152 inb_S512x2560_S512x128_0_2432 rfl x,
    fun x => lo_piece x1 x2 9 18 19 1152 2304 (by norm_num) rfl rfl rfl inb_S512x20_S512x1_0_18 inb_S512x20_S512x1_0_19 inb_S512x1280_S512x128_0_1152 inb_S512x2560_S512x128_0_2304 rfl x,
    fun x => hi_piece x1 x2 8 16 17 1024 2176 (by norm_num) rfl rfl rfl inb_S512x20_S512x1_0_16 inb_S512x20_S512x1_0_17 inb_S512x1280_S512x128_0_1024 inb_S512x2560_S512x128_0_2176 rfl x,
    fun x => lo_piece x1 x2 8 16 17 1024 2048 (by norm_num) rfl rfl rfl inb_S512x20_S512x1_0_16 inb_S512x20_S512x1_0_17 inb_S512x1280_S512x128_0_1024 inb_S512x2560_S512x128_0_2048 rfl x,
    fun x => hi_piece x1 x2 7 14 15 896 1920 (by norm_num) rfl rfl rfl inb_S512x20_S512x1_0_14 inb_S512x20_S512x1_0_15 inb_S512x1280_S512x128_0_896 inb_S512x2560_S512x128_0_1920 rfl x,
    fun x => lo_piece x1 x2 7 14 15 896 1792 (by norm_num) rfl rfl rfl inb_S512x20_S512x1_0_14 inb_S512x20_S512x1_0_15 inb_S512x1280_S512x128_0_896 inb_S512x2560_S512x128_0_1792 rfl x,
    fun x => hi_piece x1 x2 6 12 13 768 1664 (by norm_num) rfl rfl rfl inb_S512x20_S512x1_0_12 inb_S512x20_S512x1_0_13 inb_S512x1280_S512x128_0_768 inb_S512x2560_S512x128_0_1664 rfl x,
    fun x => lo_piece x1 x2 6 12 13 768 1536 (by norm_num) rfl rfl rfl inb_S512x20_S512x1_0_12 inb_S512x20_S512x1_0_13 inb_S512x1280_S512x128_0_768 inb_S512x2560_S512x128_0_1536 rfl x,
    fun x => hi_piece x1 x2 5 10 11 640 1408 (by norm_num) rfl rfl rfl inb_S512x20_S512x1_0_10 inb_S512x20_S512x1_0_11 inb_S512x1280_S512x128_0_640 inb_S512x2560_S512x128_0_1408 rfl x,
    fun x => lo_piece x1 x2 5 10 11 640 1280 (by norm_num) rfl rfl rfl inb_S512x20_S512x1_0_10 inb_S512x20_S512x1_0_11 inb_S512x1280_S512x128_0_640 inb_S512x2560_S512x128_0_1280 rfl x,
    fun x => hi_piece x1 x2 4 8 9 512 1152 (by norm_num) rfl rfl rfl inb_S512x20_S512x1_0_8 inb_S512x20_S512x1_0_9 inb_S512x1280_S512x128_0_512 inb_S512x2560_S512x128_0_1152 rfl x,
    fun x => lo_piece x1 x2 4 8 9 512 1024 (by norm_num) rfl rfl rfl inb_S512x20_S512x1_0_8 inb_S512x20_S512x1_0_9 inb_S512x1280_S512x128_0_512 inb_S512x2560_S512x128_0_1024 rfl x,
    fun x => hi_piece x1 x2 3 6 7 384 896 (by norm_num) rfl rfl rfl inb_S512x20_S512x1_0_6 inb_S512x20_S512x1_0_7 inb_S512x1280_S512x128_0_384 inb_S512x2560_S512x128_0_896 rfl x,
    fun x => lo_piece x1 x2 3 6 7 384 768 (by norm_num) rfl rfl rfl inb_S512x20_S512x1_0_6 inb_S512x20_S512x1_0_7 inb_S512x1280_S512x128_0_384 inb_S512x2560_S512x128_0_768 rfl x,
    fun x => hi_piece x1 x2 2 4 5 256 640 (by norm_num) rfl rfl rfl inb_S512x20_S512x1_0_4 inb_S512x20_S512x1_0_5 inb_S512x1280_S512x128_0_256 inb_S512x2560_S512x128_0_640 rfl x,
    fun x => lo_piece x1 x2 2 4 5 256 512 (by norm_num) rfl rfl rfl inb_S512x20_S512x1_0_4 inb_S512x20_S512x1_0_5 inb_S512x1280_S512x128_0_256 inb_S512x2560_S512x128_0_512 rfl x,
    fun x => hi_piece x1 x2 1 2 3 128 384 (by norm_num) rfl rfl rfl inb_S512x20_S512x1_0_2 inb_S512x20_S512x1_0_3 inb_S512x1280_S512x128_0_128 inb_S512x2560_S512x128_0_384 rfl x,
    fun x => lo_piece x1 x2 1 2 3 128 256 (by norm_num) rfl rfl rfl inb_S512x20_S512x1_0_2 inb_S512x20_S512x1_0_3 inb_S512x1280_S512x128_0_128 inb_S512x2560_S512x128_0_256 rfl x,
    fun x => hi_piece x1 x2 0 0 1 0 128 (by norm_num) rfl rfl rfl inb_S512x20_S512x1_0_0 inb_S512x20_S512x1_0_1 inb_S512x1280_S512x128_0_0 inb_S512x2560_S512x128_0_128 rfl x,
    fun x => lo_piece x1 x2 0 0 1 0 0 (by norm_num) rfl rfl rfl inb_S512x20_S512x1_0_0 inb_S512x20_S512x1_0_1 inb_S512x1280_S512x128_0_0 inb_S512x2560_S512x128_0_0 rfl x, trivial⟩
  case cover => exact View.cover_of_tiledL (s := S512x2560) _ S512x128.size (by sl_kernel_rfl)
  simp (disch := decide) only [↓ View.readCov_skip, ↓ View.readCov_fill]
  funext y
  refine View.canon_append_of_piecesOf (Val := Elt Ideal) (e := .f32) (lStep (lgT x0 (tailW x1 x2)) (k2_pay2 (F := Ideal)) (k2_pay3 (F := Ideal))) [_] [_, _, _, _, _, _] ?_ y ?_
  · exact ⟨fun x => lT_piece x0 (tailW x1 x2) (k2_pay2 (F := Ideal)) (k2_pay3 (F := Ideal)) 2560 _ _ x, fun x => lT_piece x0 (tailW x1 x2) (k2_pay2 (F := Ideal)) (k2_pay3 (F := Ideal)) 2048 _ _ x, fun x => lT_piece x0 (tailW x1 x2) (k2_pay2 (F := Ideal)) (k2_pay3 (F := Ideal)) 1536 _ _ x, fun x => lT_piece x0 (tailW x1 x2) (k2_pay2 (F := Ideal)) (k2_pay3 (F := Ideal)) 1024 _ _ x, fun x => lT_piece x0 (tailW x1 x2) (k2_pay2 (F := Ideal)) (k2_pay3 (F := Ideal)) 512 _ _ x, fun x => lT_piece x0 (tailW x1 x2) (k2_pay2 (F := Ideal)) (k2_pay3 (F := Ideal)) 0 _ _ x, trivial⟩
  · exact View.cover_of_tiledL (s := S3072x128) _ S512x128.size (by sl_kernel_rfl) y

set_option maxHeartbeats 1000000 in
/-- The first tile leaves the lane target logits one step on from their starting value. -/
theorem out2_A_6_eq (c : Dev nD) (i : grid2.Coords) (arg1 : Memref sig .tc .vmem S3072x2560 .bf16) (harg1 : arg1.IsWhole) (arg2 : Memref sig .tc .vmem S512x1280 .i8) (harg2 : arg2.IsWhole) (arg3 : Memref sig .tc .vmem S512x20 .bf16) (harg3 : arg3.IsWhole) (arg4 : Memref sig .tc .vmem S3072x128 .i32) (harg4 : arg4.IsWhole) (arg5 : Memref sig .tc .vmem S3072x128 .f32) (harg5 : arg5.IsWhole) (arg6 : Memref sig .tc .vmem S3072x128 .f32) (harg6 : arg6.IsWhole) (arg7 : Memref sig .tc .vmem S3072x128 .f32) (harg7 : arg7.IsWhole) (arg8 : Memref sig .tc .vmem S512x2560 .bf16) (harg8 : arg8.IsWhole) (hc0 : cond2_0 i)
    (x0 : Vec Ideal S3072x2560 .bf16) (x1 : Vec Ideal S512x1280 .i8) (x2 : Vec Ideal S512x20 .bf16) (x3 : Vec Ideal S3072x128 .i32) :
    out2_A_6 c i arg1 harg1 arg2 harg2 arg3 harg3 arg4 harg4 arg5 harg5 arg6 harg6 arg7 harg7 arg8 harg8 hc0 x0 x1 x2 x3 = tStep (lgT x0 (tailW x1 x2)) (BitVec.ofNat 32 (i 0).val) x3 (k2_pay4 (F := Ideal)) := by
  have hz : (![0, 0] : Fin 2 → ℕ) = fun _ => 0 := by decide
  unfold out2_A_6; rw [View.read_writes_junk_eq_canon]; unfold kernelRun2_A; dsimp only; sl_unfold_words
  simp only [View.readAt_eq_ld, harg1.read_unread, harg2.read_unread, harg3.read_unread, harg4.read_unread]
  rw [readCov_of_pieces (G := tailW x1 x2) (hP := ?pieces) (hc := ?cover)]
  case pieces =>
    exact ⟨fun x => hi_piece x1 x2 9 18 19 1152 2432 (by norm_num) rfl rfl rfl inb_S512x20_S512x1_0_18 inb_S512x20_S512x1_0_19 inb_S512x1280_S512x128_0_1152 inb_S512x2560_S512x128_0_2432 rfl x,
    fun x => lo_piece x1 x2 9 18 19 1152 2304 (by norm_num) rfl rfl rfl inb_S512x20_S512x1_0_18 inb_S512x20_S512x1_0_19 inb_S512x1280_S512x128_0_1152 inb_S512x2560_S512x128_0_2304 rfl x,
    fun x => hi_piece x1 x2 8 16 17 1024 2176 (by norm_num) rfl rfl rfl inb_S512x20_S512x1_0_16 inb_S512x20_S512x1_0_17 inb_S512x1280_S512x128_0_1024 inb_S512x2560_S512x128_0_2176 rfl x,
    fun x => lo_piece x1 x2 8 16 17 1024 2048 (by norm_num) rfl rfl rfl inb_S512x20_S512x1_0_16 inb_S512x20_S512x1_0_17 inb_S512x1280_S512x128_0_1024 inb_S512x2560_S512x128_0_2048 rfl x,
    fun x => hi_piece x1 x2 7 14 15 896 1920 (by norm_num) rfl rfl rfl inb_S512x20_S512x1_0_14 inb_S512x20_S512x1_0_15 inb_S512x1280_S512x128_0_896 inb_S512x2560_S512x128_0_1920 rfl x,
    fun x => lo_piece x1 x2 7 14 15 896 1792 (by norm_num) rfl rfl rfl inb_S512x20_S512x1_0_14 inb_S512x20_S512x1_0_15 inb_S512x1280_S512x128_0_896 inb_S512x2560_S512x128_0_1792 rfl x,
    fun x => hi_piece x1 x2 6 12 13 768 1664 (by norm_num) rfl rfl rfl inb_S512x20_S512x1_0_12 inb_S512x20_S512x1_0_13 inb_S512x1280_S512x128_0_768 inb_S512x2560_S512x128_0_1664 rfl x,
    fun x => lo_piece x1 x2 6 12 13 768 1536 (by norm_num) rfl rfl rfl inb_S512x20_S512x1_0_12 inb_S512x20_S512x1_0_13 inb_S512x1280_S512x128_0_768 inb_S512x2560_S512x128_0_1536 rfl x,
    fun x => hi_piece x1 x2 5 10 11 640 1408 (by norm_num) rfl rfl rfl inb_S512x20_S512x1_0_10 inb_S512x20_S512x1_0_11 inb_S512x1280_S512x128_0_640 inb_S512x2560_S512x128_0_1408 rfl x,
    fun x => lo_piece x1 x2 5 10 11 640 1280 (by norm_num) rfl rfl rfl inb_S512x20_S512x1_0_10 inb_S512x20_S512x1_0_11 inb_S512x1280_S512x128_0_640 inb_S512x2560_S512x128_0_1280 rfl x,
    fun x => hi_piece x1 x2 4 8 9 512 1152 (by norm_num) rfl rfl rfl inb_S512x20_S512x1_0_8 inb_S512x20_S512x1_0_9 inb_S512x1280_S512x128_0_512 inb_S512x2560_S512x128_0_1152 rfl x,
    fun x => lo_piece x1 x2 4 8 9 512 1024 (by norm_num) rfl rfl rfl inb_S512x20_S512x1_0_8 inb_S512x20_S512x1_0_9 inb_S512x1280_S512x128_0_512 inb_S512x2560_S512x128_0_1024 rfl x,
    fun x => hi_piece x1 x2 3 6 7 384 896 (by norm_num) rfl rfl rfl inb_S512x20_S512x1_0_6 inb_S512x20_S512x1_0_7 inb_S512x1280_S512x128_0_384 inb_S512x2560_S512x128_0_896 rfl x,
    fun x => lo_piece x1 x2 3 6 7 384 768 (by norm_num) rfl rfl rfl inb_S512x20_S512x1_0_6 inb_S512x20_S512x1_0_7 inb_S512x1280_S512x128_0_384 inb_S512x2560_S512x128_0_768 rfl x,
    fun x => hi_piece x1 x2 2 4 5 256 640 (by norm_num) rfl rfl rfl inb_S512x20_S512x1_0_4 inb_S512x20_S512x1_0_5 inb_S512x1280_S512x128_0_256 inb_S512x2560_S512x128_0_640 rfl x,
    fun x => lo_piece x1 x2 2 4 5 256 512 (by norm_num) rfl rfl rfl inb_S512x20_S512x1_0_4 inb_S512x20_S512x1_0_5 inb_S512x1280_S512x128_0_256 inb_S512x2560_S512x128_0_512 rfl x,
    fun x => hi_piece x1 x2 1 2 3 128 384 (by norm_num) rfl rfl rfl inb_S512x20_S512x1_0_2 inb_S512x20_S512x1_0_3 inb_S512x1280_S512x128_0_128 inb_S512x2560_S512x128_0_384 rfl x,
    fun x => lo_piece x1 x2 1 2 3 128 256 (by norm_num) rfl rfl rfl inb_S512x20_S512x1_0_2 inb_S512x20_S512x1_0_3 inb_S512x1280_S512x128_0_128 inb_S512x2560_S512x128_0_256 rfl x,
    fun x => hi_piece x1 x2 0 0 1 0 128 (by norm_num) rfl rfl rfl inb_S512x20_S512x1_0_0 inb_S512x20_S512x1_0_1 inb_S512x1280_S512x128_0_0 inb_S512x2560_S512x128_0_128 rfl x,
    fun x => lo_piece x1 x2 0 0 1 0 0 (by norm_num) rfl rfl rfl inb_S512x20_S512x1_0_0 inb_S512x20_S512x1_0_1 inb_S512x1280_S512x128_0_0 inb_S512x2560_S512x128_0_0 rfl x, trivial⟩
  case cover => exact View.cover_of_tiledL (s := S512x2560) _ S512x128.size (by sl_kernel_rfl)
  simp (disch := decide) only [↓ View.readCov_skip, ↓ View.readCov_fill]
  funext y
  refine View.canon_append_of_piecesOf (Val := Elt Ideal) (e := .f32) (tStep (lgT x0 (tailW x1 x2)) (BitVec.ofNat 32 (i 0).val) x3 (k2_pay4 (F := Ideal))) [_] [_, _, _, _, _, _] ?_ y ?_
  · exact ⟨fun x => tT_piece x0 (tailW x1 x2) (k2_pay4 (F := Ideal)) x3 2560 _ _ _ x, fun x => tT_piece x0 (tailW x1 x2) (k2_pay4 (F := Ideal)) x3 2048 _ _ _ x, fun x => tT_piece x0 (tailW x1 x2) (k2_pay4 (F := Ideal)) x3 1536 _ _ _ x, fun x => tT_piece x0 (tailW x1 x2) (k2_pay4 (F := Ideal)) x3 1024 _ _ _ x, fun x => tT_piece x0 (tailW x1 x2) (k2_pay4 (F := Ideal)) x3 512 _ _ _ x, fun x => tT_piece x0 (tailW x1 x2) (k2_pay4 (F := Ideal)) x3 0 _ _ _ x, trivial⟩
  · exact View.cover_of_tiledL (s := S3072x128) _ S512x128.size (by sl_kernel_rfl) y

end Cert.Hand
-- ==== Proof.Fold2.lean ====
module

public import proofs.«01_k».proof.Proof.Steps
public import proofs.«01_k».proof.Proof.Tile2
public import Idealize.ShloMosaic.Lib.Pipeline.Value

@[expose] public section

set_option maxRecDepth 16384

noncomputable section

namespace Cert.Hand

open Idealize.ShloMosaic Idealize.ShloMosaic.TcCoe Cert.KernelIdeal Cert.KernelIdeal.Gen
open Idealize.ShloMosaic.Pipeline (Dat)

/-- Row `v`'s weight in the kernel's column order `k`, from the row's bytes and group scales: columns come in runs of 128,
    first the low halves of 128 bytes and then their high halves. -/
def nibW (p : Fin 1280 → BitVec 8) (sc : Fin 20 → EReal) (k : Fin 2560) : EReal :=
  (if k.val / 128 % 2 = 0
      then (((p (⟨k.val / 256 * 128 + k.val % 128, by omega⟩ : Fin 1280) <<< 4 : BitVec 8).toInt : ℝ) : EReal)
      else (((p (⟨k.val / 256 * 128 + k.val % 128, by omega⟩ : Fin 1280) &&& 240#8 : BitVec 8).toInt : ℝ) : EReal))
    * (Scalar.ofBits (F := Ideal) .bf16 0x3D80#16 : EReal)
    * sc (⟨2 * (k.val / 256) + (if k.val % 128 < 64 then 0 else 1), by split <;> omega⟩ : Fin 20)

theorem tailW_eq (p : Vec Ideal S512x1280 .i8) (sc : Vec Ideal S512x20 .bf16) (a : Fin 512) (k : Fin 2560) :
    tailW p sc (ix2 a k) = nibW (fun b => p (ix2 a b)) (fun g => sc (ix2 a g)) k := rfl

/-- The tail logit of row `r` and column `v`: permuted activations against the column's dequantised weights. -/
def tailLogit (X : Vec Ideal S3072x2560 .bf16) (W : Vec Ideal S69632x1280 .i8) (s : Vec Ideal S69632x20 .bf16) (r : Fin 3072) (v : ℕ) : EReal :=
  if h : v < 69632 then ∑ k : Fin 2560, X (ix2 r k) * nibW (fun b => W (ix2 (⟨v, h⟩ : Fin 69632) b)) (fun g => s (ix2 (⟨v, h⟩ : Fin 69632) g)) k else 0

section
variable (V : (c : Dev nD) → (b : Ref sig .tc) → Buf (Elt Ideal) ((c : Thread nD τ).loc b)) (c : Dev nD)

/-- Point `t` of the grid is tile `t`. -/
theorem coord2 (t : Fin cfg2.N) : (grid2.coords t 0).val = t.val := by
  have ht : t.val < 136 := lt_of_lt_of_eq t.isLt N_2
  have e : (grid2.coords t 0).val = t.val / 1 % 136 := Pipeline.Grid.coords_val t 0 (by decide) rfl
  rw [e]; omega

/-- The activations' block is the whole array. -/
theorem xblock2 (t : Fin cfg2.N) : (iblk2 V c 0 t : Vec Ideal S3072x2560 .bf16) = V c main_v3 := by
  have hx0 : win2_0.index t 0 = 0 := rfl
  have hx1 : win2_0.index t 1 = 0 := rfl
  funext j
  unfold iblk2
  rw [View.read_apply]
  show (V c main_v3 : Vec Ideal S3072x2560 .bf16) _ = _
  congr 1
  funext a
  apply Fin.ext
  match a with
  | ⟨0, _⟩ => show win2_0.index t 0 * 3072 + 1 * (j 0).val = (j 0).val; rw [hx0]; omega
  | ⟨1, _⟩ => show win2_0.index t 1 * 2560 + 1 * (j 1).val = (j 1).val; rw [hx1]; omega

/-- The targets' block is the whole array. -/
theorem gblock2 (t : Fin cfg2.N) : (iblk2 V c 3 t : Vec Ideal S3072x128 .i32) = V c main_v13 := by
  have hx0 : win2_3.index t 0 = 0 := rfl
  have hx1 : win2_3.index t 1 = 0 := rfl
  funext j
  unfold iblk2
  rw [View.read_apply]
  show (V c main_v13 : Vec Ideal S3072x128 .i32) _ = _
  congr 1
  funext a
  apply Fin.ext
  match a with
  | ⟨0, _⟩ => show win2_3.index t 0 * 3072 + 1 * (j 0).val = (j 0).val; rw [hx0]; omega
  | ⟨1, _⟩ => show win2_3.index t 1 * 128 + 1 * (j 1).val = (j 1).val; rw [hx1]; omega

/-- The weights' block at tile `t` starts at row `512 t`. -/
theorem wblock2 (t : Fin cfg2.N) (i : Fin 512) (k : Fin 1280) :
    (iblk2 V c 1 t : Vec Ideal S512x1280 .i8) (ix2 i k) = (V c main_arg5 : Vec Ideal S69632x1280 .i8) (ix2 (⟨512 * t.val + i.val, by have := lt_of_lt_of_eq t.isLt N_2; omega⟩ : Fin 69632) k) := by
  have hx0 : win2_1.index t 0 = t.val := by
    have e := coord2 t
    have ht : t.val < 136 := lt_of_lt_of_eq t.isLt N_2
    show (BitVec.ofNat 32 (grid2.coords t 0).val).toNat = _
    rw [e, BitVec.toNat_ofNat]; omega
  have hx1 : win2_1.index t 1 = 0 := rfl
  unfold iblk2
  rw [View.read_apply]
  show (V c main_arg5 : Vec Ideal S69632x1280 .i8) _ = _
  congr 1
  funext a
  apply Fin.ext
  match a with
  | ⟨0, _⟩ => show win2_1.index t 0 * 512 + 1 * i.val = 512 * t.val + i.val; rw [hx0]; omega
  | ⟨1, _⟩ => show win2_1.index t 1 * 1280 + 1 * k.val = k.val; rw [hx1]; omega

/-- The scales' block at tile `t`. -/
theorem sblock2 (t : Fin cfg2.N) (i : Fin 512) (k : Fin 20) :
    (iblk2 V c 2 t : Vec Ideal S512x20 .bf16) (ix2 i k) = (V c main_arg6 : Vec Ideal S69632x20 .bf16) (ix2 (⟨512 * t.val + i.val, by have := lt_of_lt_of_eq t.isLt N_2; omega⟩ : Fin 69632) k) := by
  have hx0 : win2_2.index t 0 = t.val := by
    have e := coord2 t
    have ht : t.val < 136 := lt_of_lt_of_eq t.isLt N_2
    show (BitVec.ofNat 32 (grid2.coords t 0).val).toNat = _
    rw [e, BitVec.toNat_ofNat]; omega
  have hx1 : win2_2.index t 1 = 0 := rfl
  unfold iblk2
  rw [View.read_apply]
  show (V c main_arg6 : Vec Ideal S69632x20 .bf16) _ = _
  congr 1
  funext a
  apply Fin.ext
  match a with
  | ⟨0, _⟩ => show win2_2.index t 0 * 512 + 1 * i.val = 512 * t.val + i.val; rw [hx0]; omega
  | ⟨1, _⟩ => show win2_2.index t 1 * 20 + 1 * k.val = k.val; rw [hx1]; omega

/-- The logits tile `t` works with are those of columns `512 t` to `512 t + 511`. -/
theorem logits2 (t : Fin cfg2.N) (j : Fin 4) (y : S3072x128.Idx) :
    lgT (iblk2 V c 0 t) (tailW (iblk2 V c 1 t) (iblk2 V c 2 t)) j y
      = tailLogit (V c main_v3) (V c main_arg5) (V c main_arg6) (y 0) (512 * t.val + 128 * j.val + (y 1).val) := by
  have hy : (y 1).val < 128 := (y 1).isLt
  have hj := j.isLt
  have ht : t.val < 136 := lt_of_lt_of_eq t.isLt N_2
  unfold lgT tailLogit
  rw [dif_pos (by omega), xblock2]
  refine Finset.sum_congr rfl fun k _ => ?_
  rw [tailW_eq]
  simp only [wblock2, sblock2]
  have e : ∀ h1 h2, (⟨512 * t.val + (128 * j.val + (y 1).val), h1⟩ : Fin 69632) = ⟨512 * t.val + 128 * j.val + (y 1).val, h2⟩ :=
    fun _ _ => Fin.ext (by show 512 * t.val + (128 * j.val + (y 1).val) = 512 * t.val + 128 * j.val + (y 1).val; omega)
  simp only [e _ (show 512 * t.val + 128 * j.val + (y 1).val < 69632 by omega)]

/-- After tile `n` the three buffers hold the lanes' states after `n + 1` tiles. -/
theorem state2 : ∀ (n : ℕ) (hn : n < cfg2.N), outsAt2 V c n hn
    = (mLane (tailLogit (V c main_v3) (V c main_arg5) (V c main_arg6)) (n + 1),
       lLane (tailLogit (V c main_v3) (V c main_arg5) (V c main_arg6)) (n + 1),
       tLane (tailLogit (V c main_v3) (V c main_arg5) (V c main_arg6)) (n + 1) (V c main_v13))
  | 0, hn => by
    have hL := logits2 V c ⟨0, hn⟩
    have em : (k2_pay2 (F := Ideal)) = mLane (tailLogit (V c main_v3) (V c main_arg5) (V c main_arg6)) 0 := rfl
    have z : (Scalar.ofBits (F := Ideal) .f32 0x00000000#32 : EReal) = 0 := Ideal.ofBits_zero_f32
    have el : (k2_pay3 (F := Ideal)) = lLane (tailLogit (V c main_v3) (V c main_arg5) (V c main_arg6)) 0 := funext fun _ => z
    have et : (k2_pay4 (F := Ideal)) = tLane (tailLogit (V c main_v3) (V c main_arg5) (V c main_arg6)) 0 (V c main_v13) := funext fun _ => z
    have hA : (⟨0, hn⟩ : Fin cfg2.N).val % 136 = 0 := rfl
    refine (outsAt2_A V c ⟨0, hn⟩ hA).trans ?_
    rw [out2_A_4_eq, out2_A_5_eq, out2_A_6_eq, gblock2, coord2, em, el, et]
    exact congrArg₂ Prod.mk (mStep_at _ _ 0 hL) (congrArg₂ Prod.mk (lStep_at _ _ 0 hL) (tStep_at _ _ 0 hL (by norm_num) _))
  | n + 1, hn => by
    have hN : n + 1 < 136 := lt_of_lt_of_eq hn N_2
    have hL := logits2 V c ⟨n + 1, hn⟩
    have hB : ¬(⟨n + 1, hn⟩ : Fin cfg2.N).val % 136 = 0 := by dsimp only; omega
    refine (outsAt2_B V c ⟨n + 1, hn⟩ hB).trans ?_
    rw [out2_B_4_eq, out2_B_5_eq, out2_B_6_eq, gblock2, coord2]
    have ih := state2 n (Nat.lt_of_succ_lt hn)
    have i1 := congrArg (fun p => p.1) ih
    have i2 := congrArg (fun p => p.2.1) ih
    have i3 := congrArg (fun p => p.2.2) ih
    dsimp only at i1 i2 i3
    simp only [Nat.add_sub_cancel]
    rw [i1, i2, i3]
    exact congrArg₂ Prod.mk (mStep_at _ _ (n + 1) hL) (congrArg₂ Prod.mk (lStep_at _ _ (n + 1) hL) (tStep_at _ _ (n + 1) hL (by omega) _))

attribute [local irreducible] mLane lLane tLane

/-- What the last tile leaves is what the array of lane maxima ends holding. -/
theorem last2_4 (T : Fin cfg2.N) (hT : T.val = 135) (G : S3072x128.Idx → EReal) (hG : (outsAt2 V c T.val T.isLt).1 = G) :
    (dat2 V c).arrAt 4 cfg2.N = (G : Buf (Elt Ideal) ((c : Thread nD τ).loc main_v14_0)) := by
  have hN : cfg2.N = 136 := N_2
  refine (dat2 V c).arrAt_eq_of_cover 4 _ (fun t hf => ?_) fun i => ⟨T, (flush2_4 _).mpr (by rw [hT]), ?_⟩
  · have hl : t = T := Fin.ext (by have := (flush2_4 t).mp hf; have := t.isLt; omega)
    subst hl
    show (cfg2.win 4).cut (grid2.coords t) ((dat2 V c).after 4 t) = _
    rw [after2_4, hG]
    have hz' : (fun a => win2_4.index t a * main_v14_0.ty.shape.size a) = fun _ => 0 := funext fun a => by
      match a with
      | ⟨0, _⟩ => exact Nat.zero_mul _
      | ⟨1, _⟩ => exact Nat.zero_mul _
    exact (Memref.read_access_unit_zero (Elt Ideal) main_v14_0 hz' (fun a => by rw [congrFun hz' a]; simp) G).symm
  · show i ∈ ((View.whole main_v14_0).slice (win2_4.rect T)).set
    rw [View.set_slice_whole, Rect.mem_set_unit]
    intro a
    have h0 : (i 0 : Nat) < 3072 := (i 0).isLt
    have h1 : (i 1 : Nat) < 128 := (i 1).isLt
    match a with
    | ⟨0, _⟩ => exact ⟨Nat.zero_le _, by show (i 0 : Nat) < 0 * 3072 + 3072; omega⟩
    | ⟨1, _⟩ => exact ⟨Nat.zero_le _, by show (i 1 : Nat) < 0 * 128 + 128; omega⟩

/-- The array of lane maxima after the whole grid. -/
theorem array2_4 : (dat2 V c).arrAt 4 cfg2.N = (mLane (tailLogit (V c main_v3) (V c main_arg5) (V c main_arg6)) 136 : S3072x128.Idx → EReal) := by
  obtain ⟨T, hT⟩ : ∃ T : Fin cfg2.N, T.val = 135 := ⟨⟨135, lt_of_lt_of_eq (by norm_num) N_2.symm⟩, rfl⟩
  exact last2_4 V c T hT _ (by rw [state2, hT])

/-- What the last tile leaves is what the array of lane sums ends holding. -/
theorem last2_5 (T : Fin cfg2.N) (hT : T.val = 135) (G : S3072x128.Idx → EReal) (hG : (outsAt2 V c T.val T.isLt).2.1 = G) :
    (dat2 V c).arrAt 5 cfg2.N = (G : Buf (Elt Ideal) ((c : Thread nD τ).loc main_v14_1)) := by
  have hN : cfg2.N = 136 := N_2
  refine (dat2 V c).arrAt_eq_of_cover 5 _ (fun t hf => ?_) fun i => ⟨T, (flush2_5 _).mpr (by rw [hT]), ?_⟩
  · have hl : t = T := Fin.ext (by have := (flush2_5 t).mp hf; have := t.isLt; omega)
    subst hl
    show (cfg2.win 5).cut (grid2.coords t) ((dat2 V c).after 5 t) = _
    rw [after2_5, hG]
    have hz' : (fun a => win2_5.index t a * main_v14_1.ty.shape.size a) = fun _ => 0 := funext fun a => by
      match a with
      | ⟨0, _⟩ => exact Nat.zero_mul _
      | ⟨1, _⟩ => exact Nat.zero_mul _
    exact (Memref.read_access_unit_zero (Elt Ideal) main_v14_1 hz' (fun a => by rw [congrFun hz' a]; simp) G).symm
  · show i ∈ ((View.whole main_v14_1).slice (win2_5.rect T)).set
    rw [View.set_slice_whole, Rect.mem_set_unit]
    intro a
    have h0 : (i 0 : Nat) < 3072 := (i 0).isLt
    have h1 : (i 1 : Nat) < 128 := (i 1).isLt
    match a with
    | ⟨0, _⟩ => exact ⟨Nat.zero_le _, by show (i 0 : Nat) < 0 * 3072 + 3072; omega⟩
    | ⟨1, _⟩ => exact ⟨Nat.zero_le _, by show (i 1 : Nat) < 0 * 128 + 128; omega⟩

/-- The array of lane sums after the whole grid. -/
theorem array2_5 : (dat2 V c).arrAt 5 cfg2.N = (lLane (tailLogit (V c main_v3) (V c main_arg5) (V c main_arg6)) 136 : S3072x128.Idx → EReal) := by
  obtain ⟨T, hT⟩ : ∃ T : Fin cfg2.N, T.val = 135 := ⟨⟨135, lt_of_lt_of_eq (by norm_num) N_2.symm⟩, rfl⟩
  exact last2_5 V c T hT _ (by rw [state2, hT])

/-- What the last tile leaves is what the array of lane target logits ends holding. -/
theorem last2_6 (T : Fin cfg2.N) (hT : T.val = 135) (G : S3072x128.Idx → EReal) (hG : (outsAt2 V c T.val T.isLt).2.2 = G) :
    (dat2 V c).arrAt 6 cfg2.N = (G : Buf (Elt Ideal) ((c : Thread nD τ).loc main_v14_2)) := by
  have hN : cfg2.N = 136 := N_2
  refine (dat2 V c).arrAt_eq_of_cover 6 _ (fun t hf => ?_) fun i => ⟨T, (flush2_6 _).mpr (by rw [hT]), ?_⟩
  · have hl : t = T := Fin.ext (by have := (flush2_6 t).mp hf; have := t.isLt; omega)
    subst hl
    show (cfg2.win 6).cut (grid2.coords t) ((dat2 V c).after 6 t) = _
    rw [after2_6, hG]
    have hz' : (fun a => win2_6.index t a * main_v14_2.ty.shape.size a) = fun _ => 0 := funext fun a => by
      match a with
      | ⟨0, _⟩ => exact Nat.zero_mul _
      | ⟨1, _⟩ => exact Nat.zero_mul _
    exact (Memref.read_access_unit_zero (Elt Ideal) main_v14_2 hz' (fun a => by rw [congrFun hz' a]; simp) G).symm
  · show i ∈ ((View.whole main_v14_2).slice (win2_6.rect T)).set
    rw [View.set_slice_whole, Rect.mem_set_unit]
    intro a
    have h0 : (i 0 : Nat) < 3072 := (i 0).isLt
    have h1 : (i 1 : Nat) < 128 := (i 1).isLt
    match a with
    | ⟨0, _⟩ => exact ⟨Nat.zero_le _, by show (i 0 : Nat) < 0 * 3072 + 3072; omega⟩
    | ⟨1, _⟩ => exact ⟨Nat.zero_le _, by show (i 1 : Nat) < 0 * 128 + 128; omega⟩

/-- The array of lane target logits after the whole grid. -/
theorem array2_6 : (dat2 V c).arrAt 6 cfg2.N = (tLane (tailLogit (V c main_v3) (V c main_arg5) (V c main_arg6)) 136 (V c main_v13) : S3072x128.Idx → EReal) := by
  obtain ⟨T, hT⟩ : ∃ T : Fin cfg2.N, T.val = 135 := ⟨⟨135, lt_of_lt_of_eq (by norm_num) N_2.symm⟩, rfl⟩
  exact last2_6 V c T hT _ (by rw [state2, hT])

end

end Cert.Hand
-- ==== Proof.Logits.lean ====
module

public import proofs.«01_k».proof.Proof.Fold0
public import proofs.«01_k».proof.Proof.Fold1
public import proofs.«01_k».proof.Proof.Fold2

@[expose] public section

set_option maxRecDepth 16384

noncomputable section

namespace Cert.Hand

open Idealize.ShloMosaic Idealize.ShloMosaic.TcCoe Cert.KernelIdeal Cert.KernelIdeal.Gen

/-! # The three tiers' logits as functions of the arguments, and that the kernel's arrangements of them agree -/

/-- The sequence of row `r`. -/
def bat (r : Fin 3072) : Fin 6 := ⟨r.val / 512, by omega⟩
/-- The position of row `r` in its sequence. -/
def pos (r : Fin 3072) : Fin 512 := ⟨r.val % 512, by omega⟩

/-- The signed low four bits of a byte. -/
def loI (b : BitVec 8) : ℤ := if 8 ≤ b.toNat % 16 then (b.toNat % 16 : ℕ) - 16 else (b.toNat % 16 : ℕ)
/-- The signed high four bits of a byte. -/
def hiI (b : BitVec 8) : ℤ := if 8 ≤ b.toNat / 16 then (b.toNat / 16 : ℕ) - 16 else (b.toNat / 16 : ℕ)

/-- An integer as an extended real. -/
def ofI (z : ℤ) : EReal := ((z : ℝ) : EReal)

/-- The head logit of row `r`, column `v`. -/
def headAt (x : Vec Ideal S6x512x2560 .bf16) (w : Vec Ideal S8192x2560 .fp8e4m3) (s : Vec Ideal S8192 .f32) (r : Fin 3072) (v : ℕ) : EReal :=
  if h : v < 8192 then (∑ k : Fin 2560, x (ix3 (bat r) (pos r) k) * w (ix2 (⟨v, h⟩ : Fin 8192) k)) * s (ix1 (⟨v, h⟩ : Fin 8192)) else 0

/-- The middle tier's logit of row `r`, column `v`. -/
def midAt (x : Vec Ideal S6x512x2560 .bf16) (w : Vec Ideal S24576x2560 .i8) (s : Vec Ideal S24576 .f32) (r : Fin 3072) (v : ℕ) : EReal :=
  if h : v < 24576 then (∑ k : Fin 2560, x (ix3 (bat r) (pos r) k) * ofI (w (ix2 (⟨v, h⟩ : Fin 24576) k)).toInt) *
    s (ix1 (⟨v, h⟩ : Fin 24576)) else 0

/-- The tail logit of row `r`, column `v`: the even features meet the low four bits of the packed weights, the odd features the
    high four bits, each weight scaled by its group's scale. -/
def tailAt (x : Vec Ideal S6x512x2560 .bf16) (w : Vec Ideal S69632x1280 .i8) (s : Vec Ideal S69632x20 .bf16) (r : Fin 3072) (v : ℕ) : EReal :=
  if h : v < 69632 then
    (∑ c : Fin 1280, x (ix3 (bat r) (pos r) (⟨2 * c.val, by omega⟩ : Fin 2560)) *
      (ofI (loI (w (ix2 (⟨v, h⟩ : Fin 69632) c))) * s (ix2 (⟨v, h⟩ : Fin 69632) (⟨c.val / 64, by omega⟩ : Fin 20))))
    + (∑ c : Fin 1280, x (ix3 (bat r) (pos r) (⟨2 * c.val + 1, by omega⟩ : Fin 2560)) *
      (ofI (hiI (w (ix2 (⟨v, h⟩ : Fin 69632) c))) * s (ix2 (⟨v, h⟩ : Fin 69632) (⟨c.val / 64, by omega⟩ : Fin 20))))
  else 0

/-! ## Signed nibbles -/

theorem lo_shift : ∀ b : BitVec 8, (b <<< 4 : BitVec 8).toInt = 16 * loI b := by
  unfold loI; decide +kernel
theorem hi_mask : ∀ b : BitVec 8, (b &&& 240#8 : BitVec 8).toInt = 16 * hiI b := by
  unfold hiI; decide +kernel

/-- The bits `0x3D80` read as a bf16 number are one sixteenth. -/
theorem sixteenth : (Scalar.ofBits (F := Ideal) .bf16 0x3D80#16 : EReal) = ((1 / 16 : ℝ) : EReal) := by
  show Ideal.ofBits .bf16 0x3D80#16 = _
  simp [Ideal.ofBits, Ideal.ieee]
  norm_num
  rw [← EReal.coe_mul]
  congr 1
  norm_num

theorem ofI_sixteenth (z : ℤ) : (((16 * z : ℤ) : ℝ) : EReal) * (Scalar.ofBits (F := Ideal) .bf16 0x3D80#16 : EReal) = ofI z := by
  rw [sixteenth, ← EReal.coe_mul]
  unfold ofI
  congr 1
  push_cast
  ring

/-! ## The features in the packed order -/

/-- The packed order of the features: groups of 256, in each the 128 even features before the 128 odd ones. -/
def packed : Fin 1280 ⊕ Fin 1280 ≃ Fin 2560 where
  toFun
    | .inl c => ⟨c.val / 128 * 256 + c.val % 128, by omega⟩
    | .inr c => ⟨c.val / 128 * 256 + 128 + c.val % 128, by omega⟩
  invFun k := if k.val / 128 % 2 = 0 then .inl ⟨k.val / 256 * 128 + k.val % 128, by omega⟩ else .inr ⟨k.val / 256 * 128 + k.val % 128, by omega⟩
  left_inv s := by
    rcases s with c | c
    · show (if _ then _ else _) = _
      rw [if_pos (by show (c.val / 128 * 256 + c.val % 128) / 128 % 2 = 0; omega)]
      refine congrArg Sum.inl (Fin.ext ?_)
      show (c.val / 128 * 256 + c.val % 128) / 256 * 128 + (c.val / 128 * 256 + c.val % 128) % 128 = c.val
      omega
    · show (if _ then _ else _) = _
      rw [if_neg (by show ¬ (c.val / 128 * 256 + 128 + c.val % 128) / 128 % 2 = 0; omega)]
      refine congrArg Sum.inr (Fin.ext ?_)
      show (c.val / 128 * 256 + 128 + c.val % 128) / 256 * 128 + (c.val / 128 * 256 + 128 + c.val % 128) % 128 = c.val
      omega
  right_inv k := by
    by_cases h : k.val / 128 % 2 = 0
    · simp only [if_pos h]
      refine Fin.ext ?_
      show (k.val / 256 * 128 + k.val % 128) / 128 * 256 + (k.val / 256 * 128 + k.val % 128) % 128 = k.val
      omega
    · simp only [if_neg h]
      refine Fin.ext ?_
      show (k.val / 256 * 128 + k.val % 128) / 128 * 256 + 128 + (k.val / 256 * 128 + k.val % 128) % 128 = k.val
      omega

/-- The feature that the packed position `k` holds. -/
def feature (k : Fin 2560) : Fin 2560 := ⟨k.val / 256 * 256 + 2 * (k.val % 128) + k.val / 128 % 2, by omega⟩

/-! ## The kernel's arrangements -/

theorem headLogit_eq (x : Vec Ideal S6x512x2560 .bf16) (w : Vec Ideal S8192x2560 .fp8e4m3) (s : Vec Ideal S8192 .f32)
    (X : Vec Ideal S3072x2560 .bf16) (S : Vec Ideal S16x1x512 .f32) (hX : ∀ r k, X (ix2 r k) = x (ix3 (bat r) (pos r) k))
    (hS : ∀ (v : Fin 8192), S (ix3 (⟨v.val / 512, by omega⟩ : Fin 16) (0 : Fin 1) (⟨v.val % 512, by omega⟩ : Fin 512)) = s (ix1 v)) :
    headLogit X w S = headAt x w s := by
  funext r v
  unfold headLogit headAt
  by_cases h : v < 8192
  · rw [dif_pos h, dif_pos h, hS ⟨v, h⟩]
    simp only [hX]
  · rw [dif_neg h, dif_neg h]

theorem midLogit_eq (x : Vec Ideal S6x512x2560 .bf16) (w : Vec Ideal S24576x2560 .i8) (s : Vec Ideal S24576 .f32)
    (X : Vec Ideal S3072x2560 .bf16) (S : Vec Ideal S48x1x512 .f32) (hX : ∀ r k, X (ix2 r k) = x (ix3 (bat r) (pos r) k))
    (hS : ∀ (v : Fin 24576), S (ix3 (⟨v.val / 512, by omega⟩ : Fin 48) (0 : Fin 1) (⟨v.val % 512, by omega⟩ : Fin 512)) = s (ix1 v)) :
    midLogit X w S = midAt x w s := by
  funext r v
  unfold midLogit midAt
  by_cases h : v < 24576
  · rw [dif_pos h, dif_pos h, hS ⟨v, h⟩]
    simp only [hX]
    rfl
  · rw [dif_neg h, dif_neg h]

theorem nibW_lo (p : Fin 1280 → BitVec 8) (sc : Fin 20 → EReal) (c : Fin 1280) :
    nibW p sc (packed (.inl c)) = ofI (loI (p c)) * sc (⟨c.val / 64, by omega⟩ : Fin 20) := by
  unfold nibW
  rw [if_pos (by show (c.val / 128 * 256 + c.val % 128) / 128 % 2 = 0; omega), lo_shift, ofI_sixteenth]
  have e1 : (⟨(packed (.inl c)).val / 256 * 128 + (packed (.inl c)).val % 128, by omega⟩ : Fin 1280) = c := Fin.ext (by
    show (c.val / 128 * 256 + c.val % 128) / 256 * 128 + (c.val / 128 * 256 + c.val % 128) % 128 = c.val; omega)
  have e2 : (⟨2 * ((packed (.inl c)).val / 256) + (if (packed (.inl c)).val % 128 < 64 then 0 else 1), by split <;> omega⟩ : Fin 20)
      = ⟨c.val / 64, by omega⟩ := Fin.ext (by
    show 2 * ((c.val / 128 * 256 + c.val % 128) / 256) + (if (c.val / 128 * 256 + c.val % 128) % 128 < 64 then 0 else 1) = c.val / 64
    split <;> omega)
  rw [e1, e2]

theorem nibW_hi (p : Fin 1280 → BitVec 8) (sc : Fin 20 → EReal) (c : Fin 1280) :
    nibW p sc (packed (.inr c)) = ofI (hiI (p c)) * sc (⟨c.val / 64, by omega⟩ : Fin 20) := by
  unfold nibW
  rw [if_neg (by show ¬ (c.val / 128 * 256 + 128 + c.val % 128) / 128 % 2 = 0; omega), hi_mask, ofI_sixteenth]
  have e1 : (⟨(packed (.inr c)).val / 256 * 128 + (packed (.inr c)).val % 128, by omega⟩ : Fin 1280) = c := Fin.ext (by
    show (c.val / 128 * 256 + 128 + c.val % 128) / 256 * 128 + (c.val / 128 * 256 + 128 + c.val % 128) % 128 = c.val; omega)
  have e2 : (⟨2 * ((packed (.inr c)).val / 256) + (if (packed (.inr c)).val % 128 < 64 then 0 else 1), by split <;> omega⟩ : Fin 20)
      = ⟨c.val / 64, by omega⟩ := Fin.ext (by
    show 2 * ((c.val / 128 * 256 + 128 + c.val % 128) / 256) + (if (c.val / 128 * 256 + 128 + c.val % 128) % 128 < 64 then 0 else 1) = c.val / 64
    split <;> omega)
  rw [e1, e2]

theorem feature_lo (c : Fin 1280) : feature (packed (.inl c)) = (⟨2 * c.val, by omega⟩ : Fin 2560) := Fin.ext (by
  show (c.val / 128 * 256 + c.val % 128) / 256 * 256 + 2 * ((c.val / 128 * 256 + c.val % 128) % 128) + (c.val / 128 * 256 + c.val % 128) / 128 % 2 = 2 * c.val
  omega)
theorem feature_hi (c : Fin 1280) : feature (packed (.inr c)) = (⟨2 * c.val + 1, by omega⟩ : Fin 2560) := Fin.ext (by
  show (c.val / 128 * 256 + 128 + c.val % 128) / 256 * 256 + 2 * ((c.val / 128 * 256 + 128 + c.val % 128) % 128)
    + (c.val / 128 * 256 + 128 + c.val % 128) / 128 % 2 = 2 * c.val + 1
  omega)

theorem tailLogit_eq (x : Vec Ideal S6x512x2560 .bf16) (w : Vec Ideal S69632x1280 .i8) (s : Vec Ideal S69632x20 .bf16)
    (X : Vec Ideal S3072x2560 .bf16) (hX : ∀ r k, X (ix2 r k) = x (ix3 (bat r) (pos r) (feature k))) :
    tailLogit X w s = tailAt x w s := by
  funext r v
  unfold tailLogit tailAt
  by_cases h : v < 69632
  · rw [dif_pos h, dif_pos h, ← Equiv.sum_comp packed, Fintype.sum_sum_type]
    simp only [nibW_lo, nibW_hi, hX, feature_lo, feature_hi]
  · rw [dif_neg h, dif_neg h]

end Cert.Hand

end
-- ==== Proof.Hosts.lean ====
module

public import proofs.«01_k».proof.Proof.Logits
public import proofs.«01_k».proof.Proof.Gen.KernelIdeal.Frame
public import Idealize.ShloMosaic.Lib.StableHlo.Run
public import Idealize.ShloMosaic.Lib.StableHlo.RunClose

@[expose] public section

set_option maxRecDepth 16384

noncomputable section

namespace Cert.Hand

open Idealize.ShloMosaic Idealize.ShloMosaic.TcCoe Cert.KernelIdeal Cert.KernelIdeal.Gen Idealize.SL.Sem Idealize.ShloMosaic.StableHlo

/-! # What the host operations between the kernel's custom calls leave -/

section
variable (U : Valuation τ sig (Elt Ideal))

theorem after0_v0 : StableHlo.after hostOps0 U (Proc.devRef .tc main_v0) =
    (shapeCast S3072x2560 (U (Proc.devRef .tc main_arg0) : Vec Ideal S6x512x2560 .bf16) shapeCasts_S6x512x2560_S3072x2560 : Vec Ideal S3072x2560 .bf16) := by
  after_results_simp
  rfl

theorem after0_v3 : StableHlo.after hostOps0 U (Proc.devRef .tc main_v3) =
    (shapeCast S3072x2560 (transpose S3072x10x2x128 [0, 1, 3, 2]
      (shapeCast S3072x10x128x2 (shapeCast S3072x2560 (U (Proc.devRef .tc main_arg0) : Vec Ideal S6x512x2560 .bf16) shapeCasts_S6x512x2560_S3072x2560)
        shapeCasts_S3072x2560_S3072x10x128x2) transposes_S3072x10x128x2_S3072x10x2x128_0_1_3_2) shapeCasts_S3072x10x2x128_S3072x2560 : Vec Ideal S3072x2560 .bf16) := by
  after_results_simp
  rfl

theorem after0_v5 : StableHlo.after hostOps0 U (Proc.devRef .tc main_v5) =
    (broadcastInDim S3072x128 ![0, 1] bcast_S3072x1_S3072x128_0_1
      (shapeCast S3072x1 (U (Proc.devRef .tc main_arg7) : Vec Ideal S6x512 .i32) shapeCasts_S6x512_S3072x1) : Vec Ideal S3072x128 .i32) := by
  after_results_simp
  rfl

theorem after0_v6 : StableHlo.after hostOps0 U (Proc.devRef .tc main_v6) =
    (shapeCast S16x1x512 (U (Proc.devRef .tc main_arg2) : Vec Ideal S8192 .f32) shapeCasts_S8192_S16x1x512 : Vec Ideal S16x1x512 .f32) := by
  after_results_simp
  rfl

theorem after1_v9 : StableHlo.after hostOps1 U (Proc.devRef .tc main_v9) =
    (subi (U (Proc.devRef .tc main_v5) : Vec Ideal S3072x128 .i32) (broadcastInDim S3072x128 ![] bcast_S_S3072x128 (constantI S_ 32 8192#32)) : Vec Ideal S3072x128 .i32) := by
  after_results_simp

theorem after1_v10 : StableHlo.after hostOps1 U (Proc.devRef .tc main_v10) =
    (shapeCast S48x1x512 (U (Proc.devRef .tc main_arg4) : Vec Ideal S24576 .f32) shapeCasts_S24576_S48x1x512 : Vec Ideal S48x1x512 .f32) := by
  after_results_simp
  rfl

theorem after2_v13 : StableHlo.after hostOps2 U (Proc.devRef .tc main_v13) =
    (subi (U (Proc.devRef .tc main_v5) : Vec Ideal S3072x128 .i32) (broadcastInDim S3072x128 ![] bcast_S_S3072x128 (constantI S_ 32 32768#32)) : Vec Ideal S3072x128 .i32) := by
  after_results_simp

end

/-! ## The same at an index -/

/-- The activations by row. -/
theorem rows_at (x : Vec Ideal S6x512x2560 .bf16) (r : Fin 3072) (k : Fin 2560) :
    shapeCast S3072x2560 x shapeCasts_S6x512x2560_S3072x2560 (ix2 r k) = x (ix3 (bat r) (pos r) k) :=
  shapeCast_apply x _ (ix2 r k) (ix3 (bat r) (pos r) k) (by
    rw [Shape.rowMajor_val_three, Shape.rowMajor_val_two]
    show ((r.val / 512) * 512 + r.val % 512) * 2560 + k.val = r.val * 2560 + k.val
    omega)

/-- The activations by row, their features in the packed order. -/
theorem packed_at (X : Vec Ideal S3072x2560 .bf16) (r : Fin 3072) (k : Fin 2560) :
    shapeCast S3072x2560 (transpose S3072x10x2x128 [0, 1, 3, 2] (shapeCast S3072x10x128x2 X shapeCasts_S3072x2560_S3072x10x128x2)
      transposes_S3072x10x128x2_S3072x10x2x128_0_1_3_2) shapeCasts_S3072x10x2x128_S3072x2560 (ix2 r k) = X (ix2 r (feature k)) := by
  refine (shapeCast_apply _ _ (ix2 r k) ((fun a => match a with
    | ⟨0, _⟩ => r
    | ⟨1, _⟩ => (⟨k.val / 256, by omega⟩ : Fin 10)
    | ⟨2, _⟩ => (⟨k.val / 128 % 2, by omega⟩ : Fin 2)
    | ⟨3, _⟩ => (⟨k.val % 128, by omega⟩ : Fin 128)) : S3072x10x2x128.Idx) (by
      rw [Shape.rowMajor_val_four, Shape.rowMajor_val_two]
      show ((r.val * 10 + k.val / 256) * 2 + k.val / 128 % 2) * 128 + k.val % 128 = r.val * 2560 + k.val
      omega)).trans ?_
  refine (transpose_apply _ _ _ _ ((fun a => match a with
    | ⟨0, _⟩ => r
    | ⟨1, _⟩ => (⟨k.val / 256, by omega⟩ : Fin 10)
    | ⟨2, _⟩ => (⟨k.val % 128, by omega⟩ : Fin 128)
    | ⟨3, _⟩ => (⟨k.val / 128 % 2, by omega⟩ : Fin 2)) : S3072x10x128x2.Idx) (fun a => match a with
    | ⟨0, _⟩ => rfl
    | ⟨1, _⟩ => rfl
    | ⟨2, _⟩ => rfl
    | ⟨3, _⟩ => rfl)).trans ?_
  exact shapeCast_apply X _ _ (ix2 r (feature k)) (by
    rw [Shape.rowMajor_val_four, Shape.rowMajor_val_two]
    show r.val * 2560 + (k.val / 256 * 256 + 2 * (k.val % 128) + k.val / 128 % 2) = ((r.val * 10 + k.val / 256) * 128 + k.val % 128) * 2 + k.val / 128 % 2
    omega)

/-- The targets by row, the same in every lane. -/
theorem targets_at (g : Vec Ideal S6x512 .i32) (r : Fin 3072) (l : Fin 128) :
    broadcastInDim S3072x128 ![0, 1] bcast_S3072x1_S3072x128_0_1 (shapeCast S3072x1 g shapeCasts_S6x512_S3072x1) (ix2 r l) = g (ix2 (bat r) (pos r)) := by
  refine (broadcastInDim_apply _ bcast_S3072x1_S3072x128_0_1 _ (ix2 r l) (ix2 r (0 : Fin 1)) (fun a => match a with
    | ⟨0, _⟩ => rfl
    | ⟨1, _⟩ => rfl)).trans ?_
  exact shapeCast_apply g _ _ (ix2 (bat r) (pos r)) (by
    rw [Shape.rowMajor_val_two, Shape.rowMajor_val_two]
    show (r.val / 512) * 512 + r.val % 512 = r.val * 1 + 0
    omega)

/-- The head scales by tile. -/
theorem scale16_at (s : Vec Ideal S8192 .f32) (v : Fin 8192) :
    shapeCast S16x1x512 s shapeCasts_S8192_S16x1x512 (ix3 (⟨v.val / 512, by omega⟩ : Fin 16) (0 : Fin 1) (⟨v.val % 512, by omega⟩ : Fin 512)) = s (ix1 v) :=
  shapeCast_apply s _ _ (ix1 v) (by
    rw [Shape.rowMajor_val_three, Shape.rowMajor_val_one]
    show v.val = ((v.val / 512) * 1 + 0) * 512 + v.val % 512
    omega)

/-- The middle tier's scales by tile. -/
theorem scale48_at (s : Vec Ideal S24576 .f32) (v : Fin 24576) :
    shapeCast S48x1x512 s shapeCasts_S24576_S48x1x512 (ix3 (⟨v.val / 512, by omega⟩ : Fin 48) (0 : Fin 1) (⟨v.val % 512, by omega⟩ : Fin 512)) = s (ix1 v) :=
  shapeCast_apply s _ _ (ix1 v) (by
    rw [Shape.rowMajor_val_three, Shape.rowMajor_val_one]
    show v.val = ((v.val / 512) * 1 + 0) * 512 + v.val % 512
    omega)

/-- The targets less a tier's first column. -/
theorem offset_at (g : Vec Ideal S3072x128 .i32) (n : BitVec 32) (y : S3072x128.Idx) :
    subi g (broadcastInDim S3072x128 ![] bcast_S_S3072x128 (constantI S_ 32 n)) y = g y - n := by
  show IntOp.subi (g y) (broadcastInDim S3072x128 ![] bcast_S_S3072x128 (constantI S_ 32 n) y) = _
  rw [broadcastInDim_apply _ bcast_S_S3072x128 (constantI S_ 32 n) y (fun a => a.elim0) (fun a => a.elim0)]
  rfl

end Cert.Hand

end
-- ==== Proof.Combine.lean ====
module

public import proofs.«01_k».proof.Proof.Gen.KernelIdeal.Frame.Region3
public import Idealize.ShloMosaic.Lib.Pointwise
public import Idealize.ShloMosaic.Lib.ValueIdx
public import Idealize.ShloMosaic.Lib.Pipeline.Value
public import Idealize.ShloMosaic.PureOps.Ideal.Laws

@[expose] public section

set_option maxRecDepth 16384

noncomputable section

namespace Cert.Hand

open Idealize.ShloMosaic Idealize.ShloMosaic.TcCoe Cert.KernelIdeal Cert.KernelIdeal.Gen
open Idealize.ShloMosaic.Pipeline (Dat)

/-- The largest of a row of numbers. -/
def rowTop {n : ℕ} (m : Fin n → EReal) : EReal := (Finset.univ : Finset (Fin n)).fold max ⊥ m

theorem le_rowTop {n : ℕ} (m : Fin n → EReal) (c : Fin n) : m c ≤ rowTop m :=
  (Finset.le_fold_max _).2 (Or.inr ⟨c, Finset.mem_univ c, le_rfl⟩)

theorem rowTop_le {n : ℕ} (m : Fin n → EReal) (z : EReal) (h : ∀ c, m c ≤ z) : rowTop m ≤ z :=
  (Finset.fold_max_le _).2 ⟨bot_le, fun c _ => h c⟩

/-- A row of lane maxima `m` and lane sums `l` brought together: the tier's log-sum-exp. -/
def rowLse (m l : Fin 128 → EReal) : EReal :=
  rowTop m + Ideal.log (∑ c : Fin 128, l c * Ideal.exp (m c - rowTop m))

/-- The log-sum-exp of three numbers relative to their maximum. -/
def lseOf3 (a b c : EReal) : EReal :=
  max (max a b) c + Ideal.log (Ideal.exp (a - max (max a b) c) + Ideal.exp (b - max (max a b) c)
      + Ideal.exp (c - max (max a b) c))

/-- Row `r` of a block. -/
def row {n : ℕ} (x : (⟨2, ![n, 128]⟩ : Shape).Idx → EReal) (r : Fin n) (c : Fin 128) : EReal := x (ix2 r c)

/-- A block's row maxima as the kernel takes them. -/
def maxL (x : FVec Ideal S512x128 .f32) : FVec Ideal S512 .f32 :=
  multiReduction .maximumf [1] S512 x 0xFF800000#32 reduces_S512x128_S512 (.inl rfl) rfl

/-- A block's row sums as the kernel takes them. -/
def sumL (x : FVec Ideal S512x128 .f32) : FVec Ideal S512 .f32 :=
  multiReduction .add [1] S512 x 0x00000000#32 reduces_S512x128_S512 (.inl rfl) rfl

/-- A row maximum as the kernel takes it. -/
theorem max_lanes (x : FVec Ideal S512x128 .f32) (r : S512.Idx) : maxL x r = rowTop (row x (r 0)) := by
  refine (Ideal.multiReduction_maximumf_single x _ reduces_S512x128_S512 (.inl rfl) rfl r).trans ?_
  have e : (FloatOps.ofBits (F := Ideal) .f32 0xFF800000#32 : EReal) = ⊥ := by
    show Ideal.ofBits .f32 0xFF800000#32 = ⊥
    simp [Ideal.ofBits, Ideal.ieee]
  refine (congrArg (fun b : EReal => Finset.fold max b (x ∘ reduces_S512x128_S512.lift r) Finset.univ) e).trans ?_
  unfold rowTop
  refine congrArg (fun f : Fin 128 → EReal => Finset.fold max ⊥ f Finset.univ) (funext fun k => ?_)
  show x _ = x _
  congr 1
  funext a
  match a with
  | ⟨0, _⟩ => exact Fin.ext rfl
  | ⟨1, _⟩ => exact Fin.ext rfl

/-- A row sum as the kernel takes it. -/
theorem sum_lanes (x : FVec Ideal S512x128 .f32) (r : S512.Idx) : sumL x r = ∑ c : Fin 128, row x (r 0) c := by
  refine (Ideal.multiReduction_add_single x _ reduces_S512x128_S512 (.inl rfl) rfl r).trans ?_
  refine Finset.sum_congr rfl fun k _ => ?_
  show x _ = x _
  congr 1
  funext a
  match a with
  | ⟨0, _⟩ => exact Fin.ext rfl
  | ⟨1, _⟩ => exact Fin.ext rfl

/-- One tier's log-sum-exp, from its lane maxima and lane sums. -/
theorem tier1 (m l : Vec Ideal S512x128 .f32) (j : S512x1.Idx) : k3_pay1 m l j = rowLse (row m (j 0)) (row l (j 0)) := by
  have hj : (j 1).val < 1 := (j 1).isLt
  have e : ∀ v : FVec Ideal S512 .f32, shapeCast S512x1 v shapeCasts_S512_S512x1 j = v (ix1 (j 0)) := fun v =>
    shapeCast_apply v shapeCasts_S512_S512x1 j (ix1 (j 0)) (by
      rw [Shape.rowMajor_val_two, Shape.rowMajor_val_one]; show (j 0).val = (j 0).val * 1 + (j 1).val; omega)
  have i : ∀ (v : Vec Ideal S512x128 .f32), shapeCast S512x128 v shapeCasts_S512x128_S512x128 = v := fun v =>
    funext fun y => shapeCast_apply v shapeCasts_S512x128_S512x128 y y rfl
  have b : ∀ (v : FVec Ideal S512 .f32) (c : Fin 128),
      broadcastTo S512x128 (shapeCast S512x1 v shapeCasts_S512_S512x1) broadcasts_S512x1_S512x128 (ix2 (j 0) c) = v (ix1 (j 0)) := fun v c =>
    (broadcastTo_apply _ broadcasts_S512x1_S512x128 (ix2 (j 0) c) (ix2 (j 0) 0) (fun a => match a with
      | ⟨0, _⟩ => rfl
      | ⟨1, _⟩ => rfl)).trans (shapeCast_apply v shapeCasts_S512_S512x1 _ (ix1 (j 0)) (by
      rw [Shape.rowMajor_val_two, Shape.rowMajor_val_one]; show (j 0).val = (j 0).val * 1 + 0; omega))
  have f : k3_pay1 m l = addf (shapeCast S512x1 (maxL (shapeCast S512x128 m shapeCasts_S512x128_S512x128)) shapeCasts_S512_S512x1)
      (log (shapeCast S512x1 (sumL (mulf (shapeCast S512x128 l shapeCasts_S512x128_S512x128) (exp (subf (shapeCast S512x128 m shapeCasts_S512x128_S512x128)
        (broadcastTo S512x128 (shapeCast S512x1 (maxL (shapeCast S512x128 m shapeCasts_S512x128_S512x128)) shapeCasts_S512_S512x1) broadcasts_S512x1_S512x128)))))
        shapeCasts_S512_S512x1)) := rfl
  rw [f, i, i]
  refine (congrArg₂ (fun a b : EReal => a + Ideal.log b) ((e _).trans (max_lanes m _)) ((e _).trans (sum_lanes _ _))).trans ?_
  unfold rowLse
  refine congrArg (fun b : EReal => rowTop (row m (j 0)) + Ideal.log b) (Finset.sum_congr rfl fun c _ => ?_)
  exact congrArg (fun b : EReal => l (ix2 (j 0) c) * Ideal.exp (m (ix2 (j 0) c) - b)) ((b (maxL m) c).trans (max_lanes m _))

theorem tier2 (m l : Vec Ideal S512x128 .f32) (j : S512x1.Idx) : k3_pay2 m l j = rowLse (row m (j 0)) (row l (j 0)) := tier1 m l j
theorem tier4 (m l : Vec Ideal S512x128 .f32) (j : S512x1.Idx) : k3_pay4 m l j = rowLse (row m (j 0)) (row l (j 0)) := tier1 m l j

/-- A lane sum stored as a column. -/
theorem column_sum (v : Vec Ideal S512x128 .f32) (j : S512x1.Idx) :
    shapeCast S512x1 (sumL (shapeCast S512x128 v shapeCasts_S512x128_S512x128)) shapeCasts_S512_S512x1 j = ∑ c : Fin 128, row v (j 0) c := by
  have hj : (j 1).val < 1 := (j 1).isLt
  have i : shapeCast S512x128 v shapeCasts_S512x128_S512x128 = v :=
    funext fun y => shapeCast_apply v shapeCasts_S512x128_S512x128 y y rfl
  rw [i]
  refine (shapeCast_apply _ shapeCasts_S512_S512x1 j (ix1 (j 0)) (by
      rw [Shape.rowMajor_val_two, Shape.rowMajor_val_one]; show (j 0).val = (j 0).val * 1 + (j 1).val; omega)).trans ?_
  exact sum_lanes _ _

/-- The first two tiers' target logits added. -/
theorem targets3 (a b : Vec Ideal S512x128 .f32) (j : S512x1.Idx) :
    k3_pay3 a b j = (∑ c : Fin 128, row a (j 0) c) + ∑ c : Fin 128, row b (j 0) c := by
  have z : (Scalar.ofBits (F := Ideal) .f32 0x00000000#32 : EReal) = 0 := Ideal.ofBits_zero_f32
  unfold k3_pay3
  show (Scalar.ofBits (F := Ideal) .f32 0x00000000#32 : EReal) + shapeCast S512x1 (sumL (shapeCast S512x128 a shapeCasts_S512x128_S512x128)) shapeCasts_S512_S512x1 j
    + shapeCast S512x1 (sumL (shapeCast S512x128 b shapeCasts_S512x128_S512x128)) shapeCasts_S512_S512x1 j = _
  rw [column_sum, column_sum, z, zero_add]

/-- The three tiers' log-sum-exps brought together. -/
theorem combine5 (u v : FVec Ideal S512x1 .f32) (m l : Vec Ideal S512x128 .f32) (j : S512x1.Idx) :
    k3_pay5 u v m l j = lseOf3 (u j) (v j) (rowLse (row m (j 0)) (row l (j 0))) := by
  have z : (Scalar.ofBits (F := Ideal) .f32 0x00000000#32 : EReal) = 0 := Ideal.ofBits_zero_f32
  rw [← tier4]
  unfold k3_pay5 lseOf3
  generalize k3_pay4 m l = q
  have e : ∀ x : EReal, x = (Scalar.ofBits (F := Ideal) .f32 0x00000000#32 : EReal) + x := fun x => by rw [z, zero_add]
  rw [e (Ideal.exp (u j - max (max (u j) (v j)) (q j)))]
  rfl

/-- The target's log-probability: the three tiers' target logits added, less the log-sum-exp. -/
theorem combine6 (u v w : FVec Ideal S512x1 .f32) (m l t : Vec Ideal S512x128 .f32) (j : S512x1.Idx) :
    k3_pay6 u v w m l t j = (w j + ∑ c : Fin 128, row t (j 0) c) - lseOf3 (u j) (v j) (rowLse (row m (j 0)) (row l (j 0))) := by
  rw [← column_sum, ← combine5]
  rfl

section
variable (V : (c : Dev nD) → (b : Ref sig .tc) → Buf (Elt Ideal) ((c : Thread nD τ).loc b)) (c : Dev nD)

/-- Point `t` of the grid is block `t`. -/
theorem coord3 (t : Fin cfg3.N) : (grid3.coords t 0).val = t.val := by
  have ht : t.val < 6 := lt_of_lt_of_eq t.isLt N_3
  have e : (grid3.coords t 0).val = t.val / 1 % 6 := Pipeline.Grid.coords_val t 0 (by decide) rfl
  rw [e]; omega

/-- Row `r` of block `t`, in the array. -/
def arow (t : Fin cfg3.N) (r : Fin 512) : Fin 3072 := ⟨512 * t.val + r.val, by have := lt_of_lt_of_eq t.isLt N_3; omega⟩

theorem block3_0 (t : Fin cfg3.N) (r : Fin 512) :
    row (n := 512) (iblk3 V c 0 t : Vec Ideal S512x128 .f32) r = row (n := 3072) (V c main_v7_0 : Vec Ideal S3072x128 .f32) (arow t r) := by
  have hx0 : win3_0.index t 0 = t.val := by
    have e := coord3 t
    have ht : t.val < 6 := lt_of_lt_of_eq t.isLt N_3
    show (BitVec.ofNat 32 (grid3.coords t 0).val).toNat = _
    rw [e, BitVec.toNat_ofNat]; omega
  have hx1 : win3_0.index t 1 = 0 := rfl
  funext k
  unfold row iblk3
  rw [View.read_apply]
  show (V c main_v7_0 : Vec Ideal S3072x128 .f32) _ = _
  congr 1
  funext a
  apply Fin.ext
  match a with
  | ⟨0, _⟩ => show win3_0.index t 0 * 512 + 1 * r.val = 512 * t.val + r.val; rw [hx0]; omega
  | ⟨1, _⟩ => show win3_0.index t 1 * 128 + 1 * k.val = k.val; rw [hx1]; omega

theorem block3_1 (t : Fin cfg3.N) (r : Fin 512) :
    row (n := 512) (iblk3 V c 1 t : Vec Ideal S512x128 .f32) r = row (n := 3072) (V c main_v7_1 : Vec Ideal S3072x128 .f32) (arow t r) := by
  have hx0 : win3_1.index t 0 = t.val := by
    have e := coord3 t
    have ht : t.val < 6 := lt_of_lt_of_eq t.isLt N_3
    show (BitVec.ofNat 32 (grid3.coords t 0).val).toNat = _
    rw [e, BitVec.toNat_ofNat]; omega
  have hx1 : win3_1.index t 1 = 0 := rfl
  funext k
  unfold row iblk3
  rw [View.read_apply]
  show (V c main_v7_1 : Vec Ideal S3072x128 .f32) _ = _
  congr 1
  funext a
  apply Fin.ext
  match a with
  | ⟨0, _⟩ => show win3_1.index t 0 * 512 + 1 * r.val = 512 * t.val + r.val; rw [hx0]; omega
  | ⟨1, _⟩ => show win3_1.index t 1 * 128 + 1 * k.val = k.val; rw [hx1]; omega

theorem block3_2 (t : Fin cfg3.N) (r : Fin 512) :
    row (n := 512) (iblk3 V c 2 t : Vec Ideal S512x128 .f32) r = row (n := 3072) (V c main_v7_2 : Vec Ideal S3072x128 .f32) (arow t r) := by
  have hx0 : win3_2.index t 0 = t.val := by
    have e := coord3 t
    have ht : t.val < 6 := lt_of_lt_of_eq t.isLt N_3
    show (BitVec.ofNat 32 (grid3.coords t 0).val).toNat = _
    rw [e, BitVec.toNat_ofNat]; omega
  have hx1 : win3_2.index t 1 = 0 := rfl
  funext k
  unfold row iblk3
  rw [View.read_apply]
  show (V c main_v7_2 : Vec Ideal S3072x128 .f32) _ = _
  congr 1
  funext a
  apply Fin.ext
  match a with
  | ⟨0, _⟩ => show win3_2.index t 0 * 512 + 1 * r.val = 512 * t.val + r.val; rw [hx0]; omega
  | ⟨1, _⟩ => show win3_2.index t 1 * 128 + 1 * k.val = k.val; rw [hx1]; omega

theorem block3_3 (t : Fin cfg3.N) (r : Fin 512) :
    row (n := 512) (iblk3 V c 3 t : Vec Ideal S512x128 .f32) r = row (n := 3072) (V c main_v11_0 : Vec Ideal S3072x128 .f32) (arow t r) := by
  have hx0 : win3_3.index t 0 = t.val := by
    have e := coord3 t
    have ht : t.val < 6 := lt_of_lt_of_eq t.isLt N_3
    show (BitVec.ofNat 32 (grid3.coords t 0).val).toNat = _
    rw [e, BitVec.toNat_ofNat]; omega
  have hx1 : win3_3.index t 1 = 0 := rfl
  funext k
  unfold row iblk3
  rw [View.read_apply]
  show (V c main_v11_0 : Vec Ideal S3072x128 .f32) _ = _
  congr 1
  funext a
  apply Fin.ext
  match a with
  | ⟨0, _⟩ => show win3_3.index t 0 * 512 + 1 * r.val = 512 * t.val + r.val; rw [hx0]; omega
  | ⟨1, _⟩ => show win3_3.index t 1 * 128 + 1 * k.val = k.val; rw [hx1]; omega

theorem block3_4 (t : Fin cfg3.N) (r : Fin 512) :
    row (n := 512) (iblk3 V c 4 t : Vec Ideal S512x128 .f32) r = row (n := 3072) (V c main_v11_1 : Vec Ideal S3072x128 .f32) (arow t r) := by
  have hx0 : win3_4.index t 0 = t.val := by
    have e := coord3 t
    have ht : t.val < 6 := lt_of_lt_of_eq t.isLt N_3
    show (BitVec.ofNat 32 (grid3.coords t 0).val).toNat = _
    rw [e, BitVec.toNat_ofNat]; omega
  have hx1 : win3_4.index t 1 = 0 := rfl
  funext k
  unfold row iblk3
  rw [View.read_apply]
  show (V c main_v11_1 : Vec Ideal S3072x128 .f32) _ = _
  congr 1
  funext a
  apply Fin.ext
  match a with
  | ⟨0, _⟩ => show win3_4.index t 0 * 512 + 1 * r.val = 512 * t.val + r.val; rw [hx0]; omega
  | ⟨1, _⟩ => show win3_4.index t 1 * 128 + 1 * k.val = k.val; rw [hx1]; omega

theorem block3_5 (t : Fin cfg3.N) (r : Fin 512) :
    row (n := 512) (iblk3 V c 5 t : Vec Ideal S512x128 .f32) r = row (n := 3072) (V c main_v11_2 : Vec Ideal S3072x128 .f32) (arow t r) := by
  have hx0 : win3_5.index t 0 = t.val := by
    have e := coord3 t
    have ht : t.val < 6 := lt_of_lt_of_eq t.isLt N_3
    show (BitVec.ofNat 32 (grid3.coords t 0).val).toNat = _
    rw [e, BitVec.toNat_ofNat]; omega
  have hx1 : win3_5.index t 1 = 0 := rfl
  funext k
  unfold row iblk3
  rw [View.read_apply]
  show (V c main_v11_2 : Vec Ideal S3072x128 .f32) _ = _
  congr 1
  funext a
  apply Fin.ext
  match a with
  | ⟨0, _⟩ => show win3_5.index t 0 * 512 + 1 * r.val = 512 * t.val + r.val; rw [hx0]; omega
  | ⟨1, _⟩ => show win3_5.index t 1 * 128 + 1 * k.val = k.val; rw [hx1]; omega

theorem block3_6 (t : Fin cfg3.N) (r : Fin 512) :
    row (n := 512) (iblk3 V c 6 t : Vec Ideal S512x128 .f32) r = row (n := 3072) (V c main_v14_0 : Vec Ideal S3072x128 .f32) (arow t r) := by
  have hx0 : win3_6.index t 0 = t.val := by
    have e := coord3 t
    have ht : t.val < 6 := lt_of_lt_of_eq t.isLt N_3
    show (BitVec.ofNat 32 (grid3.coords t 0).val).toNat = _
    rw [e, BitVec.toNat_ofNat]; omega
  have hx1 : win3_6.index t 1 = 0 := rfl
  funext k
  unfold row iblk3
  rw [View.read_apply]
  show (V c main_v14_0 : Vec Ideal S3072x128 .f32) _ = _
  congr 1
  funext a
  apply Fin.ext
  match a with
  | ⟨0, _⟩ => show win3_6.index t 0 * 512 + 1 * r.val = 512 * t.val + r.val; rw [hx0]; omega
  | ⟨1, _⟩ => show win3_6.index t 1 * 128 + 1 * k.val = k.val; rw [hx1]; omega

theorem block3_7 (t : Fin cfg3.N) (r : Fin 512) :
    row (n := 512) (iblk3 V c 7 t : Vec Ideal S512x128 .f32) r = row (n := 3072) (V c main_v14_1 : Vec Ideal S3072x128 .f32) (arow t r) := by
  have hx0 : win3_7.index t 0 = t.val := by
    have e := coord3 t
    have ht : t.val < 6 := lt_of_lt_of_eq t.isLt N_3
    show (BitVec.ofNat 32 (grid3.coords t 0).val).toNat = _
    rw [e, BitVec.toNat_ofNat]; omega
  have hx1 : win3_7.index t 1 = 0 := rfl
  funext k
  unfold row iblk3
  rw [View.read_apply]
  show (V c main_v14_1 : Vec Ideal S3072x128 .f32) _ = _
  congr 1
  funext a
  apply Fin.ext
  match a with
  | ⟨0, _⟩ => show win3_7.index t 0 * 512 + 1 * r.val = 512 * t.val + r.val; rw [hx0]; omega
  | ⟨1, _⟩ => show win3_7.index t 1 * 128 + 1 * k.val = k.val; rw [hx1]; omega

theorem block3_8 (t : Fin cfg3.N) (r : Fin 512) :
    row (n := 512) (iblk3 V c 8 t : Vec Ideal S512x128 .f32) r = row (n := 3072) (V c main_v14_2 : Vec Ideal S3072x128 .f32) (arow t r) := by
  have hx0 : win3_8.index t 0 = t.val := by
    have e := coord3 t
    have ht : t.val < 6 := lt_of_lt_of_eq t.isLt N_3
    show (BitVec.ofNat 32 (grid3.coords t 0).val).toNat = _
    rw [e, BitVec.toNat_ofNat]; omega
  have hx1 : win3_8.index t 1 = 0 := rfl
  funext k
  unfold row iblk3
  rw [View.read_apply]
  show (V c main_v14_2 : Vec Ideal S3072x128 .f32) _ = _
  congr 1
  funext a
  apply Fin.ext
  match a with
  | ⟨0, _⟩ => show win3_8.index t 0 * 512 + 1 * r.val = 512 * t.val + r.val; rw [hx0]; omega
  | ⟨1, _⟩ => show win3_8.index t 1 * 128 + 1 * k.val = k.val; rw [hx1]; omega

/-- A tier's log-sum-exp of row `r`, read off its arrays of lane maxima and lane sums. -/
def tierLse (m l : Vec Ideal S3072x128 .f32) (r : Fin 3072) : EReal := rowLse (row m r) (row l r)

/-- The log-sum-exp of row `r` over all three tiers. -/
def allLse (r : Fin 3072) : EReal :=
  lseOf3 (tierLse (V c main_v7_0) (V c main_v7_1) r) (tierLse (V c main_v11_0) (V c main_v11_1) r) (tierLse (V c main_v14_0) (V c main_v14_1) r)

/-- The target logit of row `r`: the lanes of all three tiers added. -/
def allTarget (r : Fin 3072) : EReal :=
  (∑ k : Fin 128, row (V c main_v7_2 : Vec Ideal S3072x128 .f32) r k) + (∑ k : Fin 128, row (V c main_v11_2 : Vec Ideal S3072x128 .f32) r k)
    + ∑ k : Fin 128, row (V c main_v14_2 : Vec Ideal S3072x128 .f32) r k

theorem ld_block (x : Vec Ideal S512x128 .f32) : View.ld x r3_0 = x := by
  have hz : (![0, 0] : Fin 2 → ℕ) = fun _ => 0 := by decide
  exact View.ld_unit_zero (S := S512x128) hz _ x

theorem canon_block (p : Vec Ideal S512x1 .f32) : View.canon (Val := Elt Ideal) (e := .f32) [⟨r3_1, p⟩] = p := by
  have hz : (![0, 0] : Fin 2 → ℕ) = fun _ => 0 := by decide
  exact View.canon_unit_zero (S := S512x1) hz _ p

/-- A block of result array 1, from the blocks it reads. -/
theorem out3_10_at (x0 x1 x2 x3 x4 x5 x6 x7 x8 : Vec Ideal S512x128 .f32) (x9 : Vec Ideal S512x128 .i32) (j : S512x1.Idx) :
    out3_10 x0 x1 x2 x3 x4 x5 x6 x7 x8 x9 j = lseOf3 (rowLse (row x0 (j 0)) (row x1 (j 0))) (rowLse (row x3 (j 0)) (row x4 (j 0))) (rowLse (row x6 (j 0)) (row x7 (j 0))) := by
  unfold out3_10
  rw [canon_block]
  rw [combine5]
  unfold k3_pay7 k3_pay8
  simp only [ld_block]
  rw [tier1, tier2]

theorem out3_10_of (x0 x1 x2 x3 x4 x5 x6 x7 x8 : Vec Ideal S512x128 .f32) (x9 : Vec Ideal S512x128 .i32) (j : S512x1.Idx) (r0 r1 r2 r3 r4 r5 r6 r7 r8 : Fin 128 → EReal)
    (h0 : row x0 (j 0) = r0) (h1 : row x1 (j 0) = r1) (h2 : row x2 (j 0) = r2) (h3 : row x3 (j 0) = r3) (h4 : row x4 (j 0) = r4) (h5 : row x5 (j 0) = r5) (h6 : row x6 (j 0) = r6) (h7 : row x7 (j 0) = r7) (h8 : row x8 (j 0) = r8) :
    out3_10 x0 x1 x2 x3 x4 x5 x6 x7 x8 x9 j = lseOf3 (rowLse r0 r1) (rowLse r3 r4) (rowLse r6 r7) := by
  subst h0 h1 h2 h3 h4 h5 h6 h7 h8
  exact out3_10_at x0 x1 x2 x3 x4 x5 x6 x7 x8 x9 j

theorem stage3_10 (t : Fin cfg3.N) (j : S512x1.Idx) :
    out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) j = allLse V c (arow t (j 0)) :=
  out3_10_of (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) j _ _ _ _ _ _ _ _ _ (block3_0 V c t (j 0)) (block3_1 V c t (j 0)) (block3_2 V c t (j 0)) (block3_3 V c t (j 0)) (block3_4 V c t (j 0)) (block3_5 V c t (j 0)) (block3_6 V c t (j 0)) (block3_7 V c t (j 0)) (block3_8 V c t (j 0))

/-- The result array 1 ends holding the log-sum-exp over all tiers. -/
theorem array3_10 : (dat3 V c).arrAt 10 cfg3.N = (fun i : S3072x1.Idx => (allLse V c (i 0) : EReal)) := by
  have hN : cfg3.N = 6 := N_3
  have hx0 : ∀ t : Fin cfg3.N, win3_10.index t 0 = t.val := fun t => by
    have e := coord3 t
    have ht : t.val < 6 := lt_of_lt_of_eq t.isLt N_3
    show (BitVec.ofNat 32 (grid3.coords t 0).val).toNat = _
    rw [e, BitVec.toNat_ofNat]; omega
  refine (dat3 V c).arrAt_eq_of_cover 10 _ (fun t _ => ?_) fun i => ?_
  · show (cfg3.win 10).cut (grid3.coords t) ((dat3 V c).after 10 t) = _
    rw [after3_10]
    funext j
    have ei : ((((View.whole main_v15_0).slice (win3_10.rect t)).emb j 0 : Fin 3072)) = arow t (j 0) := by
      apply Fin.ext
      show win3_10.index t 0 * 512 + 1 * (j 0).val = 512 * t.val + (j 0).val
      rw [hx0]; omega
    rw [View.read_apply]
    exact (stage3_10 V c t j).trans (congrArg (fun r => (allLse V c r : EReal)) ei.symm)
  · have h0 : (i 0 : Nat) < 3072 := (i 0).isLt
    have h1 : (i 1 : Nat) < 1 := (i 1).isLt
    obtain ⟨T, hT⟩ : ∃ T : Fin cfg3.N, T.val = (i 0 : Nat) / 512 := ⟨⟨(i 0 : Nat) / 512, by rw [hN]; omega⟩, rfl⟩
    refine ⟨T, flush3_10 _, ?_⟩
    show i ∈ ((View.whole main_v15_0).slice (win3_10.rect T)).set
    rw [View.set_slice_whole, Rect.mem_set_unit]
    intro a
    match a with
    | ⟨0, _⟩ =>
      show win3_10.index T 0 * 512 ≤ (i 0 : Nat) ∧ (i 0 : Nat) < win3_10.index T 0 * 512 + 512
      rw [hx0, hT]; omega
    | ⟨1, _⟩ => exact ⟨Nat.zero_le _, by show (i 1 : Nat) < 0 * 1 + 1; omega⟩

/-- A block of result array 2, from the blocks it reads. -/
theorem out3_11_at (x0 x1 x2 x3 x4 x5 x6 x7 x8 : Vec Ideal S512x128 .f32) (x9 : Vec Ideal S512x128 .i32) (j : S512x1.Idx) :
    out3_11 x0 x1 x2 x3 x4 x5 x6 x7 x8 x9 j = ((∑ k : Fin 128, row x2 (j 0) k) + (∑ k : Fin 128, row x5 (j 0) k) + ∑ k : Fin 128, row x8 (j 0) k) - lseOf3 (rowLse (row x0 (j 0)) (row x1 (j 0))) (rowLse (row x3 (j 0)) (row x4 (j 0))) (rowLse (row x6 (j 0)) (row x7 (j 0))) := by
  unfold out3_11
  rw [canon_block]
  rw [combine6]
  unfold k3_pay7 k3_pay8
  simp only [ld_block]
  rw [tier1, tier2, targets3]

theorem out3_11_of (x0 x1 x2 x3 x4 x5 x6 x7 x8 : Vec Ideal S512x128 .f32) (x9 : Vec Ideal S512x128 .i32) (j : S512x1.Idx) (r0 r1 r2 r3 r4 r5 r6 r7 r8 : Fin 128 → EReal)
    (h0 : row x0 (j 0) = r0) (h1 : row x1 (j 0) = r1) (h2 : row x2 (j 0) = r2) (h3 : row x3 (j 0) = r3) (h4 : row x4 (j 0) = r4) (h5 : row x5 (j 0) = r5) (h6 : row x6 (j 0) = r6) (h7 : row x7 (j 0) = r7) (h8 : row x8 (j 0) = r8) :
    out3_11 x0 x1 x2 x3 x4 x5 x6 x7 x8 x9 j = ((∑ k : Fin 128, r2 k) + (∑ k : Fin 128, r5 k) + ∑ k : Fin 128, r8 k) - lseOf3 (rowLse r0 r1) (rowLse r3 r4) (rowLse r6 r7) := by
  subst h0 h1 h2 h3 h4 h5 h6 h7 h8
  exact out3_11_at x0 x1 x2 x3 x4 x5 x6 x7 x8 x9 j

theorem stage3_11 (t : Fin cfg3.N) (j : S512x1.Idx) :
    out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) j = allTarget V c (arow t (j 0)) - allLse V c (arow t (j 0)) :=
  out3_11_of (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) j _ _ _ _ _ _ _ _ _ (block3_0 V c t (j 0)) (block3_1 V c t (j 0)) (block3_2 V c t (j 0)) (block3_3 V c t (j 0)) (block3_4 V c t (j 0)) (block3_5 V c t (j 0)) (block3_6 V c t (j 0)) (block3_7 V c t (j 0)) (block3_8 V c t (j 0))

/-- The result array 2 ends holding the log-probability of the target. -/
theorem array3_11 : (dat3 V c).arrAt 11 cfg3.N = (fun i : S3072x1.Idx => (allTarget V c (i 0) - allLse V c (i 0) : EReal)) := by
  have hN : cfg3.N = 6 := N_3
  have hx0 : ∀ t : Fin cfg3.N, win3_11.index t 0 = t.val := fun t => by
    have e := coord3 t
    have ht : t.val < 6 := lt_of_lt_of_eq t.isLt N_3
    show (BitVec.ofNat 32 (grid3.coords t 0).val).toNat = _
    rw [e, BitVec.toNat_ofNat]; omega
  refine (dat3 V c).arrAt_eq_of_cover 11 _ (fun t _ => ?_) fun i => ?_
  · show (cfg3.win 11).cut (grid3.coords t) ((dat3 V c).after 11 t) = _
    rw [after3_11]
    funext j
    have ei : ((((View.whole main_v15_1).slice (win3_11.rect t)).emb j 0 : Fin 3072)) = arow t (j 0) := by
      apply Fin.ext
      show win3_11.index t 0 * 512 + 1 * (j 0).val = 512 * t.val + (j 0).val
      rw [hx0]; omega
    rw [View.read_apply]
    exact (stage3_11 V c t j).trans (congrArg (fun r => (allTarget V c r - allLse V c r : EReal)) ei.symm)
  · have h0 : (i 0 : Nat) < 3072 := (i 0).isLt
    have h1 : (i 1 : Nat) < 1 := (i 1).isLt
    obtain ⟨T, hT⟩ : ∃ T : Fin cfg3.N, T.val = (i 0 : Nat) / 512 := ⟨⟨(i 0 : Nat) / 512, by rw [hN]; omega⟩, rfl⟩
    refine ⟨T, flush3_11 _, ?_⟩
    show i ∈ ((View.whole main_v15_1).slice (win3_11.rect T)).set
    rw [View.set_slice_whole, Rect.mem_set_unit]
    intro a
    match a with
    | ⟨0, _⟩ =>
      show win3_11.index T 0 * 512 ≤ (i 0 : Nat) ∧ (i 0 : Nat) < win3_11.index T 0 * 512 + 512
      rw [hx0, hT]; omega
    | ⟨1, _⟩ => exact ⟨Nat.zero_le _, by show (i 1 : Nat) < 0 * 1 + 1; omega⟩

/-- A block of result array 3, from the blocks it reads. -/
theorem out3_12_at (x0 x1 x2 x3 x4 x5 x6 x7 x8 : Vec Ideal S512x128 .f32) (x9 : Vec Ideal S512x128 .i32) (j : S512x1.Idx) :
    out3_12 x0 x1 x2 x3 x4 x5 x6 x7 x8 x9 j = rowLse (row x0 (j 0)) (row x1 (j 0)) := by
  unfold out3_12
  rw [canon_block]
  unfold k3_pay7
  simp only [ld_block]
  rw [tier1]

theorem out3_12_of (x0 x1 x2 x3 x4 x5 x6 x7 x8 : Vec Ideal S512x128 .f32) (x9 : Vec Ideal S512x128 .i32) (j : S512x1.Idx) (r0 r1 r2 r3 r4 r5 r6 r7 r8 : Fin 128 → EReal)
    (h0 : row x0 (j 0) = r0) (h1 : row x1 (j 0) = r1) (h2 : row x2 (j 0) = r2) (h3 : row x3 (j 0) = r3) (h4 : row x4 (j 0) = r4) (h5 : row x5 (j 0) = r5) (h6 : row x6 (j 0) = r6) (h7 : row x7 (j 0) = r7) (h8 : row x8 (j 0) = r8) :
    out3_12 x0 x1 x2 x3 x4 x5 x6 x7 x8 x9 j = rowLse r0 r1 := by
  subst h0 h1 h2 h3 h4 h5 h6 h7 h8
  exact out3_12_at x0 x1 x2 x3 x4 x5 x6 x7 x8 x9 j

theorem stage3_12 (t : Fin cfg3.N) (j : S512x1.Idx) :
    out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) j = tierLse (V c main_v7_0) (V c main_v7_1) (arow t (j 0)) :=
  out3_12_of (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) j _ _ _ _ _ _ _ _ _ (block3_0 V c t (j 0)) (block3_1 V c t (j 0)) (block3_2 V c t (j 0)) (block3_3 V c t (j 0)) (block3_4 V c t (j 0)) (block3_5 V c t (j 0)) (block3_6 V c t (j 0)) (block3_7 V c t (j 0)) (block3_8 V c t (j 0))

/-- The result array 3 ends holding the head tier's log-sum-exp. -/
theorem array3_12 : (dat3 V c).arrAt 12 cfg3.N = (fun i : S3072x1.Idx => (tierLse (V c main_v7_0) (V c main_v7_1) (i 0) : EReal)) := by
  have hN : cfg3.N = 6 := N_3
  have hx0 : ∀ t : Fin cfg3.N, win3_12.index t 0 = t.val := fun t => by
    have e := coord3 t
    have ht : t.val < 6 := lt_of_lt_of_eq t.isLt N_3
    show (BitVec.ofNat 32 (grid3.coords t 0).val).toNat = _
    rw [e, BitVec.toNat_ofNat]; omega
  refine (dat3 V c).arrAt_eq_of_cover 12 _ (fun t _ => ?_) fun i => ?_
  · show (cfg3.win 12).cut (grid3.coords t) ((dat3 V c).after 12 t) = _
    rw [after3_12]
    funext j
    have ei : ((((View.whole main_v15_2).slice (win3_12.rect t)).emb j 0 : Fin 3072)) = arow t (j 0) := by
      apply Fin.ext
      show win3_12.index t 0 * 512 + 1 * (j 0).val = 512 * t.val + (j 0).val
      rw [hx0]; omega
    rw [View.read_apply]
    exact (stage3_12 V c t j).trans (congrArg (fun r => (tierLse (V c main_v7_0) (V c main_v7_1) r : EReal)) ei.symm)
  · have h0 : (i 0 : Nat) < 3072 := (i 0).isLt
    have h1 : (i 1 : Nat) < 1 := (i 1).isLt
    obtain ⟨T, hT⟩ : ∃ T : Fin cfg3.N, T.val = (i 0 : Nat) / 512 := ⟨⟨(i 0 : Nat) / 512, by rw [hN]; omega⟩, rfl⟩
    refine ⟨T, flush3_12 _, ?_⟩
    show i ∈ ((View.whole main_v15_2).slice (win3_12.rect T)).set
    rw [View.set_slice_whole, Rect.mem_set_unit]
    intro a
    match a with
    | ⟨0, _⟩ =>
      show win3_12.index T 0 * 512 ≤ (i 0 : Nat) ∧ (i 0 : Nat) < win3_12.index T 0 * 512 + 512
      rw [hx0, hT]; omega
    | ⟨1, _⟩ => exact ⟨Nat.zero_le _, by show (i 1 : Nat) < 0 * 1 + 1; omega⟩

/-- A block of result array 4, from the blocks it reads. -/
theorem out3_13_at (x0 x1 x2 x3 x4 x5 x6 x7 x8 : Vec Ideal S512x128 .f32) (x9 : Vec Ideal S512x128 .i32) (j : S512x1.Idx) :
    out3_13 x0 x1 x2 x3 x4 x5 x6 x7 x8 x9 j = rowLse (row x3 (j 0)) (row x4 (j 0)) := by
  unfold out3_13
  rw [canon_block]
  unfold k3_pay8
  simp only [ld_block]
  rw [tier2]

theorem out3_13_of (x0 x1 x2 x3 x4 x5 x6 x7 x8 : Vec Ideal S512x128 .f32) (x9 : Vec Ideal S512x128 .i32) (j : S512x1.Idx) (r0 r1 r2 r3 r4 r5 r6 r7 r8 : Fin 128 → EReal)
    (h0 : row x0 (j 0) = r0) (h1 : row x1 (j 0) = r1) (h2 : row x2 (j 0) = r2) (h3 : row x3 (j 0) = r3) (h4 : row x4 (j 0) = r4) (h5 : row x5 (j 0) = r5) (h6 : row x6 (j 0) = r6) (h7 : row x7 (j 0) = r7) (h8 : row x8 (j 0) = r8) :
    out3_13 x0 x1 x2 x3 x4 x5 x6 x7 x8 x9 j = rowLse r3 r4 := by
  subst h0 h1 h2 h3 h4 h5 h6 h7 h8
  exact out3_13_at x0 x1 x2 x3 x4 x5 x6 x7 x8 x9 j

theorem stage3_13 (t : Fin cfg3.N) (j : S512x1.Idx) :
    out3_13 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) j = tierLse (V c main_v11_0) (V c main_v11_1) (arow t (j 0)) :=
  out3_13_of (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) j _ _ _ _ _ _ _ _ _ (block3_0 V c t (j 0)) (block3_1 V c t (j 0)) (block3_2 V c t (j 0)) (block3_3 V c t (j 0)) (block3_4 V c t (j 0)) (block3_5 V c t (j 0)) (block3_6 V c t (j 0)) (block3_7 V c t (j 0)) (block3_8 V c t (j 0))

/-- The result array 4 ends holding the mid tier's log-sum-exp. -/
theorem array3_13 : (dat3 V c).arrAt 13 cfg3.N = (fun i : S3072x1.Idx => (tierLse (V c main_v11_0) (V c main_v11_1) (i 0) : EReal)) := by
  have hN : cfg3.N = 6 := N_3
  have hx0 : ∀ t : Fin cfg3.N, win3_13.index t 0 = t.val := fun t => by
    have e := coord3 t
    have ht : t.val < 6 := lt_of_lt_of_eq t.isLt N_3
    show (BitVec.ofNat 32 (grid3.coords t 0).val).toNat = _
    rw [e, BitVec.toNat_ofNat]; omega
  refine (dat3 V c).arrAt_eq_of_cover 13 _ (fun t _ => ?_) fun i => ?_
  · show (cfg3.win 13).cut (grid3.coords t) ((dat3 V c).after 13 t) = _
    rw [after3_13]
    funext j
    have ei : ((((View.whole main_v15_3).slice (win3_13.rect t)).emb j 0 : Fin 3072)) = arow t (j 0) := by
      apply Fin.ext
      show win3_13.index t 0 * 512 + 1 * (j 0).val = 512 * t.val + (j 0).val
      rw [hx0]; omega
    rw [View.read_apply]
    exact (stage3_13 V c t j).trans (congrArg (fun r => (tierLse (V c main_v11_0) (V c main_v11_1) r : EReal)) ei.symm)
  · have h0 : (i 0 : Nat) < 3072 := (i 0).isLt
    have h1 : (i 1 : Nat) < 1 := (i 1).isLt
    obtain ⟨T, hT⟩ : ∃ T : Fin cfg3.N, T.val = (i 0 : Nat) / 512 := ⟨⟨(i 0 : Nat) / 512, by rw [hN]; omega⟩, rfl⟩
    refine ⟨T, flush3_13 _, ?_⟩
    show i ∈ ((View.whole main_v15_3).slice (win3_13.rect T)).set
    rw [View.set_slice_whole, Rect.mem_set_unit]
    intro a
    match a with
    | ⟨0, _⟩ =>
      show win3_13.index T 0 * 512 ≤ (i 0 : Nat) ∧ (i 0 : Nat) < win3_13.index T 0 * 512 + 512
      rw [hx0, hT]; omega
    | ⟨1, _⟩ => exact ⟨Nat.zero_le _, by show (i 1 : Nat) < 0 * 1 + 1; omega⟩

/-- A block of result array 5, from the blocks it reads. -/
theorem out3_14_at (x0 x1 x2 x3 x4 x5 x6 x7 x8 : Vec Ideal S512x128 .f32) (x9 : Vec Ideal S512x128 .i32) (j : S512x1.Idx) :
    out3_14 x0 x1 x2 x3 x4 x5 x6 x7 x8 x9 j = rowLse (row x6 (j 0)) (row x7 (j 0)) := by
  unfold out3_14
  rw [canon_block]
  simp only [ld_block]
  rw [tier4]

theorem out3_14_of (x0 x1 x2 x3 x4 x5 x6 x7 x8 : Vec Ideal S512x128 .f32) (x9 : Vec Ideal S512x128 .i32) (j : S512x1.Idx) (r0 r1 r2 r3 r4 r5 r6 r7 r8 : Fin 128 → EReal)
    (h0 : row x0 (j 0) = r0) (h1 : row x1 (j 0) = r1) (h2 : row x2 (j 0) = r2) (h3 : row x3 (j 0) = r3) (h4 : row x4 (j 0) = r4) (h5 : row x5 (j 0) = r5) (h6 : row x6 (j 0) = r6) (h7 : row x7 (j 0) = r7) (h8 : row x8 (j 0) = r8) :
    out3_14 x0 x1 x2 x3 x4 x5 x6 x7 x8 x9 j = rowLse r6 r7 := by
  subst h0 h1 h2 h3 h4 h5 h6 h7 h8
  exact out3_14_at x0 x1 x2 x3 x4 x5 x6 x7 x8 x9 j

theorem stage3_14 (t : Fin cfg3.N) (j : S512x1.Idx) :
    out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) j = tierLse (V c main_v14_0) (V c main_v14_1) (arow t (j 0)) :=
  out3_14_of (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) j _ _ _ _ _ _ _ _ _ (block3_0 V c t (j 0)) (block3_1 V c t (j 0)) (block3_2 V c t (j 0)) (block3_3 V c t (j 0)) (block3_4 V c t (j 0)) (block3_5 V c t (j 0)) (block3_6 V c t (j 0)) (block3_7 V c t (j 0)) (block3_8 V c t (j 0))

/-- The result array 5 ends holding the tail tier's log-sum-exp. -/
theorem array3_14 : (dat3 V c).arrAt 14 cfg3.N = (fun i : S3072x1.Idx => (tierLse (V c main_v14_0) (V c main_v14_1) (i 0) : EReal)) := by
  have hN : cfg3.N = 6 := N_3
  have hx0 : ∀ t : Fin cfg3.N, win3_14.index t 0 = t.val := fun t => by
    have e := coord3 t
    have ht : t.val < 6 := lt_of_lt_of_eq t.isLt N_3
    show (BitVec.ofNat 32 (grid3.coords t 0).val).toNat = _
    rw [e, BitVec.toNat_ofNat]; omega
  refine (dat3 V c).arrAt_eq_of_cover 14 _ (fun t _ => ?_) fun i => ?_
  · show (cfg3.win 14).cut (grid3.coords t) ((dat3 V c).after 14 t) = _
    rw [after3_14]
    funext j
    have ei : ((((View.whole main_v15_4).slice (win3_14.rect t)).emb j 0 : Fin 3072)) = arow t (j 0) := by
      apply Fin.ext
      show win3_14.index t 0 * 512 + 1 * (j 0).val = 512 * t.val + (j 0).val
      rw [hx0]; omega
    rw [View.read_apply]
    exact (stage3_14 V c t j).trans (congrArg (fun r => (tierLse (V c main_v14_0) (V c main_v14_1) r : EReal)) ei.symm)
  · have h0 : (i 0 : Nat) < 3072 := (i 0).isLt
    have h1 : (i 1 : Nat) < 1 := (i 1).isLt
    obtain ⟨T, hT⟩ : ∃ T : Fin cfg3.N, T.val = (i 0 : Nat) / 512 := ⟨⟨(i 0 : Nat) / 512, by rw [hN]; omega⟩, rfl⟩
    refine ⟨T, flush3_14 _, ?_⟩
    show i ∈ ((View.whole main_v15_4).slice (win3_14.rect T)).set
    rw [View.set_slice_whole, Rect.mem_set_unit]
    intro a
    match a with
    | ⟨0, _⟩ =>
      show win3_14.index T 0 * 512 ≤ (i 0 : Nat) ∧ (i 0 : Nat) < win3_14.index T 0 * 512 + 512
      rw [hx0, hT]; omega
    | ⟨1, _⟩ => exact ⟨Nat.zero_le _, by show (i 1 : Nat) < 0 * 1 + 1; omega⟩

end

end Cert.Hand
-- ==== Proof.KernelValue.lean ====
module

public import proofs.«01_k».proof.Proof.Hosts
public import proofs.«01_k».proof.Proof.Combine

@[expose] public section

set_option maxRecDepth 16384

noncomputable section

namespace Cert.Hand

open Idealize.ShloMosaic Idealize.ShloMosaic.TcCoe Cert.KernelIdeal Cert.KernelIdeal.Gen Idealize.SL.Sem

/-! # What the kernel's five result arrays end holding, as functions of the arguments -/

theorem low_real : ∃ x : ℝ, low = (x : EReal) := by
  unfold low
  show ∃ x : ℝ, Ideal.ofBits .f32 0xFF7FFFFF#32 = (x : EReal)
  exact ⟨_, by simp [Ideal.ofBits, Ideal.ieee]; rfl⟩

theorem low_ne_bot : low ≠ ⊥ := by obtain ⟨x, e⟩ := low_real; rw [e]; exact EReal.coe_ne_bot x
theorem low_ne_top : low ≠ ⊤ := by obtain ⟨x, e⟩ := low_real; rw [e]; exact EReal.coe_ne_top x

/-- A tier's lanes brought together: the log-sum-exp of the tier's logits. -/
theorem tier_value (L : Fin 3072 → ℕ → EReal) (n N : ℕ) (hN : 512 * n = N) (r : Fin 3072) :
    tierLse (mLane L n) (lLane L n) r = lse (Finset.range N) (L r) := by
  subst hN
  exact tier_lse low low_ne_bot low_ne_top (L r) n (rowTop (row (mLane L n) r)) (fun c => le_rowTop (row (mLane L n) r) c)
    (fun z h => rowTop_le (row (mLane L n) r) z h)

/-- A tier's lanes of target logits added: the target's logit where the target is in the tier, else zero. -/
theorem target_value (L : Fin 3072 → ℕ → EReal) (n N : ℕ) (hN : 512 * n = N) (g : S3072x128.Idx → BitVec 32) (b : BitVec 32)
    (r : Fin 3072) (hg : ∀ k : Fin 128, g (ix2 r k) = b) :
    (∑ k : Fin 128, row (n := 3072) (tLane L n g) r k) = if b.toNat < N then L r b.toNat else 0 := by
  subst hN
  rw [← sum_tAt (L r) b.toNat n]
  refine Finset.sum_congr rfl fun k _ => ?_
  show tAt (L r) (g (ix2 r k)).toNat k.val n = _
  rw [hg]

section
variable (m : (ℓ : Loc nD τ sig) → Buf (Elt Ideal) ℓ) (ρ : Dev nD → PrngReg) (c : Dev nD)

/-- The head logits of the arguments. -/
def headOf : Fin 3072 → ℕ → EReal :=
  headAt (m ((c : Thread nD τ).loc main_arg0) : Vec Ideal S6x512x2560 .bf16) (m ((c : Thread nD τ).loc main_arg1) : Vec Ideal S8192x2560 .fp8e4m3)
    (m ((c : Thread nD τ).loc main_arg2) : Vec Ideal S8192 .f32)
/-- The middle tier's logits of the arguments. -/
def midOf : Fin 3072 → ℕ → EReal :=
  midAt (m ((c : Thread nD τ).loc main_arg0) : Vec Ideal S6x512x2560 .bf16) (m ((c : Thread nD τ).loc main_arg3) : Vec Ideal S24576x2560 .i8)
    (m ((c : Thread nD τ).loc main_arg4) : Vec Ideal S24576 .f32)
/-- The tail logits of the arguments. -/
def tailOf : Fin 3072 → ℕ → EReal :=
  tailAt (m ((c : Thread nD τ).loc main_arg0) : Vec Ideal S6x512x2560 .bf16) (m ((c : Thread nD τ).loc main_arg5) : Vec Ideal S69632x1280 .i8)
    (m ((c : Thread nD τ).loc main_arg6) : Vec Ideal S69632x20 .bf16)
/-- The target of row `r`. -/
def targetOf (r : Fin 3072) : BitVec 32 := (m ((c : Thread nD τ).loc main_arg7) : Vec Ideal S6x512 .i32) (ix2 (bat r) (pos r))

/-! ## The regions' operands -/

theorem in_x1 (r : Fin 3072) (k : Fin 2560) : (V1 m ρ c main_v0 : Vec Ideal S3072x2560 .bf16) (ix2 r k)
    = (m ((c : Thread nD τ).loc main_arg0) : Vec Ideal S6x512x2560 .bf16) (ix3 (bat r) (pos r) k) :=
  (congrFun (after0_v0 (W0 m ρ c)) (ix2 r k)).trans (rows_at _ r k)
theorem in_p1 (r : Fin 3072) (k : Fin 2560) : (V1 m ρ c main_v3 : Vec Ideal S3072x2560 .bf16) (ix2 r k)
    = (m ((c : Thread nD τ).loc main_arg0) : Vec Ideal S6x512x2560 .bf16) (ix3 (bat r) (pos r) (feature k)) :=
  (congrFun (after0_v3 (W0 m ρ c)) (ix2 r k)).trans ((packed_at _ r k).trans (rows_at _ r (feature k)))
theorem in_g1 (r : Fin 3072) (l : Fin 128) : (V1 m ρ c main_v5 : Vec Ideal S3072x128 .i32) (ix2 r l) = targetOf m c r :=
  (congrFun (after0_v5 (W0 m ρ c)) (ix2 r l)).trans (targets_at _ r l)
theorem in_s1 (v : Fin 8192) : (V1 m ρ c main_v6 : Vec Ideal S16x1x512 .f32) (ix3 (⟨v.val / 512, by omega⟩ : Fin 16) (0 : Fin 1) (⟨v.val % 512, by omega⟩ : Fin 512))
    = (m ((c : Thread nD τ).loc main_arg2) : Vec Ideal S8192 .f32) (ix1 v) :=
  (congrFun (after0_v6 (W0 m ρ c)) _).trans (scale16_at _ v)

theorem in_g2 (r : Fin 3072) (l : Fin 128) : (W2 m ρ c (Proc.devRef .tc main_v5) : Vec Ideal S3072x128 .i32) (ix2 r l) = targetOf m c r :=
  (congrFun (W2_of m ρ c main_v5 (by decide)) (ix2 r l)).trans (in_g1 m ρ c r l)
theorem in_x3 (r : Fin 3072) (k : Fin 2560) : (V3 m ρ c main_v0 : Vec Ideal S3072x2560 .bf16) (ix2 r k)
    = (m ((c : Thread nD τ).loc main_arg0) : Vec Ideal S6x512x2560 .bf16) (ix3 (bat r) (pos r) k) :=
  (congrFun ((W3_of m ρ c main_v0 (by decide)).trans (W2_of m ρ c main_v0 (by decide))) (ix2 r k)).trans (in_x1 m ρ c r k)
theorem in_g3 (r : Fin 3072) (l : Fin 128) : (V3 m ρ c main_v9 : Vec Ideal S3072x128 .i32) (ix2 r l) = targetOf m c r - 8192#32 :=
  (congrFun (after1_v9 (W2 m ρ c)) (ix2 r l)).trans ((offset_at _ _ _).trans (congrArg (fun b : BitVec 32 => b - 8192#32) (in_g2 m ρ c r l)))
theorem in_s3 (v : Fin 24576) : (V3 m ρ c main_v10 : Vec Ideal S48x1x512 .f32) (ix3 (⟨v.val / 512, by omega⟩ : Fin 48) (0 : Fin 1) (⟨v.val % 512, by omega⟩ : Fin 512))
    = (m ((c : Thread nD τ).loc main_arg4) : Vec Ideal S24576 .f32) (ix1 v) :=
  (congrFun (after1_v10 (W2 m ρ c)) _).trans ((scale48_at _ v).trans (congrFun (W2_args m ρ c main_arg4 (by decide)) (ix1 v)))

theorem in_g4 (r : Fin 3072) (l : Fin 128) : (W4 m ρ c (Proc.devRef .tc main_v5) : Vec Ideal S3072x128 .i32) (ix2 r l) = targetOf m c r :=
  (congrFun ((W4_of m ρ c main_v5 (by decide)).trans (W3_of m ρ c main_v5 (by decide))) (ix2 r l)).trans (in_g2 m ρ c r l)
theorem in_p5 (r : Fin 3072) (k : Fin 2560) : (V5 m ρ c main_v3 : Vec Ideal S3072x2560 .bf16) (ix2 r k)
    = (m ((c : Thread nD τ).loc main_arg0) : Vec Ideal S6x512x2560 .bf16) (ix3 (bat r) (pos r) (feature k)) :=
  (congrFun ((W5_of m ρ c main_v3 (by decide)).trans ((W4_of m ρ c main_v3 (by decide)).trans ((W3_of m ρ c main_v3 (by decide)).trans
    (W2_of m ρ c main_v3 (by decide))))) (ix2 r k)).trans (in_p1 m ρ c r k)
theorem in_g5 (r : Fin 3072) (l : Fin 128) : (V5 m ρ c main_v13 : Vec Ideal S3072x128 .i32) (ix2 r l) = targetOf m c r - 32768#32 :=
  (congrFun (after2_v13 (W4 m ρ c)) (ix2 r l)).trans ((offset_at _ _ _).trans (congrArg (fun b : BitVec 32 => b - 32768#32) (in_g4 m ρ c r l)))

/-! ## The tiers' logits -/

theorem head_in : headLogit (V1 m ρ c main_v0) (V1 m ρ c main_arg1) (V1 m ρ c main_v6) = headOf m c :=
  (congrArg (fun w => headLogit (V1 m ρ c main_v0) w (V1 m ρ c main_v6)) (W1_args m ρ c main_arg1 (by decide))).trans
    (headLogit_eq _ _ _ _ _ (in_x1 m ρ c) (in_s1 m ρ c))
theorem mid_in : midLogit (V3 m ρ c main_v0) (V3 m ρ c main_arg3) (V3 m ρ c main_v10) = midOf m c :=
  (congrArg (fun w => midLogit (V3 m ρ c main_v0) w (V3 m ρ c main_v10)) (W3_args m ρ c main_arg3 (by decide))).trans
    (midLogit_eq _ _ _ _ _ (in_x3 m ρ c) (in_s3 m ρ c))
theorem tail_in : tailLogit (V5 m ρ c main_v3) (V5 m ρ c main_arg5) (V5 m ρ c main_arg6) = tailOf m c :=
  ((congrArg (fun w => tailLogit (V5 m ρ c main_v3) w (V5 m ρ c main_arg6)) (W5_args m ρ c main_arg5 (by decide))).trans
    (congrArg (fun s => tailLogit (V5 m ρ c main_v3) _ s) (W5_args m ρ c main_arg6 (by decide)))).trans (tailLogit_eq _ _ _ _ (in_p5 m ρ c))

/-! ## What reaches the last region -/

theorem last_m0 : V6 m ρ c main_v7_0 = mLane (headOf m c) 16 :=
  ((W6_of m ρ c main_v7_0 (by decide)).trans ((W5_of m ρ c main_v7_0 (by decide)).trans ((W4_of m ρ c main_v7_0 (by decide)).trans
    (W3_of m ρ c main_v7_0 (by decide))))).trans ((W2_arr m ρ c 4).trans ((array0_4 (V1 m ρ) c).trans (congrArg (fun L => mLane L 16) (head_in m ρ c))))
theorem last_l0 : V6 m ρ c main_v7_1 = lLane (headOf m c) 16 :=
  ((W6_of m ρ c main_v7_1 (by decide)).trans ((W5_of m ρ c main_v7_1 (by decide)).trans ((W4_of m ρ c main_v7_1 (by decide)).trans
    (W3_of m ρ c main_v7_1 (by decide))))).trans ((W2_arr m ρ c 5).trans ((array0_5 (V1 m ρ) c).trans (congrArg (fun L => lLane L 16) (head_in m ρ c))))
theorem last_t0 : V6 m ρ c main_v7_2 = tLane (headOf m c) 16 (V1 m ρ c main_v5) :=
  ((W6_of m ρ c main_v7_2 (by decide)).trans ((W5_of m ρ c main_v7_2 (by decide)).trans ((W4_of m ρ c main_v7_2 (by decide)).trans
    (W3_of m ρ c main_v7_2 (by decide))))).trans ((W2_arr m ρ c 6).trans ((array0_6 (V1 m ρ) c).trans
      (congrArg (fun L => tLane L 16 (V1 m ρ c main_v5)) (head_in m ρ c))))
theorem last_m1 : V6 m ρ c main_v11_0 = mLane (midOf m c) 48 :=
  ((W6_of m ρ c main_v11_0 (by decide)).trans (W5_of m ρ c main_v11_0 (by decide))).trans ((W4_arr m ρ c 4).trans ((array1_4 (V3 m ρ) c).trans
    (congrArg (fun L => mLane L 48) (mid_in m ρ c))))
theorem last_l1 : V6 m ρ c main_v11_1 = lLane (midOf m c) 48 :=
  ((W6_of m ρ c main_v11_1 (by decide)).trans (W5_of m ρ c main_v11_1 (by decide))).trans ((W4_arr m ρ c 5).trans ((array1_5 (V3 m ρ) c).trans
    (congrArg (fun L => lLane L 48) (mid_in m ρ c))))
theorem last_t1 : V6 m ρ c main_v11_2 = tLane (midOf m c) 48 (V3 m ρ c main_v9) :=
  ((W6_of m ρ c main_v11_2 (by decide)).trans (W5_of m ρ c main_v11_2 (by decide))).trans ((W4_arr m ρ c 6).trans ((array1_6 (V3 m ρ) c).trans
    (congrArg (fun L => tLane L 48 (V3 m ρ c main_v9)) (mid_in m ρ c))))
theorem last_m2 : V6 m ρ c main_v14_0 = mLane (tailOf m c) 136 :=
  (W6_arr m ρ c 4).trans ((array2_4 (V5 m ρ) c).trans (congrArg (fun L => mLane L 136) (tail_in m ρ c)))
theorem last_l2 : V6 m ρ c main_v14_1 = lLane (tailOf m c) 136 :=
  (W6_arr m ρ c 5).trans ((array2_5 (V5 m ρ) c).trans (congrArg (fun L => lLane L 136) (tail_in m ρ c)))
theorem last_t2 : V6 m ρ c main_v14_2 = tLane (tailOf m c) 136 (V5 m ρ c main_v13) :=
  (W6_arr m ρ c 6).trans ((array2_6 (V5 m ρ) c).trans (congrArg (fun L => tLane L 136 (V5 m ρ c main_v13)) (tail_in m ρ c)))

/-! ## The results -/

/-- The head's log-sum-exp of row `r`. -/
def headLse (r : Fin 3072) : EReal := lse (Finset.range 8192) (headOf m c r)
/-- The middle tier's. -/
def midLse (r : Fin 3072) : EReal := lse (Finset.range 24576) (midOf m c r)
/-- The tail's. -/
def tailLse (r : Fin 3072) : EReal := lse (Finset.range 69632) (tailOf m c r)
/-- The whole vocabulary's. -/
def wholeLse (r : Fin 3072) : EReal := lse3 (headLse m c r) (midLse m c r) (tailLse m c r)
/-- The target's logit: each tier gives it where the target lies in the tier, else zero. -/
def targetLogit (r : Fin 3072) : EReal :=
  (if (targetOf m c r).toNat < 8192 then headOf m c r (targetOf m c r).toNat else 0)
  + (if (targetOf m c r - 8192#32).toNat < 24576 then midOf m c r (targetOf m c r - 8192#32).toNat else 0)
  + (if (targetOf m c r - 32768#32).toNat < 69632 then tailOf m c r (targetOf m c r - 32768#32).toNat else 0)

theorem tier_head (r : Fin 3072) : tierLse (V6 m ρ c main_v7_0) (V6 m ρ c main_v7_1) r = headLse m c r := by
  rw [last_m0, last_l0]; exact tier_value _ 16 8192 (by norm_num) r
theorem tier_mid (r : Fin 3072) : tierLse (V6 m ρ c main_v11_0) (V6 m ρ c main_v11_1) r = midLse m c r := by
  rw [last_m1, last_l1]; exact tier_value _ 48 24576 (by norm_num) r
theorem tier_tail (r : Fin 3072) : tierLse (V6 m ρ c main_v14_0) (V6 m ρ c main_v14_1) r = tailLse m c r := by
  rw [last_m2, last_l2]; exact tier_value _ 136 69632 (by norm_num) r

theorem all_lse (r : Fin 3072) : allLse (V6 m ρ) c r = wholeLse m c r := by
  unfold allLse
  rw [tier_head, tier_mid, tier_tail]
  exact lse3_eq (lse_ne_top _ _) (lse_ne_top _ _) (lse_ne_top _ _)

theorem all_target (r : Fin 3072) : allTarget (V6 m ρ) c r = targetLogit m c r := by
  unfold allTarget targetLogit
  rw [last_t0, last_t1, last_t2]
  exact congrArg₂ (fun a b : EReal => a + b)
    (congrArg₂ (fun a b : EReal => a + b)
      (target_value _ 16 8192 (by norm_num) _ _ r (in_g1 m ρ c r))
      (target_value _ 48 24576 (by norm_num) _ _ r (in_g3 m ρ c r)))
    (target_value _ 136 69632 (by norm_num) _ _ r (in_g5 m ρ c r))

/-- Result 1: the whole vocabulary's log-sum-exp. -/
theorem result_0 : W7 m ρ c (Proc.devRef .tc main_v15_0) = (fun i : S3072x1.Idx => (wholeLse m c (i 0) : EReal)) :=
  (W7_arr m ρ c 10).trans ((array3_10 (V6 m ρ) c).trans (funext fun i => all_lse m ρ c (i 0)))
/-- Result 2: the target's logit less the log-sum-exp. -/
theorem result_1 : W7 m ρ c (Proc.devRef .tc main_v15_1) = (fun i : S3072x1.Idx => (targetLogit m c (i 0) - wholeLse m c (i 0) : EReal)) :=
  (W7_arr m ρ c 11).trans ((array3_11 (V6 m ρ) c).trans (funext fun i =>
    congrArg₂ (fun a b : EReal => a - b) (all_target m ρ c (i 0)) (all_lse m ρ c (i 0))))
/-- Result 3: the head's log-sum-exp. -/
theorem result_2 : W7 m ρ c (Proc.devRef .tc main_v15_2) = (fun i : S3072x1.Idx => (headLse m c (i 0) : EReal)) :=
  (W7_arr m ρ c 12).trans ((array3_12 (V6 m ρ) c).trans (funext fun i => tier_head m ρ c (i 0)))
/-- Result 4: the middle tier's log-sum-exp. -/
theorem result_3 : W7 m ρ c (Proc.devRef .tc main_v15_3) = (fun i : S3072x1.Idx => (midLse m c (i 0) : EReal)) :=
  (W7_arr m ρ c 13).trans ((array3_13 (V6 m ρ) c).trans (funext fun i => tier_mid m ρ c (i 0)))
/-- Result 5: the tail's log-sum-exp. -/
theorem result_4 : W7 m ρ c (Proc.devRef .tc main_v15_4) = (fun i : S3072x1.Idx => (tailLse m c (i 0) : EReal)) :=
  (W7_arr m ρ c 14).trans ((array3_14 (V6 m ρ) c).trans (funext fun i => tier_tail m ρ c (i 0)))

end

end Cert.Hand

end
-- ==== Proof.RefLogits.lean ====
module

public import proofs.«01_k».proof.Proof.Gen.ReferenceIdeal.Read
public import proofs.«01_k».proof.Proof.Logits

@[expose] public section

set_option maxRecDepth 16384

noncomputable section

namespace Cert.Hand

open Idealize.ShloMosaic Idealize.ShloMosaic.TcCoe Cert.ReferenceIdeal Cert.ReferenceIdeal.Gen Cert.ReferenceIdeal.Read

/-! # The reference's three logit arrays are the same functions of the arguments -/

/-- The reference's head logits. -/
theorem ref_head (x0 : Vec Ideal S6x512x2560 .bf16) (x1 : Vec Ideal S8192x2560 .fp8e4m3) (x2 : Vec Ideal S8192 .f32)
    (r0 : Vec Ideal S8192x2560 .bf16) (h0 : ∀ i, (r0 i : EReal) = x1 i) (r : Fin 3072) (v : Fin 8192) :
    (val_main_v4 (F := Ideal) x0 x2 r0 (ix3 (bat r) (pos r) v) : EReal) = headAt x0 x1 x2 r v.val := by
  unfold headAt
  rw [dif_pos v.isLt]
  refine congrArg₂ (fun a b : EReal => a * b) ?_ ?_
  · refine (val_main_v1_apply x0 r0 _).trans (Finset.sum_congr rfl fun k _ => congrArg₂ (fun a b : EReal => a * b) ?_ ?_)
    · exact congrArg x0 (funext fun a => match a with | ⟨0, _⟩ => rfl | ⟨1, _⟩ => rfl | ⟨2, _⟩ => rfl)
    · refine (h0 _).trans ?_
      exact congrArg x1 (funext fun a => match a with | ⟨0, _⟩ => rfl | ⟨1, _⟩ => rfl)
  · refine (val_main_v3_apply x2 _).trans ((val_main_v2_apply x2 _).trans ?_)
    exact congrArg x2 (funext fun a => match a with | ⟨0, _⟩ => rfl)

/-- A byte widened to 32 bits keeps its integer. -/
theorem widened_toInt : ∀ b : BitVec 8, (b.signExtend 32).toInt = b.toInt := by decide +kernel

/-- The reference's middle-tier logits. -/
theorem ref_mid (x0 : Vec Ideal S6x512x2560 .bf16) (x3 : Vec Ideal S24576x2560 .i8) (x4 : Vec Ideal S24576 .f32)
    (r : Fin 3072) (v : Fin 24576) :
    (val_main_v10 (F := Ideal) x0 x3 x4 (ix3 (bat r) (pos r) v) : EReal) = midAt x0 x3 x4 r v.val := by
  unfold midAt
  rw [dif_pos v.isLt]
  refine congrArg₂ (fun a b : EReal => a * b) ?_ ?_
  · refine (val_main_v7_apply x0 x3 _).trans (Finset.sum_congr rfl fun k _ => congrArg₂ (fun a b : EReal => a * b) ?_ ?_)
    · exact congrArg x0 (funext fun a => match a with | ⟨0, _⟩ => rfl | ⟨1, _⟩ => rfl | ⟨2, _⟩ => rfl)
    · refine Eq.trans (b := ofI ((x3 (ridx_main_v7 (ix3 (bat r) (pos r) v) k)).signExtend 32).toInt) rfl ?_
      rw [widened_toInt]
      exact congrArg (fun i => ofI (x3 i).toInt) (funext fun a => match a with | ⟨0, _⟩ => rfl | ⟨1, _⟩ => rfl)
  · refine (val_main_v9_apply x4 _).trans ((val_main_v8_apply x4 _).trans ?_)
    exact congrArg x4 (funext fun a => match a with | ⟨0, _⟩ => rfl)

/-! ## The tail's packed weights -/

theorem ref_lo_bits : ∀ b : BitVec 8, (Scalar.select (IntOp.cmpi .sge (IntOp.andi (b.setWidth 32) 15#32) 8#32)
    (IntOp.subi (IntOp.andi (b.setWidth 32) 15#32) 16#32) (IntOp.andi (b.setWidth 32) 15#32)).toInt = loI b := by
  unfold loI; decide +kernel
theorem ref_hi_bits : ∀ b : BitVec 8, (Scalar.select (IntOp.cmpi .sge (IntOp.shrsi .host (b.setWidth 32) 4#32) 8#32)
    (IntOp.subi (IntOp.shrsi .host (b.setWidth 32) 4#32) 16#32) (IntOp.shrsi .host (b.setWidth 32) 4#32)).toInt = hiI b := by
  unfold hiI; decide +kernel

theorem ref_lo (x5 : Vec Ideal S69632x1280 .i8) (i : S69632x1280.Idx) :
    (val_main_v19 (F := Ideal) x5 i : EReal) = ofI (loI (x5 i)) := by
  rw [val_main_v19_apply, val_main_v18_apply, val_main_v15_apply, val_main_v17_apply, val_main_v13_apply, val_main_v11_apply,
    val_main_v12_apply, val_main_v14_apply, val_main_v16_apply]
  exact congrArg ofI (ref_lo_bits (x5 i))
theorem ref_hi (x5 : Vec Ideal S69632x1280 .i8) (i : S69632x1280.Idx) :
    (val_main_v32 (F := Ideal) x5 i : EReal) = ofI (hiI (x5 i)) := by
  rw [val_main_v32_apply, val_main_v31_apply, val_main_v28_apply, val_main_v30_apply, val_main_v26_apply, val_main_v11_apply,
    val_main_v25_apply, val_main_v27_apply, val_main_v29_apply]
  exact congrArg ofI (ref_hi_bits (x5 i))

/-- Splitting a row of 1280 into 20 groups of 64 and joining it again changes nothing. -/
theorem regroup_lo (i : S69632x1280.Idx) : idx_main_v20 (idx_main_v24 i) = i := by
  have h0 : (i 0).val < 69632 := (i 0).isLt
  have h1 : (i 1).val < 1280 := (i 1).isLt
  funext a
  match a with
  | ⟨0, _⟩ =>
    refine Fin.ext ?_
    show ((((i 0).val * 1280 + (i 1).val) / 1280 * 20 + ((i 0).val * 1280 + (i 1).val) / 64 % 20) * 64 + ((i 0).val * 1280 + (i 1).val) % 64) / 1280 = (i 0).val
    omega
  | ⟨1, _⟩ =>
    refine Fin.ext ?_
    show ((((i 0).val * 1280 + (i 1).val) / 1280 * 20 + ((i 0).val * 1280 + (i 1).val) / 64 % 20) * 64 + ((i 0).val * 1280 + (i 1).val) % 64) % 1280 = (i 1).val
    omega

/-- The group of a column. -/
theorem group_lo (v : Fin 69632) (c : Fin 1280) :
    idx_main_v21 (idx_main_v22 (idx_main_v24 (ix2 v c))) = ix2 v (⟨c.val / 64, by omega⟩ : Fin 20) := by
  funext a
  match a with
  | ⟨0, _⟩ => refine Fin.ext ?_; show (v.val * 1280 + c.val) / 1280 = v.val; omega
  | ⟨1, _⟩ => refine Fin.ext ?_; show (v.val * 1280 + c.val) / 64 % 20 = c.val / 64; omega

/-- The reference's scaled low weights. -/
theorem ref_low_field (x5 : Vec Ideal S69632x1280 .i8) (x6 : Vec Ideal S69632x20 .bf16) (v : Fin 69632) (c : Fin 1280) :
    (val_main_v24 (F := Ideal) x5 x6 (ix2 v c) : EReal)
      = ofI (loI (x5 (ix2 v c))) * x6 (ix2 v (⟨c.val / 64, by omega⟩ : Fin 20)) := by
  refine (val_main_v24_apply x5 x6 _).trans (congrArg₂ (fun a b : EReal => a * b) ?_ ?_)
  · refine (val_main_v20_apply x5 _).trans ((ref_lo x5 _).trans ?_)
    exact congrArg (fun i => ofI (loI (x5 i))) (regroup_lo _)
  · refine (val_main_v22_apply x6 _).trans ((val_main_v21_apply x6 _).trans ?_)
    exact congrArg x6 (group_lo v c)
/-- The reference's scaled high weights. -/
theorem ref_high_field (x5 : Vec Ideal S69632x1280 .i8) (x6 : Vec Ideal S69632x20 .bf16) (v : Fin 69632) (c : Fin 1280) :
    (val_main_v37 (F := Ideal) x5 x6 (ix2 v c) : EReal)
      = ofI (hiI (x5 (ix2 v c))) * x6 (ix2 v (⟨c.val / 64, by omega⟩ : Fin 20)) := by
  refine (val_main_v37_apply x5 x6 _).trans (congrArg₂ (fun a b : EReal => a * b) ?_ ?_)
  · refine (val_main_v33_apply x5 _).trans ((ref_hi x5 _).trans ?_)
    exact congrArg (fun i => ofI (hiI (x5 i))) (regroup_lo _)
  · refine (val_main_v35_apply x6 _).trans ((val_main_v34_apply x6 _).trans ?_)
    exact congrArg x6 (group_lo v c)

/-- The reference's tail logits. -/
theorem ref_tail (x0 : Vec Ideal S6x512x2560 .bf16) (x5 : Vec Ideal S69632x1280 .i8) (x6 : Vec Ideal S69632x20 .bf16)
    (r : Fin 3072) (v : Fin 69632) :
    (val_main_v42 (F := Ideal) x0 x5 x6 (ix3 (bat r) (pos r) v) : EReal) = tailAt x0 x5 x6 r v.val := by
  unfold tailAt
  rw [dif_pos v.isLt]
  refine congrArg₂ (fun a b : EReal => a + b) ?_ ?_
  · refine (val_main_v39_apply x0 x5 x6 _).trans (Finset.sum_congr rfl fun c _ => congrArg₂ (fun a b : EReal => a * b) ?_ ?_)
    · refine congrArg x0 (funext fun a => match a with
        | ⟨0, _⟩ => Fin.ext ?_ | ⟨1, _⟩ => Fin.ext ?_ | ⟨2, _⟩ => Fin.ext ?_)
      · show 0 + 1 * (bat r).val = (bat r).val; omega
      · show 0 + 1 * (pos r).val = (pos r).val; omega
      · show 0 + 2 * c.val = 2 * c.val; omega
    · refine Eq.trans (congrArg (val_main_v24 (F := Ideal) x5 x6) ?_) (ref_low_field x5 x6 v c)
      exact funext fun a => match a with | ⟨0, _⟩ => rfl | ⟨1, _⟩ => rfl
  · refine (val_main_v41_apply x0 x5 x6 _).trans (Finset.sum_congr rfl fun c _ => congrArg₂ (fun a b : EReal => a * b) ?_ ?_)
    · refine congrArg x0 (funext fun a => match a with
        | ⟨0, _⟩ => Fin.ext ?_ | ⟨1, _⟩ => Fin.ext ?_ | ⟨2, _⟩ => Fin.ext ?_)
      · show 0 + 1 * (bat r).val = (bat r).val; omega
      · show 0 + 1 * (pos r).val = (pos r).val; omega
      · show 1 + 2 * c.val = 2 * c.val + 1; omega
    · refine Eq.trans (congrArg (val_main_v37 (F := Ideal) x5 x6) ?_) (ref_high_field x5 x6 v c)
      exact funext fun a => match a with | ⟨0, _⟩ => rfl | ⟨1, _⟩ => rfl

end Cert.Hand

end
-- ==== Proof.RefLse.lean ====
module

public import proofs.«01_k».proof.Proof.RefLogits
public import proofs.«01_k».proof.Proof.Combine

@[expose] public section

set_option maxRecDepth 16384

noncomputable section

namespace Cert.Hand

open Idealize.ShloMosaic Idealize.ShloMosaic.TcCoe Cert.ReferenceIdeal Cert.ReferenceIdeal.Gen Cert.ReferenceIdeal.Read

/-! # The reference's log-sum-exps -/

/-- A maximum plus the logarithm of the exponentials relative to it is the log-sum-exp. -/
theorem rowTop_lse {n : ℕ} (f : Fin n → EReal) (v : ℕ → EReal) (hf : ∀ k, f k = v k.val) :
    rowTop f + Ideal.log (∑ k : Fin n, Ideal.exp (f k - rowTop f)) = lse (Finset.range n) v := by
  rw [← lse_eq (Finset.range n) v (rowTop f) (fun i hi => (hf ⟨i, Finset.mem_range.1 hi⟩).symm.trans_le (le_rowTop f ⟨i, Finset.mem_range.1 hi⟩))
    (fun e => by
      rcases (Finset.le_fold_max (⊤ : EReal)).1 (e.ge : (⊤ : EReal) ≤ rowTop f) with h | ⟨k, -, h⟩
      · exact absurd (le_bot_iff.1 h) top_ne_bot
      · exact ⟨k.val, Finset.mem_range.2 k.isLt, (hf k).symm.trans (top_le_iff.1 h)⟩)]
  refine congrArg (fun b : EReal => rowTop f + Ideal.log b) ?_
  rw [Finset.sum_range]
  exact Finset.sum_congr rfl fun k _ => congrArg (fun b : EReal => Ideal.exp (b - rowTop f)) (hf k)

theorem minus_inf : (FloatOps.ofBits (F := Ideal) .f32 0xFF800000#32 : EReal) = ⊥ := by
  show Ideal.ofBits .f32 0xFF800000#32 = ⊥
  simp [Ideal.ofBits, Ideal.ieee]

theorem add_log_of (a b a' b' : EReal) (ha : a = a') (hb : b = b') :
    (FloatOps.addf (F := Ideal) (φ := .f32) a (FloatOps.hostUnary (F := Ideal) (φ := .f32) .log b) : EReal) = a' + Ideal.log b' := by
  subst ha; subst hb; rfl
theorem exp_sub_of (a b b' : EReal) (hb : b = b') :
    (FloatOps.hostUnary (F := Ideal) (φ := .f32) .exp (FloatOps.subf (F := Ideal) (φ := .f32) a b) : EReal) = Ideal.exp (a - b') := by
  subst hb; rfl
theorem sum_of {n : ℕ} (z : EReal) (f g : Fin n → EReal) (hz : z = 0) (h : ∀ k, f k = g k) : z + ∑ k, f k = ∑ k, g k := by
  rw [hz, zero_add]; exact Finset.sum_congr rfl fun k _ => h k

/-- The stable sum of two log-sum-exps, as the reference's operations compute it. -/
def plusLog (a b : EReal) : EReal := max a b + Ideal.log1p (Ideal.exp (-(max (a - b) (-(a - b)))))

/-- A row's maximum over 8192 columns. -/
theorem ref_head_max (y : Vec Ideal S6x512x8192 .f32) (c : Vec Ideal S_ .f32) (hc : (c (Shape.Idx.first h_S_) : EReal) = ⊥) (b : Fin 6) (p : Fin 512) :
    (Host.reduce (FloatOps.maximumf (F := Ideal) (φ := .f32)) y c reducesTo_S6x512x8192_S6x512_d2 h_S_ (ix2 b p) : EReal)
      = rowTop fun k : Fin 8192 => y (ix3 b p k) := by
  refine (Host.reduce_eq_fold_single (FloatOps.maximumf (F := Ideal) (φ := .f32)) y c reducesTo_S6x512x8192_S6x512_d2 (by decide) h_S_ (ix2 b p)).trans ?_
  refine (congrArg (fun z : EReal => Finset.fold max z _ Finset.univ) hc).trans ?_
  unfold rowTop
  refine congrArg (fun f : Fin 8192 → EReal => Finset.fold max ⊥ f Finset.univ) (funext fun k => ?_)
  exact congrArg y (funext fun a => Fin.ext (by match a with | ⟨0, _⟩ => rfl | ⟨1, _⟩ => rfl | ⟨2, _⟩ => rfl))

/-- The head tier's log-sum-exp in the reference. -/
theorem ref_head_lse (x0 : Vec Ideal S6x512x2560 .bf16) (x1 : Vec Ideal S8192x2560 .fp8e4m3) (x2 : Vec Ideal S8192 .f32)
    (r0 : Vec Ideal S8192x2560 .bf16) (h0 : ∀ i, (r0 i : EReal) = x1 i) (r : Fin 3072) :
    (val_main_v51 (F := Ideal) x0 x2 r0 (ix2 (bat r) (pos r)) : EReal) = lse (Finset.range 8192) (headAt x0 x1 x2 r) := by
  have hmax : (val_main_v43 (F := Ideal) x0 x2 r0 (ix2 (bat r) (pos r)) : EReal)
      = rowTop fun k : Fin 8192 => val_main_v4 (F := Ideal) x0 x2 r0 (ix3 (bat r) (pos r) k) := by
    unfold val_main_v43
    generalize val_main_v4 (F := Ideal) x0 x2 r0 = y
    exact ref_head_max y _ ((val_main_cst_apply _).trans minus_inf) _ _
  have h1 : (val_main_v45 (F := Ideal) x0 x2 r0 (ix2 (bat r) (pos r)) : EReal)
      = rowTop fun k : Fin 8192 => val_main_v4 (F := Ideal) x0 x2 r0 (ix3 (bat r) (pos r) k) := by
    refine (val_main_v45_apply x0 x2 r0 _).trans ((val_main_v44_apply x0 x2 r0 _).trans (Eq.trans ?_ hmax))
    generalize val_main_v43 (F := Ideal) x0 x2 r0 = y
    refine congrArg y (funext fun a => match a with | ⟨0, _⟩ => Fin.ext ?_ | ⟨1, _⟩ => Fin.ext ?_)
    · have h0 := (bat r).isLt; have h1 := (pos r).isLt; show ((bat r).val * 512 + (pos r).val) / 512 = (bat r).val; omega
    · have h0 := (bat r).isLt; have h1 := (pos r).isLt; show ((bat r).val * 512 + (pos r).val) / 1 % 512 = (pos r).val; omega
  have h2 : ∀ k : Fin 8192, (val_main_v48 (F := Ideal) x0 x2 r0 (idx_main_v49 (ix2 (bat r) (pos r)) k) : EReal)
      = Ideal.exp (val_main_v4 (F := Ideal) x0 x2 r0 (ix3 (bat r) (pos r) k)
        - rowTop fun k : Fin 8192 => val_main_v4 (F := Ideal) x0 x2 r0 (ix3 (bat r) (pos r) k)) := by
    intro k
    have e : idx_main_v49 (ix2 (bat r) (pos r)) k = ix3 (bat r) (pos r) k :=
      funext fun a => match a with | ⟨0, _⟩ => rfl | ⟨1, _⟩ => rfl | ⟨2, _⟩ => rfl
    have h3 : (val_main_v46 (F := Ideal) x0 x2 r0 (ix3 (bat r) (pos r) k) : EReal)
        = rowTop fun k : Fin 8192 => val_main_v4 (F := Ideal) x0 x2 r0 (ix3 (bat r) (pos r) k) := by
      refine (val_main_v46_apply x0 x2 r0 _).trans ((val_main_v44_apply x0 x2 r0 _).trans (Eq.trans ?_ hmax))
      generalize val_main_v43 (F := Ideal) x0 x2 r0 = y
      exact congrArg y (funext fun a => match a with | ⟨0, _⟩ => rfl | ⟨1, _⟩ => rfl)
    rw [e, val_main_v48_apply, val_main_v47_apply]
    exact exp_sub_of _ _ _ h3
  rw [val_main_v51_apply, val_main_v50_apply]
  refine (add_log_of _ _ _ _ h1 ((val_main_v49_apply x0 x2 r0 _).trans (sum_of _ _ _ ((val_main_cst_5_apply _).trans Ideal.ofBits_zero_f32) h2))).trans ?_
  exact rowTop_lse (fun k : Fin 8192 => val_main_v4 (F := Ideal) x0 x2 r0 (ix3 (bat r) (pos r) k)) _ fun k => ref_head x0 x1 x2 r0 h0 r k

/-- A row's maximum over 24576 columns. -/
theorem ref_mid_max (y : Vec Ideal S6x512x24576 .f32) (c : Vec Ideal S_ .f32) (hc : (c (Shape.Idx.first h_S_) : EReal) = ⊥) (b : Fin 6) (p : Fin 512) :
    (Host.reduce (FloatOps.maximumf (F := Ideal) (φ := .f32)) y c reducesTo_S6x512x24576_S6x512_d2 h_S_ (ix2 b p) : EReal)
      = rowTop fun k : Fin 24576 => y (ix3 b p k) := by
  refine (Host.reduce_eq_fold_single (FloatOps.maximumf (F := Ideal) (φ := .f32)) y c reducesTo_S6x512x24576_S6x512_d2 (by decide) h_S_ (ix2 b p)).trans ?_
  refine (congrArg (fun z : EReal => Finset.fold max z _ Finset.univ) hc).trans ?_
  unfold rowTop
  refine congrArg (fun f : Fin 24576 → EReal => Finset.fold max ⊥ f Finset.univ) (funext fun k => ?_)
  exact congrArg y (funext fun a => Fin.ext (by match a with | ⟨0, _⟩ => rfl | ⟨1, _⟩ => rfl | ⟨2, _⟩ => rfl))

/-- The mid tier's log-sum-exp in the reference. -/
theorem ref_mid_lse (x0 : Vec Ideal S6x512x2560 .bf16) (x3 : Vec Ideal S24576x2560 .i8) (x4 : Vec Ideal S24576 .f32) (r : Fin 3072) :
    (val_main_v60 (F := Ideal) x0 x3 x4 (ix2 (bat r) (pos r)) : EReal) = lse (Finset.range 24576) (midAt x0 x3 x4 r) := by
  have hmax : (val_main_v52 (F := Ideal) x0 x3 x4 (ix2 (bat r) (pos r)) : EReal)
      = rowTop fun k : Fin 24576 => val_main_v10 (F := Ideal) x0 x3 x4 (ix3 (bat r) (pos r) k) := by
    unfold val_main_v52
    generalize val_main_v10 (F := Ideal) x0 x3 x4 = y
    exact ref_mid_max y _ ((val_main_cst_6_apply _).trans minus_inf) _ _
  have h1 : (val_main_v54 (F := Ideal) x0 x3 x4 (ix2 (bat r) (pos r)) : EReal)
      = rowTop fun k : Fin 24576 => val_main_v10 (F := Ideal) x0 x3 x4 (ix3 (bat r) (pos r) k) := by
    refine (val_main_v54_apply x0 x3 x4 _).trans ((val_main_v53_apply x0 x3 x4 _).trans (Eq.trans ?_ hmax))
    generalize val_main_v52 (F := Ideal) x0 x3 x4 = y
    refine congrArg y (funext fun a => match a with | ⟨0, _⟩ => Fin.ext ?_ | ⟨1, _⟩ => Fin.ext ?_)
    · have h0 := (bat r).isLt; have h1 := (pos r).isLt; show ((bat r).val * 512 + (pos r).val) / 512 = (bat r).val; omega
    · have h0 := (bat r).isLt; have h1 := (pos r).isLt; show ((bat r).val * 512 + (pos r).val) / 1 % 512 = (pos r).val; omega
  have h2 : ∀ k : Fin 24576, (val_main_v57 (F := Ideal) x0 x3 x4 (idx_main_v58 (ix2 (bat r) (pos r)) k) : EReal)
      = Ideal.exp (val_main_v10 (F := Ideal) x0 x3 x4 (ix3 (bat r) (pos r) k)
        - rowTop fun k : Fin 24576 => val_main_v10 (F := Ideal) x0 x3 x4 (ix3 (bat r) (pos r) k)) := by
    intro k
    have e : idx_main_v58 (ix2 (bat r) (pos r)) k = ix3 (bat r) (pos r) k :=
      funext fun a => match a with | ⟨0, _⟩ => rfl | ⟨1, _⟩ => rfl | ⟨2, _⟩ => rfl
    have h3 : (val_main_v55 (F := Ideal) x0 x3 x4 (ix3 (bat r) (pos r) k) : EReal)
        = rowTop fun k : Fin 24576 => val_main_v10 (F := Ideal) x0 x3 x4 (ix3 (bat r) (pos r) k) := by
      refine (val_main_v55_apply x0 x3 x4 _).trans ((val_main_v53_apply x0 x3 x4 _).trans (Eq.trans ?_ hmax))
      generalize val_main_v52 (F := Ideal) x0 x3 x4 = y
      exact congrArg y (funext fun a => match a with | ⟨0, _⟩ => rfl | ⟨1, _⟩ => rfl)
    rw [e, val_main_v57_apply, val_main_v56_apply]
    exact exp_sub_of _ _ _ h3
  rw [val_main_v60_apply, val_main_v59_apply]
  refine (add_log_of _ _ _ _ h1 ((val_main_v58_apply x0 x3 x4 _).trans (sum_of _ _ _ ((val_main_cst_7_apply _).trans Ideal.ofBits_zero_f32) h2))).trans ?_
  exact rowTop_lse (fun k : Fin 24576 => val_main_v10 (F := Ideal) x0 x3 x4 (ix3 (bat r) (pos r) k)) _ fun k => ref_mid x0 x3 x4 r k

/-- A row's maximum over 69632 columns. -/
theorem ref_tail_max (y : Vec Ideal S6x512x69632 .f32) (c : Vec Ideal S_ .f32) (hc : (c (Shape.Idx.first h_S_) : EReal) = ⊥) (b : Fin 6) (p : Fin 512) :
    (Host.reduce (FloatOps.maximumf (F := Ideal) (φ := .f32)) y c reducesTo_S6x512x69632_S6x512_d2 h_S_ (ix2 b p) : EReal)
      = rowTop fun k : Fin 69632 => y (ix3 b p k) := by
  refine (Host.reduce_eq_fold_single (FloatOps.maximumf (F := Ideal) (φ := .f32)) y c reducesTo_S6x512x69632_S6x512_d2 (by decide) h_S_ (ix2 b p)).trans ?_
  refine (congrArg (fun z : EReal => Finset.fold max z _ Finset.univ) hc).trans ?_
  unfold rowTop
  refine congrArg (fun f : Fin 69632 → EReal => Finset.fold max ⊥ f Finset.univ) (funext fun k => ?_)
  exact congrArg y (funext fun a => Fin.ext (by match a with | ⟨0, _⟩ => rfl | ⟨1, _⟩ => rfl | ⟨2, _⟩ => rfl))

/-- The tail tier's log-sum-exp in the reference. -/
theorem ref_tail_lse (x0 : Vec Ideal S6x512x2560 .bf16) (x5 : Vec Ideal S69632x1280 .i8) (x6 : Vec Ideal S69632x20 .bf16) (r : Fin 3072) :
    (val_main_v69 (F := Ideal) x0 x5 x6 (ix2 (bat r) (pos r)) : EReal) = lse (Finset.range 69632) (tailAt x0 x5 x6 r) := by
  have hmax : (val_main_v61 (F := Ideal) x0 x5 x6 (ix2 (bat r) (pos r)) : EReal)
      = rowTop fun k : Fin 69632 => val_main_v42 (F := Ideal) x0 x5 x6 (ix3 (bat r) (pos r) k) := by
    unfold val_main_v61
    generalize val_main_v42 (F := Ideal) x0 x5 x6 = y
    exact ref_tail_max y _ ((val_main_cst_8_apply _).trans minus_inf) _ _
  have h1 : (val_main_v63 (F := Ideal) x0 x5 x6 (ix2 (bat r) (pos r)) : EReal)
      = rowTop fun k : Fin 69632 => val_main_v42 (F := Ideal) x0 x5 x6 (ix3 (bat r) (pos r) k) := by
    refine (val_main_v63_apply x0 x5 x6 _).trans ((val_main_v62_apply x0 x5 x6 _).trans (Eq.trans ?_ hmax))
    generalize val_main_v61 (F := Ideal) x0 x5 x6 = y
    refine congrArg y (funext fun a => match a with | ⟨0, _⟩ => Fin.ext ?_ | ⟨1, _⟩ => Fin.ext ?_)
    · have h0 := (bat r).isLt; have h1 := (pos r).isLt; show ((bat r).val * 512 + (pos r).val) / 512 = (bat r).val; omega
    · have h0 := (bat r).isLt; have h1 := (pos r).isLt; show ((bat r).val * 512 + (pos r).val) / 1 % 512 = (pos r).val; omega
  have h2 : ∀ k : Fin 69632, (val_main_v66 (F := Ideal) x0 x5 x6 (idx_main_v67 (ix2 (bat r) (pos r)) k) : EReal)
      = Ideal.exp (val_main_v42 (F := Ideal) x0 x5 x6 (ix3 (bat r) (pos r) k)
        - rowTop fun k : Fin 69632 => val_main_v42 (F := Ideal) x0 x5 x6 (ix3 (bat r) (pos r) k)) := by
    intro k
    have e : idx_main_v67 (ix2 (bat r) (pos r)) k = ix3 (bat r) (pos r) k :=
      funext fun a => match a with | ⟨0, _⟩ => rfl | ⟨1, _⟩ => rfl | ⟨2, _⟩ => rfl
    have h3 : (val_main_v64 (F := Ideal) x0 x5 x6 (ix3 (bat r) (pos r) k) : EReal)
        = rowTop fun k : Fin 69632 => val_main_v42 (F := Ideal) x0 x5 x6 (ix3 (bat r) (pos r) k) := by
      refine (val_main_v64_apply x0 x5 x6 _).trans ((val_main_v62_apply x0 x5 x6 _).trans (Eq.trans ?_ hmax))
      generalize val_main_v61 (F := Ideal) x0 x5 x6 = y
      exact congrArg y (funext fun a => match a with | ⟨0, _⟩ => rfl | ⟨1, _⟩ => rfl)
    rw [e, val_main_v66_apply, val_main_v65_apply]
    exact exp_sub_of _ _ _ h3
  rw [val_main_v69_apply, val_main_v68_apply]
  refine (add_log_of _ _ _ _ h1 ((val_main_v67_apply x0 x5 x6 _).trans (sum_of _ _ _ ((val_main_cst_9_apply _).trans Ideal.ofBits_zero_f32) h2))).trans ?_
  exact rowTop_lse (fun k : Fin 69632 => val_main_v42 (F := Ideal) x0 x5 x6 (ix3 (bat r) (pos r) k)) _ fun k => ref_tail x0 x5 x6 r k

/-- A number never differs from itself. -/
theorem une_self (a : EReal) : FloatOps.cmpf (F := Ideal) (φ := .f32) .une a a = 0#1 := by
  show Ideal.cmp .une a a = 0#1
  simp [Ideal.cmp]

/-- The operations of one stable sum, on any two numbers. -/
theorem plusLog_of (a b : EReal) (m : BitVec 1) (z : EReal) (hm : m = 0#1) :
    (Scalar.select m z (FloatOps.addf (F := Ideal) (φ := .f32) (FloatOps.maximumf (F := Ideal) (φ := .f32) a b)
      (FloatOps.hostUnary (F := Ideal) (φ := .f32) .log1p (FloatOps.hostUnary (F := Ideal) (φ := .f32) .exp
        (FloatOps.hostNegf (F := Ideal) (φ := .f32) (FloatOps.hostAbsf (F := Ideal) (φ := .f32) (FloatOps.subf (F := Ideal) (φ := .f32) a b)))))) : EReal)
      = plusLog a b := by
  subst hm; rfl

/-- The reference's first stable sum. -/
theorem ref_pair (x0 : Vec Ideal S6x512x2560 .bf16) (x2 : Vec Ideal S8192 .f32) (x3 : Vec Ideal S24576x2560 .i8) (x4 : Vec Ideal S24576 .f32)
    (r0 : Vec Ideal S8192x2560 .bf16) (i : S6x512.Idx) :
    (val_main_v79 (F := Ideal) x0 x2 x3 x4 r0 i : EReal) = plusLog (val_main_v51 (F := Ideal) x0 x2 r0 i) (val_main_v60 (F := Ideal) x0 x3 x4 i) := by
  rw [val_main_v79_apply, val_main_v78_apply, val_main_v70_apply, val_main_v77_apply, val_main_v76_apply, val_main_v75_apply,
    val_main_v74_apply, val_main_v71_apply]
  exact plusLog_of _ _ _ _ ((val_main_v72_apply x0 x2 x3 x4 r0 i).trans (une_self _))

/-- The reference's second stable sum. -/
theorem ref_triple (x0 : Vec Ideal S6x512x2560 .bf16) (x2 : Vec Ideal S8192 .f32) (x3 : Vec Ideal S24576x2560 .i8) (x4 : Vec Ideal S24576 .f32)
    (x5 : Vec Ideal S69632x1280 .i8) (x6 : Vec Ideal S69632x20 .bf16) (r0 : Vec Ideal S8192x2560 .bf16) (i : S6x512.Idx) :
    (val_main_v89 (F := Ideal) x0 x2 x3 x4 x5 x6 r0 i : EReal)
      = plusLog (val_main_v79 (F := Ideal) x0 x2 x3 x4 r0 i) (val_main_v69 (F := Ideal) x0 x5 x6 i) := by
  rw [val_main_v89_apply, val_main_v88_apply, val_main_v80_apply, val_main_v87_apply, val_main_v86_apply, val_main_v85_apply,
    val_main_v84_apply, val_main_v81_apply]
  exact plusLog_of _ _ _ _ ((val_main_v82_apply x0 x2 x3 x4 x5 x6 r0 i).trans (une_self _))

/-- The reference's log-sum-exp over the whole vocabulary. -/
theorem ref_whole (x0 : Vec Ideal S6x512x2560 .bf16) (x1 : Vec Ideal S8192x2560 .fp8e4m3) (x2 : Vec Ideal S8192 .f32)
    (x3 : Vec Ideal S24576x2560 .i8) (x4 : Vec Ideal S24576 .f32) (x5 : Vec Ideal S69632x1280 .i8) (x6 : Vec Ideal S69632x20 .bf16)
    (r0 : Vec Ideal S8192x2560 .bf16) (h0 : ∀ i, (r0 i : EReal) = x1 i) (r : Fin 3072) :
    (val_main_v89 (F := Ideal) x0 x2 x3 x4 x5 x6 r0 (ix2 (bat r) (pos r)) : EReal)
      = lse3 (lse (Finset.range 8192) (headAt x0 x1 x2 r)) (lse (Finset.range 24576) (midAt x0 x3 x4 r)) (lse (Finset.range 69632) (tailAt x0 x5 x6 r)) := by
  refine (ref_triple x0 x2 x3 x4 x5 x6 r0 _).trans (Eq.trans ?_ (logaddexp_logaddexp (lse_ne_top _ _) (lse_ne_top _ _) (lse_ne_top _ _)))
  refine congrArg₂ plusLog ((ref_pair x0 x2 x3 x4 r0 _).trans ?_) (ref_tail_lse x0 x5 x6 r)
  exact congrArg₂ plusLog (ref_head_lse x0 x1 x2 r0 h0 r) (ref_mid_lse x0 x3 x4 r)

end Cert.Hand

end
-- ==== Proof.RefTarget.lean ====
module

public import proofs.«01_k».proof.Proof.RefLogits
public import Idealize.ShloMosaic.Lib.ReduceAll

@[expose] public section

set_option maxRecDepth 16384

noncomputable section

namespace Cert.Hand

open Idealize.ShloMosaic Idealize.ShloMosaic.TcCoe Cert.ReferenceIdeal Cert.ReferenceIdeal.Gen Cert.ReferenceIdeal.Read

/-! # The reference's target logit -/

/-! ## A gather along the last axis -/

/-- The gather's dimension numbers: the two leading axes are batching axes, one element is taken along the last axis. -/
abbrev lastAxisDims (N : ℕ) (wf : GatherDims.WF ⟨3, ![6, 512, N]⟩ ⟨4, ![6, 512, 1, 1]⟩ ⟨3, ![6, 512, 1]⟩ [] [2] [0, 1] [2] [0, 1] 3 ![1, 1, 1]) :
    GatherDims ⟨3, ![6, 512, N]⟩ ⟨4, ![6, 512, 1, 1]⟩ ⟨3, ![6, 512, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The gather reads its operand at the index's number, as a signed number clamped to the axis. -/
theorem gather_last {α : Type} {N : ℕ} (hN : 0 < N)
    (wf : GatherDims.WF ⟨3, ![6, 512, N]⟩ ⟨4, ![6, 512, 1, 1]⟩ ⟨3, ![6, 512, 1]⟩ [] [2] [0, 1] [2] [0, 1] 3 ![1, 1, 1])
    (x : (⟨3, ![6, 512, N]⟩ : Shape).Idx → α) (idx : IVec ⟨4, ![6, 512, 1, 1]⟩ 32) (b : Fin 6) (p : Fin 512) :
    Host.gather (lastAxisDims N wf) x idx (ix3 b p (0 : Fin 1))
      = x (ix3 b p (⟨min (idx (ix4 b p (0 : Fin 1) (0 : Fin 1))).toInt.toNat (N - 1), by omega⟩ : Fin N)) := by
  unfold Host.gather
  congr 1
  funext a
  refine Fin.ext ?_
  show (lastAxisDims N wf).start (ix3 b p (0 : Fin 1)) idx a + (lastAxisDims N wf).batchCoord (ix3 b p (0 : Fin 1)) a
      + (lastAxisDims N wf).offCoord (ix3 b p (0 : Fin 1)) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  have m0 : (0 : Fin 3) ∈ [(0 : Fin 3), 1] := by decide
  have m1 : (1 : Fin 3) ∈ [(0 : Fin 3), 1] := by decide
  rcases h012 with rfl | rfl | rfl
  · rw [GatherDims.start_batching _ _ _ _ m0,
      GatherDims.offCoord_eq_zero _ _ _ (fun h => ((GatherDims.mem_sKept _ _).mp h).2 m0)]
    simp only [Nat.zero_add, Nat.add_zero]
    unfold GatherDims.batchCoord
    rw [dif_pos m0]
    rfl
  · rw [GatherDims.start_batching _ _ _ _ m1,
      GatherDims.offCoord_eq_zero _ _ _ (fun h => ((GatherDims.mem_sKept _ _).mp h).2 m1)]
    simp only [Nat.zero_add, Nat.add_zero]
    unfold GatherDims.batchCoord
    rw [dif_pos m1]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastAxisDims N wf).startIndexMap from List.mem_singleton.mpr rfl)]
    have hsi : (lastAxisDims N wf).siIdx (ix3 b p (0 : Fin 1)) ⟨List.idxOf (2 : Fin 3) (lastAxisDims N wf).startIndexMap,
        List.idxOf_lt_length_iff.2 (List.mem_singleton.mpr rfl)⟩ = ix4 b p (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl

/-! ## Clipped targets -/

/-- A number clipped to `[0, K]`. -/
def clip (K g : BitVec 32) : BitVec 32 := IntOp.minsi K (IntOp.maxsi 0#32 g)

theorem clip_spec (K g : BitVec 32) (hK : 0 ≤ K.toInt) :
    0 ≤ (clip K g).toInt ∧ (clip K g).toInt ≤ K.toInt ∧ (0 ≤ g.toInt → g.toInt ≤ K.toInt → clip K g = g) := by
  have h0 : (0#32).toInt = 0 := rfl
  unfold clip IntOp.minsi IntOp.maxsi
  simp only [BitVec.slt_eq_decide, decide_eq_true_eq]
  by_cases h1 : g.toInt < (0#32).toInt
  · rw [if_pos h1]
    by_cases h2 : K.toInt < (0#32).toInt
    · omega
    · rw [if_neg h2]; exact ⟨by omega, by omega, fun h => by omega⟩
  · rw [if_neg h1]
    by_cases h2 : K.toInt < g.toInt
    · rw [if_pos h2]; exact ⟨hK, le_rfl, fun _ h => by omega⟩
    · rw [if_neg h2]; exact ⟨by omega, by omega, fun _ _ => rfl⟩

theorem select_one {α : Type} (a b : α) (c : BitVec 1) (h : c = 1#1) : Scalar.select c a b = a := by subst h; rfl
theorem select_zero {α : Type} (a b : α) (c : BitVec 1) (h : c = 0#1) : Scalar.select c a b = b := by subst h; rfl

theorem lt_one (g K : BitVec 32) (h : g.toInt < K.toInt) : IntOp.cmpi .slt g K = 1#1 := by
  unfold IntOp.cmpi; simp only [BitVec.slt_eq_decide]; rw [decide_eq_true h]; rfl
theorem lt_zero (g K : BitVec 32) (h : ¬ g.toInt < K.toInt) : IntOp.cmpi .slt g K = 0#1 := by
  unfold IntOp.cmpi; simp only [BitVec.slt_eq_decide]; rw [decide_eq_false h]; rfl

/-- A clipped number is not moved by the step that counts negative numbers from the end. -/
theorem wrap_clip (K g z : BitVec 32) (hK : 0 ≤ K.toInt) :
    Scalar.select (IntOp.cmpi .slt (clip K g) 0#32) z (clip K g) = clip K g := by
  have h := (clip_spec K g hK).1
  have h0 : (0#32).toInt = 0 := rfl
  exact select_zero _ _ _ (lt_zero _ _ (by omega))

/-- A clipped number passes the check that it lies on the axis. -/
theorem mask_clip (K g : BitVec 32) (hK : 0 ≤ K.toInt) :
    IntOp.andi (IntOp.cmpi .sge (clip K g) 0#32) (IntOp.cmpi .sle (clip K g) K) = 1#1 := by
  have h := clip_spec K g hK
  have h0 : (0#32).toInt = 0 := rfl
  unfold IntOp.andi IntOp.cmpi
  simp only [BitVec.sle_eq_decide]
  rw [decide_eq_true (by omega), decide_eq_true (by omega)]
  rfl

/-! ## The head tier's column -/

theorem head_clip (x7 : IVec S6x512 32) (i : S6x512.Idx) : (val_main_v90 (F := Ideal) x7 i : BitVec 32) = clip 8191#32 (x7 i) := by
  rw [val_main_v90_apply, val_main_call2_v4_apply, val_main_call2_v3_apply, val_main_c_11_apply, val_main_call2_v2_apply,
    val_main_call2_v1_apply, val_main_call2_v0_apply, val_main_c_10_apply,]
  rfl

theorem head_wrap (x7 : IVec S6x512 32) (j : S6x512x1.Idx) :
    (val_main_call3_v4 (F := Ideal) x7 j : BitVec 32) = val_main_v90 (F := Ideal) x7 (idx_main_v91 j) := by
  rw [val_main_call3_v4_apply, val_main_call3_v1_apply, val_main_call3_v0_apply, val_main_call3_c_apply, val_main_v91_apply, head_clip]
  exact wrap_clip _ _ _ (by decide)

theorem head_mask (x7 : IVec S6x512 32) (j : S6x512x1.Idx) : (val_main_call3_v12 (F := Ideal) x7 j : BitVec 1) = 1#1 := by
  unfold val_main_call3_v12
  refine Host.reduce_andi_one _ _ _ _ _ (val_main_call3_c_3_apply _) fun i => ?_
  rw [val_main_call3_v11_apply, val_main_call3_v7_apply, val_main_call3_v10_apply, val_main_call3_v6_apply, val_main_call3_c_2_apply, val_main_call3_v9_apply, val_main_call3_v8_apply,
    val_main_call3_c_1_apply, val_main_call3_v5_apply, head_wrap, head_clip]
  exact mask_clip _ _ (by decide)

theorem head_column (x7 : IVec S6x512 32) (b : Fin 6) (p : Fin 512) :
    (val_main_call3_v5 (F := Ideal) x7 (ix4 b p (0 : Fin 1) (0 : Fin 1)) : BitVec 32) = clip 8191#32 (x7 (ix2 b p)) := by
  rw [val_main_call3_v5_apply, head_wrap, head_clip]
  have e : idx_main_v91 (idx_main_call3_v5 (ix4 b p (0 : Fin 1) (0 : Fin 1))) = ix2 b p := by
    funext a
    match a with
    | ⟨0, _⟩ => refine Fin.ext ?_; show (((b.val * 512 + p.val) * 1 + 0) * 1 + 0) / 512 = b.val; omega
    | ⟨1, _⟩ => refine Fin.ext ?_; show (((b.val * 512 + p.val) * 1 + 0) * 1 + 0) / 1 % 512 = p.val; omega
  rw [e]

/-- The logit the reference picks in the head tier when the target lies there. -/
theorem head_pick (x0 : Vec Ideal S6x512x2560 .bf16) (x2 : Vec Ideal S8192 .f32)
    (r0 : Vec Ideal S8192x2560 .bf16) (x7 : IVec S6x512 32) (b : Fin 6) (p : Fin 512) (g : ℕ) (hg : (x7 (ix2 b p)).toInt = g) (hN : g < 8192) :
    (val_main_v93 (F := Ideal) x0 x2 x7 r0 (ix2 b p) : EReal) = val_main_v4 (F := Ideal) x0 x2 r0 (ix3 b p (⟨g, hN⟩ : Fin 8192)) := by
  have e : idx_main_v93 (ix2 b p) = ix3 b p (0 : Fin 1) := by
    funext a
    match a with
    | ⟨0, _⟩ => refine Fin.ext ?_; show (b.val * 512 + p.val) / 512 = b.val; omega
    | ⟨1, _⟩ => refine Fin.ext ?_; show (b.val * 512 + p.val) / 1 % 512 = p.val; omega
    | ⟨2, _⟩ => rfl
  rw [val_main_v93_apply, e, val_main_v92_apply]
  refine (select_one _ _ _ (head_mask x7 _)).trans ?_
  unfold val_main_call3_v13
  generalize val_main_v4 (F := Ideal) x0 x2 r0 = y
  refine (gather_last (by decide) gather_S6x512x8192_S6x512x1x1_S6x512x1_n_2_01_01_2_3_111_wf y (val_main_call3_v5 (F := Ideal) x7) b p).trans ?_
  have hK : (8191#32 : BitVec 32).toInt = 8191 := by decide
  have hc : (val_main_call3_v5 (F := Ideal) x7 (ix4 b p (0 : Fin 1) (0 : Fin 1)) : BitVec 32).toInt = g := by
    rw [head_column, (clip_spec 8191#32 (x7 (ix2 b p)) (by decide)).2.2 (by omega) (by omega)]
    exact hg
  refine congrArg (fun k : Fin 8192 => y (ix3 b p k)) (Fin.ext ?_)
  show min (val_main_call3_v5 (F := Ideal) x7 (ix4 b p (0 : Fin 1) (0 : Fin 1)) : BitVec 32).toInt.toNat (8192 - 1) = g
  rw [hc]
  omega

/-! ## The mid tier's column -/

theorem mid_clip (x7 : IVec S6x512 32) (i : S6x512.Idx) : (val_main_v96 (F := Ideal) x7 i : BitVec 32) = clip 24575#32 (x7 i - 8192#32) := by
  rw [val_main_v96_apply, val_main_call4_v4_apply, val_main_call4_v3_apply, val_main_c_14_apply, val_main_call4_v2_apply,
    val_main_call4_v1_apply, val_main_call4_v0_apply, val_main_c_13_apply, val_main_v95_apply, val_main_v94_apply, val_main_c_12_apply,]
  rfl

theorem mid_wrap (x7 : IVec S6x512 32) (j : S6x512x1.Idx) :
    (val_main_call5_v4 (F := Ideal) x7 j : BitVec 32) = val_main_v96 (F := Ideal) x7 (idx_main_v97 j) := by
  rw [val_main_call5_v4_apply, val_main_call5_v1_apply, val_main_call5_v0_apply, val_main_call5_c_apply, val_main_v97_apply, mid_clip]
  exact wrap_clip _ _ _ (by decide)

theorem mid_mask (x7 : IVec S6x512 32) (j : S6x512x1.Idx) : (val_main_call5_v12 (F := Ideal) x7 j : BitVec 1) = 1#1 := by
  unfold val_main_call5_v12
  refine Host.reduce_andi_one _ _ _ _ _ (val_main_call5_c_3_apply _) fun i => ?_
  rw [val_main_call5_v11_apply, val_main_call5_v7_apply, val_main_call5_v10_apply, val_main_call5_v6_apply, val_main_call5_c_2_apply, val_main_call5_v9_apply, val_main_call5_v8_apply,
    val_main_call5_c_1_apply, val_main_call5_v5_apply, mid_wrap, mid_clip]
  exact mask_clip _ _ (by decide)

theorem mid_column (x7 : IVec S6x512 32) (b : Fin 6) (p : Fin 512) :
    (val_main_call5_v5 (F := Ideal) x7 (ix4 b p (0 : Fin 1) (0 : Fin 1)) : BitVec 32) = clip 24575#32 (x7 (ix2 b p) - 8192#32) := by
  rw [val_main_call5_v5_apply, mid_wrap, mid_clip]
  have e : idx_main_v97 (idx_main_call5_v5 (ix4 b p (0 : Fin 1) (0 : Fin 1))) = ix2 b p := by
    funext a
    match a with
    | ⟨0, _⟩ => refine Fin.ext ?_; show (((b.val * 512 + p.val) * 1 + 0) * 1 + 0) / 512 = b.val; omega
    | ⟨1, _⟩ => refine Fin.ext ?_; show (((b.val * 512 + p.val) * 1 + 0) * 1 + 0) / 1 % 512 = p.val; omega
  rw [e]

/-- The logit the reference picks in the mid tier when the target lies there. -/
theorem mid_pick (x0 : Vec Ideal S6x512x2560 .bf16) (x3 : Vec Ideal S24576x2560 .i8) (x4 : Vec Ideal S24576 .f32) (x7 : IVec S6x512 32) (b : Fin 6) (p : Fin 512) (g : ℕ) (hg : (x7 (ix2 b p) - 8192#32).toInt = g) (hN : g < 24576) :
    (val_main_v99 (F := Ideal) x0 x3 x4 x7 (ix2 b p) : EReal) = val_main_v10 (F := Ideal) x0 x3 x4 (ix3 b p (⟨g, hN⟩ : Fin 24576)) := by
  have e : idx_main_v99 (ix2 b p) = ix3 b p (0 : Fin 1) := by
    funext a
    match a with
    | ⟨0, _⟩ => refine Fin.ext ?_; show (b.val * 512 + p.val) / 512 = b.val; omega
    | ⟨1, _⟩ => refine Fin.ext ?_; show (b.val * 512 + p.val) / 1 % 512 = p.val; omega
    | ⟨2, _⟩ => rfl
  rw [val_main_v99_apply, e, val_main_v98_apply]
  refine (select_one _ _ _ (mid_mask x7 _)).trans ?_
  unfold val_main_call5_v13
  generalize val_main_v10 (F := Ideal) x0 x3 x4 = y
  refine (gather_last (by decide) gather_S6x512x24576_S6x512x1x1_S6x512x1_n_2_01_01_2_3_111_wf y (val_main_call5_v5 (F := Ideal) x7) b p).trans ?_
  have hK : (24575#32 : BitVec 32).toInt = 24575 := by decide
  have hc : (val_main_call5_v5 (F := Ideal) x7 (ix4 b p (0 : Fin 1) (0 : Fin 1)) : BitVec 32).toInt = g := by
    rw [mid_column, (clip_spec 24575#32 (x7 (ix2 b p) - 8192#32) (by decide)).2.2 (by omega) (by omega)]
    exact hg
  refine congrArg (fun k : Fin 24576 => y (ix3 b p k)) (Fin.ext ?_)
  show min (val_main_call5_v5 (F := Ideal) x7 (ix4 b p (0 : Fin 1) (0 : Fin 1)) : BitVec 32).toInt.toNat (24576 - 1) = g
  rw [hc]
  omega

/-! ## The tail tier's column -/

theorem tail_clip (x7 : IVec S6x512 32) (i : S6x512.Idx) : (val_main_v102 (F := Ideal) x7 i : BitVec 32) = clip 69631#32 (x7 i - 32768#32) := by
  rw [val_main_v102_apply, val_main_call6_v4_apply, val_main_call6_v3_apply, val_main_c_17_apply, val_main_call6_v2_apply,
    val_main_call6_v1_apply, val_main_call6_v0_apply, val_main_c_16_apply, val_main_v101_apply, val_main_v100_apply, val_main_c_15_apply,]
  rfl

theorem tail_wrap (x7 : IVec S6x512 32) (j : S6x512x1.Idx) :
    (val_main_call7_v4 (F := Ideal) x7 j : BitVec 32) = val_main_v102 (F := Ideal) x7 (idx_main_v103 j) := by
  rw [val_main_call7_v4_apply, val_main_call7_v1_apply, val_main_call7_v0_apply, val_main_call7_c_apply, val_main_v103_apply, tail_clip]
  exact wrap_clip _ _ _ (by decide)

theorem tail_mask (x7 : IVec S6x512 32) (j : S6x512x1.Idx) : (val_main_call7_v12 (F := Ideal) x7 j : BitVec 1) = 1#1 := by
  unfold val_main_call7_v12
  refine Host.reduce_andi_one _ _ _ _ _ (val_main_call7_c_3_apply _) fun i => ?_
  rw [val_main_call7_v11_apply, val_main_call7_v7_apply, val_main_call7_v10_apply, val_main_call7_v6_apply, val_main_call7_c_2_apply, val_main_call7_v9_apply, val_main_call7_v8_apply,
    val_main_call7_c_1_apply, val_main_call7_v5_apply, tail_wrap, tail_clip]
  exact mask_clip _ _ (by decide)

theorem tail_column (x7 : IVec S6x512 32) (b : Fin 6) (p : Fin 512) :
    (val_main_call7_v5 (F := Ideal) x7 (ix4 b p (0 : Fin 1) (0 : Fin 1)) : BitVec 32) = clip 69631#32 (x7 (ix2 b p) - 32768#32) := by
  rw [val_main_call7_v5_apply, tail_wrap, tail_clip]
  have e : idx_main_v103 (idx_main_call7_v5 (ix4 b p (0 : Fin 1) (0 : Fin 1))) = ix2 b p := by
    funext a
    match a with
    | ⟨0, _⟩ => refine Fin.ext ?_; show (((b.val * 512 + p.val) * 1 + 0) * 1 + 0) / 512 = b.val; omega
    | ⟨1, _⟩ => refine Fin.ext ?_; show (((b.val * 512 + p.val) * 1 + 0) * 1 + 0) / 1 % 512 = p.val; omega
  rw [e]

/-- The logit the reference picks in the tail tier when the target lies there. -/
theorem tail_pick (x0 : Vec Ideal S6x512x2560 .bf16) (x5 : Vec Ideal S69632x1280 .i8) (x6 : Vec Ideal S69632x20 .bf16) (x7 : IVec S6x512 32) (b : Fin 6) (p : Fin 512) (g : ℕ) (hg : (x7 (ix2 b p) - 32768#32).toInt = g) (hN : g < 69632) :
    (val_main_v105 (F := Ideal) x0 x5 x6 x7 (ix2 b p) : EReal) = val_main_v42 (F := Ideal) x0 x5 x6 (ix3 b p (⟨g, hN⟩ : Fin 69632)) := by
  have e : idx_main_v105 (ix2 b p) = ix3 b p (0 : Fin 1) := by
    funext a
    match a with
    | ⟨0, _⟩ => refine Fin.ext ?_; show (b.val * 512 + p.val) / 512 = b.val; omega
    | ⟨1, _⟩ => refine Fin.ext ?_; show (b.val * 512 + p.val) / 1 % 512 = p.val; omega
    | ⟨2, _⟩ => rfl
  rw [val_main_v105_apply, e, val_main_v104_apply]
  refine (select_one _ _ _ (tail_mask x7 _)).trans ?_
  unfold val_main_call7_v13
  generalize val_main_v42 (F := Ideal) x0 x5 x6 = y
  refine (gather_last (by decide) gather_S6x512x69632_S6x512x1x1_S6x512x1_n_2_01_01_2_3_111_wf y (val_main_call7_v5 (F := Ideal) x7) b p).trans ?_
  have hK : (69631#32 : BitVec 32).toInt = 69631 := by decide
  have hc : (val_main_call7_v5 (F := Ideal) x7 (ix4 b p (0 : Fin 1) (0 : Fin 1)) : BitVec 32).toInt = g := by
    rw [tail_column, (clip_spec 69631#32 (x7 (ix2 b p) - 32768#32) (by decide)).2.2 (by omega) (by omega)]
    exact hg
  refine congrArg (fun k : Fin 69632 => y (ix3 b p k)) (Fin.ext ?_)
  show min (val_main_call7_v5 (F := Ideal) x7 (ix4 b p (0 : Fin 1) (0 : Fin 1)) : BitVec 32).toInt.toNat (69632 - 1) = g
  rw [hc]
  omega

/-! ## The three tiers together -/

/-- A target inside the vocabulary. -/
def InVocabulary (g : BitVec 32) : Prop := 0 ≤ g.toInt ∧ g.toInt < 102400

/-- The reference's target logit of row `r`, for a target inside the vocabulary: the sum of what the three tiers hold at the
    target's distance from the tier's first word, a tier without that column holding zero. -/
theorem ref_target (x0 : Vec Ideal S6x512x2560 .bf16) (x1 : Vec Ideal S8192x2560 .fp8e4m3) (x2 : Vec Ideal S8192 .f32)
    (x3 : Vec Ideal S24576x2560 .i8) (x4 : Vec Ideal S24576 .f32) (x5 : Vec Ideal S69632x1280 .i8) (x6 : Vec Ideal S69632x20 .bf16)
    (x7 : IVec S6x512 32) (r0 : Vec Ideal S8192x2560 .bf16) (h0 : ∀ i, (r0 i : EReal) = x1 i) (r : Fin 3072)
    (t : BitVec 32) (ht : x7 (ix2 (bat r) (pos r)) = t) (hv : InVocabulary t) :
    (val_main_v111 (F := Ideal) x0 x2 x3 x4 x5 x6 x7 r0 (ix2 (bat r) (pos r)) : EReal)
      = (if t.toNat < 8192 then headAt x0 x1 x2 r t.toNat else 0)
        + (if (t - 8192#32).toNat < 24576 then midAt x0 x3 x4 r (t - 8192#32).toNat else 0)
        + (if (t - 32768#32).toNat < 69632 then tailAt x0 x5 x6 r (t - 32768#32).toNat else 0) := by
  obtain ⟨g, hg, hl⟩ : ∃ g : ℕ, t.toNat = g ∧ g < 102400 := by
    refine ⟨t.toNat, rfl, ?_⟩
    have h1 := hv.1; have h2 := hv.2
    have h3 := t.isLt
    rw [BitVec.toInt_eq_toNat_cond] at h1 h2
    split at h1 <;> rename_i hh
    · rw [if_pos hh] at h2; omega
    · omega
  have hI : t.toInt = g := by
    rw [BitVec.toInt_eq_toNat_cond, if_pos (by omega)]; omega
  have hm : (t - 8192#32).toNat = (4294967296 - 8192 + g) % 4294967296 := by rw [BitVec.toNat_sub, hg]; rfl
  have hm2 : (t - 32768#32).toNat = (4294967296 - 32768 + g) % 4294967296 := by rw [BitVec.toNat_sub, hg]; rfl
  have k1 : (8192#32).toInt = 8192 := by decide
  have k2 : (32768#32).toInt = 32768 := by decide
  rw [val_main_v111_apply, val_main_v107_apply, val_main_v106_apply, val_main_c_18_apply, val_main_v110_apply, val_main_v109_apply,
    val_main_v108_apply, val_main_c_19_apply, ht]
  by_cases c1 : g < 8192
  · rw [if_pos (by omega : t.toNat < 8192), if_neg (by omega : ¬ (t - 8192#32).toNat < 24576),
      if_neg (by omega : ¬ (t - 32768#32).toNat < 69632), add_zero, add_zero]
    refine (select_one _ _ _ (lt_one _ _ (by omega))).trans ?_
    refine (head_pick x0 x2 r0 x7 (bat r) (pos r) g (by rw [ht]; exact hI) c1).trans ?_
    rw [hg]
    exact ref_head x0 x1 x2 r0 h0 r ⟨g, c1⟩
  · refine (select_zero _ _ _ (lt_zero _ _ (by omega))).trans ?_
    rw [if_neg (by omega : ¬ t.toNat < 8192), zero_add]
    by_cases c2 : g < 32768
    · have e : (t - 8192#32).toNat = g - 8192 := by omega
      rw [if_pos (by omega : (t - 8192#32).toNat < 24576), if_neg (by omega : ¬ (t - 32768#32).toNat < 69632), add_zero]
      refine (select_one _ _ _ (lt_one _ _ (by omega))).trans ?_
      refine (mid_pick x0 x3 x4 x7 (bat r) (pos r) (g - 8192) (by rw [ht, BitVec.toInt_eq_toNat_cond, if_pos (by omega)]; omega) (by omega)).trans ?_
      rw [e]
      exact ref_mid x0 x3 x4 r ⟨g - 8192, by omega⟩
    · have e : (t - 32768#32).toNat = g - 32768 := by omega
      rw [if_neg (by omega : ¬ (t - 8192#32).toNat < 24576), if_pos (by omega : (t - 32768#32).toNat < 69632), zero_add]
      refine (select_zero _ _ _ (lt_zero _ _ (by omega))).trans ?_
      refine (tail_pick x0 x5 x6 x7 (bat r) (pos r) (g - 32768) (by rw [ht, BitVec.toInt_eq_toNat_cond, if_pos (by omega)]; omega) (by omega)).trans ?_
      rw [e]
      exact ref_tail x0 x5 x6 r ⟨g - 32768, by omega⟩

end Cert.Hand

end
-- ==== Proof.RefWiden.lean ====
module

public import proofs.«01_k».proof.Proof.Gen.ReferenceIdeal.Run
public import Idealize.ShloMosaic.Lib.Pipeline.Value
public import Idealize.ShloMosaic.Lib.Pointwise

@[expose] public section

set_option maxRecDepth 16384

noncomputable section

namespace Cert.Hand

open Idealize.ShloMosaic Idealize.ShloMosaic.TcCoe Cert.ReferenceIdeal Cert.ReferenceIdeal.Gen

/-! # The reference's widening of the head weights changes no value -/

theorem ref_ld (x : Vec Ideal S8192x2560 .fp8e4m3) : View.ld x r0_0 = x := by
  have hz : (![0, 0] : Fin 2 → ℕ) = fun _ => 0 := by decide
  exact View.ld_unit_zero (S := S8192x2560) hz _ x

theorem ref_canon (p : Vec Ideal S8192x2560 .bf16) : View.canon (Val := Elt Ideal) (e := .bf16) [⟨r0_0, p⟩] = p := by
  have hz : (![0, 0] : Fin 2 → ℕ) = fun _ => 0 := by decide
  exact View.canon_unit_zero (S := S8192x2560) hz _ p

/-- The body leaves the numbers it read. -/
theorem widen_block (x : Vec Ideal S8192x2560 .fp8e4m3) (i : S8192x2560.Idx) : (out0_1 x i : EReal) = x i := by
  unfold out0_1
  rw [ref_canon, ref_ld]
  rfl

variable (m : (b : Loc nD τ sig) → Buf (Elt Ideal) b) (c : Dev nD)

/-- The weights' block is the whole array. -/
theorem widen_input (t : Fin cfg0.N) (i : S8192x2560.Idx) :
    ((iblk m c 0 t : Vec Ideal S8192x2560 .fp8e4m3) i : EReal) = (m ((c.tc : Thread nD τ).loc main_arg1) : Vec Ideal S8192x2560 .fp8e4m3) i := by
  have hx0 : win0_0.index t 0 = 0 := rfl
  have hx1 : win0_0.index t 1 = 0 := rfl
  unfold iblk
  rw [View.read_apply]
  show (V m c main_arg1 : Vec Ideal S8192x2560 .fp8e4m3) _ = _
  refine (congrFun (V_main_arg1 m c : (V m c main_arg1 : Vec Ideal S8192x2560 .fp8e4m3) = _) _).trans ?_
  refine congrArg (m ((c.tc : Thread nD τ).loc main_arg1) : Vec Ideal S8192x2560 .fp8e4m3) ?_
  funext a
  apply Fin.ext
  match a with
  | ⟨0, _⟩ => show win0_0.index t 0 * 8192 + 1 * (i 0).val = (i 0).val; rw [hx0]; omega
  | ⟨1, _⟩ => show win0_0.index t 1 * 2560 + 1 * (i 1).val = (i 1).val; rw [hx1]; omega

/-- What the widening leaves is the head weights. -/
theorem widen_value : (Value.reg_main_v0 m c : Vec Ideal S8192x2560 .bf16)
    = fun i => ((m ((c.tc : Thread nD τ).loc main_arg1) : Vec Ideal S8192x2560 .fp8e4m3) i : EReal) := by
  have hx0 : ∀ t : Fin cfg0.N, win0_1.index t 0 = 0 := fun t => rfl
  have hx1 : ∀ t : Fin cfg0.N, win0_1.index t 1 = 0 := fun t => rfl
  unfold Value.reg_main_v0
  refine (dats m 0 c).arrAt_eq_of_cover 1 _ (fun t _ => ?_) fun i => ?_
  · show (cfg0.win 1).cut (grid0.coords t) ((dats m 0 c).after 1 t) = _
    rw [after0_1]
    funext j
    have ei : (((View.whole main_v0).slice (win0_1.rect t)).emb j : S8192x2560.Idx) = j := by
      funext a
      apply Fin.ext
      match a with
      | ⟨0, _⟩ => show win0_1.index t 0 * 8192 + 1 * (j 0).val = (j 0).val; rw [hx0]; omega
      | ⟨1, _⟩ => show win0_1.index t 1 * 2560 + 1 * (j 1).val = (j 1).val; rw [hx1]; omega
    rw [View.read_apply]
    exact ((widen_block _ _).trans (widen_input m c t j)).trans
      (congrArg (fun i => ((m ((c.tc : Thread nD τ).loc main_arg1) : Vec Ideal S8192x2560 .fp8e4m3) i : EReal)) ei.symm)
  · have h0 : (i 0 : Nat) < 8192 := (i 0).isLt
    have h1 : (i 1 : Nat) < 2560 := (i 1).isLt
    refine ⟨t0_0, flush0_1 _, ?_⟩
    show i ∈ ((View.whole main_v0).slice (win0_1.rect t0_0)).set
    rw [View.set_slice_whole, Rect.mem_set_unit]
    intro a
    match a with
    | ⟨0, _⟩ =>
      show win0_1.index t0_0 0 * 8192 ≤ (i 0 : Nat) ∧ (i 0 : Nat) < win0_1.index t0_0 0 * 8192 + 8192
      rw [hx0]; omega
    | ⟨1, _⟩ =>
      show win0_1.index t0_0 1 * 2560 ≤ (i 1 : Nat) ∧ (i 1 : Nat) < win0_1.index t0_0 1 * 2560 + 2560
      rw [hx1]; omega

end Cert.Hand

end
-- ==== Proof.RefValue.lean ====
module

public import proofs.«01_k».proof.Proof.RefLse
public import proofs.«01_k».proof.Proof.RefTarget
public import proofs.«01_k».proof.Proof.RefWiden

@[expose] public section

set_option maxRecDepth 16384

noncomputable section

namespace Cert.Hand

open Idealize.ShloMosaic Idealize.ShloMosaic.TcCoe Cert.ReferenceIdeal Cert.ReferenceIdeal.Gen Cert.ReferenceIdeal.Read

/-! # The reference's five results as functions of the arguments -/

section
variable (x0 : Vec Ideal S6x512x2560 .bf16) (x1 : Vec Ideal S8192x2560 .fp8e4m3) (x2 : Vec Ideal S8192 .f32) (x3 : Vec Ideal S24576x2560 .i8) (x4 : Vec Ideal S24576 .f32) (x5 : Vec Ideal S69632x1280 .i8) (x6 : Vec Ideal S69632x20 .bf16) (x7 : IVec S6x512 32)

/-- The log-sum-exp over the whole vocabulary. -/
theorem value_113 (r0 : Vec Ideal S8192x2560 .bf16) (h0 : ∀ i, (r0 i : EReal) = x1 i) :
    (val_main_v113 (F := Ideal) x0 x2 x3 x4 x5 x6 r0 : S3072x1.Idx → EReal) = fun i : S3072x1.Idx => (lse3 (lse (Finset.range 8192) (headAt x0 x1 x2 (i 0))) (lse (Finset.range 24576) (midAt x0 x3 x4 (i 0))) (lse (Finset.range 69632) (tailAt x0 x5 x6 (i 0))) : EReal) := by
  funext i
  have e : idx_main_v113 i = ix2 (bat (i 0)) (pos (i 0)) := by
    have h0 : (i 0).val < 3072 := (i 0).isLt
    have h1 : (i 1).val < 1 := (i 1).isLt
    funext a
    match a with
    | ⟨0, _⟩ => refine Fin.ext ?_; show ((i 0).val * 1 + (i 1).val) / 512 = (i 0).val / 512; omega
    | ⟨1, _⟩ => refine Fin.ext ?_; show ((i 0).val * 1 + (i 1).val) % 512 = (i 0).val % 512; omega
  refine (val_main_v113_apply x0 x2 x3 x4 x5 x6 r0 i).trans ?_
  rw [e]
  exact ref_whole x0 x1 x2 x3 x4 x5 x6 r0 h0 (i 0)

/-- The target's logit less that. -/
theorem value_114 (r0 : Vec Ideal S8192x2560 .bf16) (h0 : ∀ i, (r0 i : EReal) = x1 i)
    (hv : ∀ r : Fin 3072, InVocabulary (x7 (ix2 (bat r) (pos r)))) :
    (val_main_v114 (F := Ideal) x0 x2 x3 x4 x5 x6 x7 r0 : S3072x1.Idx → EReal) = fun i : S3072x1.Idx => (((if (x7 (ix2 (bat (i 0)) (pos (i 0)))).toNat < 8192 then headAt x0 x1 x2 (i 0) (x7 (ix2 (bat (i 0)) (pos (i 0)))).toNat else 0)
        + (if (x7 (ix2 (bat (i 0)) (pos (i 0))) - 8192#32).toNat < 24576 then midAt x0 x3 x4 (i 0) (x7 (ix2 (bat (i 0)) (pos (i 0))) - 8192#32).toNat else 0)
        + (if (x7 (ix2 (bat (i 0)) (pos (i 0))) - 32768#32).toNat < 69632 then tailAt x0 x5 x6 (i 0) (x7 (ix2 (bat (i 0)) (pos (i 0))) - 32768#32).toNat else 0)) - lse3 (lse (Finset.range 8192) (headAt x0 x1 x2 (i 0))) (lse (Finset.range 24576) (midAt x0 x3 x4 (i 0))) (lse (Finset.range 69632) (tailAt x0 x5 x6 (i 0))) : EReal) := by
  funext i
  have e : idx_main_v114 i = ix2 (bat (i 0)) (pos (i 0)) := by
    have h0 : (i 0).val < 3072 := (i 0).isLt
    have h1 : (i 1).val < 1 := (i 1).isLt
    funext a
    match a with
    | ⟨0, _⟩ => refine Fin.ext ?_; show ((i 0).val * 1 + (i 1).val) / 512 = (i 0).val / 512; omega
    | ⟨1, _⟩ => refine Fin.ext ?_; show ((i 0).val * 1 + (i 1).val) % 512 = (i 0).val % 512; omega
  refine (val_main_v114_apply x0 x2 x3 x4 x5 x6 x7 r0 i).trans ?_
  rw [e, val_main_v112_apply]
  exact congrArg₂ (fun a b : EReal => a - b) (ref_target x0 x1 x2 x3 x4 x5 x6 x7 r0 h0 (i 0) _ rfl (hv _)) (ref_whole x0 x1 x2 x3 x4 x5 x6 r0 h0 (i 0))

/-- The head's log-sum-exp. -/
theorem value_115 (r0 : Vec Ideal S8192x2560 .bf16) (h0 : ∀ i, (r0 i : EReal) = x1 i) :
    (val_main_v115 (F := Ideal) x0 x2 r0 : S3072x1.Idx → EReal) = fun i : S3072x1.Idx => (lse (Finset.range 8192) (headAt x0 x1 x2 (i 0)) : EReal) := by
  funext i
  have e : idx_main_v115 i = ix2 (bat (i 0)) (pos (i 0)) := by
    have h0 : (i 0).val < 3072 := (i 0).isLt
    have h1 : (i 1).val < 1 := (i 1).isLt
    funext a
    match a with
    | ⟨0, _⟩ => refine Fin.ext ?_; show ((i 0).val * 1 + (i 1).val) / 512 = (i 0).val / 512; omega
    | ⟨1, _⟩ => refine Fin.ext ?_; show ((i 0).val * 1 + (i 1).val) % 512 = (i 0).val % 512; omega
  refine (val_main_v115_apply x0 x2 r0 i).trans ?_
  rw [e]
  exact ref_head_lse x0 x1 x2 r0 h0 (i 0)

/-- The middle tier's log-sum-exp. -/
theorem value_116 :
    (val_main_v116 (F := Ideal) x0 x3 x4 : S3072x1.Idx → EReal) = fun i : S3072x1.Idx => (lse (Finset.range 24576) (midAt x0 x3 x4 (i 0)) : EReal) := by
  funext i
  have e : idx_main_v116 i = ix2 (bat (i 0)) (pos (i 0)) := by
    have h0 : (i 0).val < 3072 := (i 0).isLt
    have h1 : (i 1).val < 1 := (i 1).isLt
    funext a
    match a with
    | ⟨0, _⟩ => refine Fin.ext ?_; show ((i 0).val * 1 + (i 1).val) / 512 = (i 0).val / 512; omega
    | ⟨1, _⟩ => refine Fin.ext ?_; show ((i 0).val * 1 + (i 1).val) % 512 = (i 0).val % 512; omega
  refine (val_main_v116_apply x0 x3 x4 i).trans ?_
  rw [e]
  exact ref_mid_lse x0 x3 x4 (i 0)

/-- The tail's log-sum-exp. -/
theorem value_117 :
    (val_main_v117 (F := Ideal) x0 x5 x6 : S3072x1.Idx → EReal) = fun i : S3072x1.Idx => (lse (Finset.range 69632) (tailAt x0 x5 x6 (i 0)) : EReal) := by
  funext i
  have e : idx_main_v117 i = ix2 (bat (i 0)) (pos (i 0)) := by
    have h0 : (i 0).val < 3072 := (i 0).isLt
    have h1 : (i 1).val < 1 := (i 1).isLt
    funext a
    match a with
    | ⟨0, _⟩ => refine Fin.ext ?_; show ((i 0).val * 1 + (i 1).val) / 512 = (i 0).val / 512; omega
    | ⟨1, _⟩ => refine Fin.ext ?_; show ((i 0).val * 1 + (i 1).val) % 512 = (i 0).val % 512; omega
  refine (val_main_v117_apply x0 x5 x6 i).trans ?_
  rw [e]
  exact ref_tail_lse x0 x5 x6 (i 0)

end

/-! ## The same of the reference's run -/

section
variable (m : (b : Loc nD τ sig) → Buf (Elt Ideal) b) (c : Dev nD)
variable (x0 : Vec Ideal S6x512x2560 .bf16) (x1 : Vec Ideal S8192x2560 .fp8e4m3) (x2 : Vec Ideal S8192 .f32) (x3 : Vec Ideal S24576x2560 .i8) (x4 : Vec Ideal S24576 .f32) (x5 : Vec Ideal S69632x1280 .i8) (x6 : Vec Ideal S69632x20 .bf16) (x7 : IVec S6x512 32)
variable (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) (h5 : m ((c.tc : Thread nD τ).loc main_arg5) = x5) (h6 : m ((c.tc : Thread nD τ).loc main_arg6) = x6) (h7 : m ((c.tc : Thread nD τ).loc main_arg7) = x7)

include h1 in
/-- The widened head weights are the head weights. -/
theorem widened (i : S8192x2560.Idx) :
    ((Value.exitV m c (Proc.devRef .tc main_v0) : Vec Ideal S8192x2560 .bf16) i : EReal) = x1 i :=
  (congrFun ((Value.exit_main_v0 m c).trans (widen_value m c)) i).trans (congrFun h1 i)

include h0 h1 h2 h3 h4 h5 h6 in
/-- The log-sum-exp over the whole vocabulary. -/
theorem final_113 :
    (val_main_v113 (F := Ideal) (Value.exitV m c (Proc.devRef .tc main_arg0)) (Value.exitV m c (Proc.devRef .tc main_arg2)) (Value.exitV m c (Proc.devRef .tc main_arg3)) (Value.exitV m c (Proc.devRef .tc main_arg4)) (Value.exitV m c (Proc.devRef .tc main_arg5)) (Value.exitV m c (Proc.devRef .tc main_arg6)) (Value.exitV m c (Proc.devRef .tc main_v0))
      : S3072x1.Idx → EReal) = fun i : S3072x1.Idx => (lse3 (lse (Finset.range 8192) (headAt x0 x1 x2 (i 0))) (lse (Finset.range 24576) (midAt x0 x3 x4 (i 0))) (lse (Finset.range 69632) (tailAt x0 x5 x6 (i 0))) : EReal) := by
  rw [(Value.exit_main_arg0 m c).trans h0, (Value.exit_main_arg2 m c).trans h2, (Value.exit_main_arg3 m c).trans h3, (Value.exit_main_arg4 m c).trans h4, (Value.exit_main_arg5 m c).trans h5, (Value.exit_main_arg6 m c).trans h6]
  exact value_113 x0 x1 x2 x3 x4 x5 x6 _ (widened m c x1 h1)

include h0 h1 h2 h3 h4 h5 h6 h7 in
/-- The target's logit less that. -/
theorem final_114
    (hv : ∀ r : Fin 3072, InVocabulary (x7 (ix2 (bat r) (pos r)))) :
    (val_main_v114 (F := Ideal) (Value.exitV m c (Proc.devRef .tc main_arg0)) (Value.exitV m c (Proc.devRef .tc main_arg2)) (Value.exitV m c (Proc.devRef .tc main_arg3)) (Value.exitV m c (Proc.devRef .tc main_arg4)) (Value.exitV m c (Proc.devRef .tc main_arg5)) (Value.exitV m c (Proc.devRef .tc main_arg6)) (Value.exitV m c (Proc.devRef .tc main_arg7)) (Value.exitV m c (Proc.devRef .tc main_v0))
      : S3072x1.Idx → EReal) = fun i : S3072x1.Idx => (((if (x7 (ix2 (bat (i 0)) (pos (i 0)))).toNat < 8192 then headAt x0 x1 x2 (i 0) (x7 (ix2 (bat (i 0)) (pos (i 0)))).toNat else 0)
        + (if (x7 (ix2 (bat (i 0)) (pos (i 0))) - 8192#32).toNat < 24576 then midAt x0 x3 x4 (i 0) (x7 (ix2 (bat (i 0)) (pos (i 0))) - 8192#32).toNat else 0)
        + (if (x7 (ix2 (bat (i 0)) (pos (i 0))) - 32768#32).toNat < 69632 then tailAt x0 x5 x6 (i 0) (x7 (ix2 (bat (i 0)) (pos (i 0))) - 32768#32).toNat else 0)) - lse3 (lse (Finset.range 8192) (headAt x0 x1 x2 (i 0))) (lse (Finset.range 24576) (midAt x0 x3 x4 (i 0))) (lse (Finset.range 69632) (tailAt x0 x5 x6 (i 0))) : EReal) := by
  rw [(Value.exit_main_arg0 m c).trans h0, (Value.exit_main_arg2 m c).trans h2, (Value.exit_main_arg3 m c).trans h3, (Value.exit_main_arg4 m c).trans h4, (Value.exit_main_arg5 m c).trans h5, (Value.exit_main_arg6 m c).trans h6, (Value.exit_main_arg7 m c).trans h7]
  exact value_114 x0 x1 x2 x3 x4 x5 x6 x7 _ (widened m c x1 h1) hv

include h0 h1 h2 in
/-- The head's log-sum-exp. -/
theorem final_115 :
    (val_main_v115 (F := Ideal) (Value.exitV m c (Proc.devRef .tc main_arg0)) (Value.exitV m c (Proc.devRef .tc main_arg2)) (Value.exitV m c (Proc.devRef .tc main_v0))
      : S3072x1.Idx → EReal) = fun i : S3072x1.Idx => (lse (Finset.range 8192) (headAt x0 x1 x2 (i 0)) : EReal) := by
  rw [(Value.exit_main_arg0 m c).trans h0, (Value.exit_main_arg2 m c).trans h2]
  exact value_115 x0 x1 x2 _ (widened m c x1 h1)

include h0 h3 h4 in
/-- The middle tier's log-sum-exp. -/
theorem final_116 :
    (val_main_v116 (F := Ideal) (Value.exitV m c (Proc.devRef .tc main_arg0)) (Value.exitV m c (Proc.devRef .tc main_arg3)) (Value.exitV m c (Proc.devRef .tc main_arg4))
      : S3072x1.Idx → EReal) = fun i : S3072x1.Idx => (lse (Finset.range 24576) (midAt x0 x3 x4 (i 0)) : EReal) := by
  rw [(Value.exit_main_arg0 m c).trans h0, (Value.exit_main_arg3 m c).trans h3, (Value.exit_main_arg4 m c).trans h4]
  exact value_116 x0 x3 x4

include h0 h5 h6 in
/-- The tail's log-sum-exp. -/
theorem final_117 :
    (val_main_v117 (F := Ideal) (Value.exitV m c (Proc.devRef .tc main_arg0)) (Value.exitV m c (Proc.devRef .tc main_arg5)) (Value.exitV m c (Proc.devRef .tc main_arg6))
      : S3072x1.Idx → EReal) = fun i : S3072x1.Idx => (lse (Finset.range 69632) (tailAt x0 x5 x6 (i 0)) : EReal) := by
  rw [(Value.exit_main_arg0 m c).trans h0, (Value.exit_main_arg5 m c).trans h5, (Value.exit_main_arg6 m c).trans h6]
  exact value_117 x0 x5 x6

end

end Cert.Hand

end
-- ==== Proof.lean ====
/-
  The proof of the whole claim: the three programs run to the end within their own memory, and at the extended reals
  the kernel and the reference leave the same five results for targets inside the vocabulary.
-/
module

public import proofs.«01_k».proof.Proof.Gen.ReferenceIdeal.Run
public import proofs.«01_k».proof.Proof.Gen.ReferenceIdeal.Read
public import proofs.«01_k».proof.Proof.Run
public import proofs.«01_k».proof.Proof.KernelValue
public import proofs.«01_k».proof.Proof.RefValue
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

/-- The side conditions of the precondition's operations. -/
theorem preFacts : Cert.Pre_targets_in_vocabulary.Facts where
  bcast_S_S6x512 := by decide
  reducesTo_S6x512_S_d0_1 := by decide
  h_S_ := by decide

/-- A target that passes the precondition's two comparisons lies inside the vocabulary. -/
theorem in_vocabulary_of (g : BitVec 32) (h : IntOp.andi (IntOp.cmpi .sge g 0#32) (IntOp.cmpi .slt g 102400#32) = 1#1) :
    Cert.Hand.InVocabulary g := by
  have h0 : (0#32).toInt = 0 := rfl
  have h1 : (102400#32).toInt = 102400 := by decide
  unfold IntOp.andi IntOp.cmpi at h
  simp only [BitVec.sle_eq_decide, BitVec.slt_eq_decide] at h
  unfold Cert.Hand.InVocabulary
  by_cases a : (0#32).toInt ≤ g.toInt
  · by_cases b : g.toInt < (102400#32).toInt
    · exact ⟨by omega, by omega⟩
    · rw [decide_eq_true a, decide_eq_false b] at h; exact absurd h (by decide)
  · rw [decide_eq_false a] at h
    by_cases b : g.toInt < (102400#32).toInt
    · rw [decide_eq_true b] at h; exact absurd h (by decide)
    · rw [decide_eq_false b] at h; exact absurd h (by decide)

/-- The precondition puts every row's target inside the vocabulary. -/
theorem in_vocabulary (m : (ℓ : Loc Cert.KernelIdeal.nD Cert.KernelIdeal.τ Cert.KernelIdeal.sig) → Buf (Elt Ideal) ℓ)
    (hp : Cert.Pre_KernelIdeal_targets_in_vocabulary (hPre_targets_in_vocabulary := preFacts) m) (c : Dev Cert.KernelIdeal.nD) (r : Fin 3072) :
    Cert.Hand.InVocabulary ((m ((c.tc : Thread Cert.KernelIdeal.nD Cert.KernelIdeal.τ).loc Cert.KernelIdeal.main_arg7) : IVec Cert.KernelIdeal.S6x512 32)
      (ix2 (Cert.Hand.bat r) (Cert.Hand.pos r))) := by
  have e := congrFun (hp c) (fun a => a.elim0)
  haveI : Subsingleton Cert.Pre_targets_in_vocabulary.S_.Idx := ⟨fun a b => funext fun k => k.elim0⟩
  exact in_vocabulary_of _ (Host.reduce_andi_all _ _ _ _ _ e (ix2 (Cert.Hand.bat r) (Cert.Hand.pos r)))

/-- At the extended reals the kernel and the reference leave the same five results, for targets inside the vocabulary. -/
theorem equal : Cert.algebraic_KernelIdeal_ReferenceIdeal_pre_targets_in_vocabulary (hPre_targets_in_vocabulary := preFacts) := by
  intro m g m' g' hp h
  refine ⟨fun c i => Cert.Hand.wholeLse m c (i 0), fun c i => Cert.Hand.targetLogit m c (i 0) - Cert.Hand.wholeLse m c (i 0),
    fun c i => Cert.Hand.headLse m c (i 0), fun c i => Cert.Hand.midLse m c (i 0), fun c i => Cert.Hand.tailLse m c (i 0), ?_, ?_⟩
  · refine (θ_run _ _ _).mono (fun r hr c => ?_) (Cert.Hand.kernel_run m g)
    obtain ⟨e0, e1, e2, e3, e4, hargs⟩ := hr c
    exact ⟨e0.trans (Cert.Hand.result_0 m g c), e1.trans (Cert.Hand.result_1 m g c), e2.trans (Cert.Hand.result_2 m g c),
      e3.trans (Cert.Hand.result_3 m g c), e4.trans (Cert.Hand.result_4 m g c), hargs⟩
  · refine (θ_run _ _ _).mono (fun r hr c => ?_) (Cert.ReferenceIdeal.Value.run m' g')
    obtain ⟨e0, e1, e2, e3, e4, hargs⟩ := hr c
    exact ⟨
      (e0.trans (Cert.ReferenceIdeal.Read.val_main_v113_eq (Cert.ReferenceIdeal.Value.exitV m' c))).trans
        (Cert.Hand.final_113 m' c _ _ _ _ _ _ _ (h c).1 (h c).2.1 (h c).2.2.1 (h c).2.2.2.1 (h c).2.2.2.2.1 (h c).2.2.2.2.2.1 (h c).2.2.2.2.2.2.1),
      (e1.trans (Cert.ReferenceIdeal.Read.val_main_v114_eq (Cert.ReferenceIdeal.Value.exitV m' c))).trans
        (Cert.Hand.final_114 m' c _ _ _ _ _ _ _ _ (h c).1 (h c).2.1 (h c).2.2.1 (h c).2.2.2.1 (h c).2.2.2.2.1 (h c).2.2.2.2.2.1 (h c).2.2.2.2.2.2.1 (h c).2.2.2.2.2.2.2 (in_vocabulary m hp c)),
      (e2.trans (Cert.ReferenceIdeal.Read.val_main_v115_eq (Cert.ReferenceIdeal.Value.exitV m' c))).trans
        (Cert.Hand.final_115 m' c _ _ _ (h c).1 (h c).2.1 (h c).2.2.1),
      (e3.trans (Cert.ReferenceIdeal.Read.val_main_v116_eq (Cert.ReferenceIdeal.Value.exitV m' c))).trans
        (Cert.Hand.final_116 m' c _ _ _ (h c).1 (h c).2.2.2.1 (h c).2.2.2.2.1),
      (e4.trans (Cert.ReferenceIdeal.Read.val_main_v117_eq (Cert.ReferenceIdeal.Value.exitV m' c))).trans
        (Cert.Hand.final_117 m' c _ _ _ (h c).1 (h c).2.2.2.2.2.1 (h c).2.2.2.2.2.2.1),
      hargs⟩

theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, equal⟩

end Cert.Proof

end
